-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_bounds_finite [hPre_bounds_finite : Cert.Pre_bounds_finite.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_bounds_finite.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_bounds_finite [hPre_bounds_finite : Cert.Pre_bounds_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_bounds_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_Experts [hPre_expert_numbers : Cert.Pre_expert_numbers.Facts] (m : (ℓ : Loc Cert.Experts.nD Cert.Experts.τ Cert.Experts.sig) → Buf (Elt Bits) ℓ) : Prop :=
  ∀ c : Dev Cert.Experts.nD,
    (Cert.Pre_expert_numbers.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_expert_numbers : Cert.Pre_expert_numbers.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_numbers.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_numbers [hPre_expert_numbers : Cert.Pre_expert_numbers.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_numbers.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Combine [hPre_slots_inside : Cert.Pre_slots_inside.Facts] (m : (ℓ : Loc Cert.Combine.nD Cert.Combine.τ Cert.Combine.sig) → Buf (Elt Bits) ℓ) : Prop :=
  ∀ c : Dev Cert.Combine.nD,
    (Cert.Pre_slots_inside.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))) = (fun _ => 1#1)

def Pre_CombineIdeal [hPre_slots_inside : Cert.Pre_slots_inside.Facts] (m : (ℓ : Loc Cert.CombineIdeal.nD Cert.CombineIdeal.τ Cert.CombineIdeal.sig) → Buf (Elt Ideal) ℓ) : Prop :=
  ∀ c : Dev Cert.CombineIdeal.nD,
    (Cert.Pre_slots_inside.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_slots_inside [hPre_slots_inside : Cert.Pre_slots_inside.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_slots_inside.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_bounds_finite [hHgrnIdeal : Cert.HgrnIdeal.Facts] [hPre_bounds_finite : Cert.Pre_bounds_finite.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_bounds_finite m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_bounds_finite [hHgrnRefIdeal : Cert.HgrnRefIdeal.Facts] [hPre_bounds_finite : Cert.Pre_bounds_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_bounds_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_Experts [hExperts : Cert.Experts.Facts] [hPre_expert_numbers : Cert.Pre_expert_numbers.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_expert_numbers : Cert.Pre_expert_numbers.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_expert_numbers [hExpertsRefIdeal : Cert.ExpertsRefIdeal.Facts] [hPre_expert_numbers : Cert.Pre_expert_numbers.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_numbers m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Combine [hCombine : Cert.Combine.Facts] [hPre_slots_inside : Cert.Pre_slots_inside.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_slots_inside : Cert.Pre_slots_inside.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_CombineRefIdeal_pre_slots_inside [hCombineRefIdeal : Cert.CombineRefIdeal.Facts] [hPre_slots_inside : Cert.Pre_slots_inside.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_slots_inside m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def preserves_Hgrn_HgrnIdeal : Prop :=
  True

def algebraic_HgrnIdeal_HgrnRefIdeal_pre_bounds_finite [hHgrnIdeal : Cert.HgrnIdeal.Facts] [hHgrnRefIdeal : Cert.HgrnRefIdeal.Facts] [hPre_bounds_finite : Cert.Pre_bounds_finite.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_bounds_finite m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v19_0)) (v1 : (c : Dev Cert.HgrnIdeal.nD) → Buf (Elt Ideal) ((c.tc : Thread Cert.HgrnIdeal.nD Cert.HgrnIdeal.τ).loc Cert.HgrnIdeal.main_v19_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v19_0) = v0 c
          ∧ r.2.mem ((c.tc : Thread Cert.HgrnIdeal.nD Cert.HgrnIdeal.τ).loc Cert.HgrnIdeal.main_v19_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v96) = v0 c
          ∧ r.2.mem ((c.tc : Thread Cert.HgrnRefIdeal.nD Cert.HgrnRefIdeal.τ).loc Cert.HgrnRefIdeal.main_v77) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v6)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v6) = v0 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v17) = v0 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_Experts_ExpertsIdeal : Prop :=
  True

def algebraic_ExpertsIdeal_ExpertsRefIdeal_on_rows_used [hExpertsIdeal : Cert.ExpertsIdeal.Facts] [hExpertsRefIdeal : Cert.ExpertsRefIdeal.Facts] [hPre_expert_numbers : Cert.Pre_expert_numbers.Facts] [hOn_rows_used : Cert.On_rows_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![101184, 2048]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v6) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![101184, 2048]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsRefIdeal.nD Cert.ExpertsRefIdeal.τ).loc Cert.ExpertsRefIdeal.main_v58) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v21) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Combine_CombineIdeal : Prop :=
  True

def algebraic_CombineIdeal_CombineRefIdeal [hCombineIdeal : Cert.CombineIdeal.Facts] [hCombineRefIdeal : Cert.CombineRefIdeal.Facts] [hPre_slots_inside : Cert.Pre_slots_inside.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v26) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def Claim : Prop :=
  ∃ (hHgrn : Cert.Hgrn.Facts) (hHgrnIdeal : Cert.HgrnIdeal.Facts) (hHgrnRefIdeal : Cert.HgrnRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hExperts : Cert.Experts.Facts) (hExpertsIdeal : Cert.ExpertsIdeal.Facts) (hExpertsRefIdeal : Cert.ExpertsRefIdeal.Facts) (hOutProj : Cert.OutProj.Facts) (hOutProjIdeal : Cert.OutProjIdeal.Facts) (hOutProjRefIdeal : Cert.OutProjRefIdeal.Facts) (hCombine : Cert.Combine.Facts) (hCombineIdeal : Cert.CombineIdeal.Facts) (hCombineRefIdeal : Cert.CombineRefIdeal.Facts) (hPre_bounds_finite : Cert.Pre_bounds_finite.Facts) (hPre_expert_numbers : Cert.Pre_expert_numbers.Facts) (hPre_slots_inside : Cert.Pre_slots_inside.Facts) (hOn_rows_used : Cert.On_rows_used.Facts),
    quiescent_Hgrn (hHgrn := hHgrn)
    ∧ quiescent_HgrnIdeal (hHgrnIdeal := hHgrnIdeal)
    ∧ quiescent_HgrnIdeal_pre_bounds_finite (hHgrnIdeal := hHgrnIdeal) (hPre_bounds_finite := hPre_bounds_finite)
    ∧ quiescent_HgrnRefIdeal (hHgrnRefIdeal := hHgrnRefIdeal)
    ∧ quiescent_HgrnRefIdeal_pre_bounds_finite (hHgrnRefIdeal := hHgrnRefIdeal) (hPre_bounds_finite := hPre_bounds_finite)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_Experts (hExperts := hExperts) (hPre_expert_numbers := hPre_expert_numbers)
    ∧ quiescent_ExpertsIdeal (hExpertsIdeal := hExpertsIdeal) (hPre_expert_numbers := hPre_expert_numbers)
    ∧ quiescent_ExpertsRefIdeal (hExpertsRefIdeal := hExpertsRefIdeal)
    ∧ quiescent_ExpertsRefIdeal_pre_expert_numbers (hExpertsRefIdeal := hExpertsRefIdeal) (hPre_expert_numbers := hPre_expert_numbers)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Combine (hCombine := hCombine) (hPre_slots_inside := hPre_slots_inside)
    ∧ quiescent_CombineIdeal (hCombineIdeal := hCombineIdeal) (hPre_slots_inside := hPre_slots_inside)
    ∧ quiescent_CombineRefIdeal (hCombineRefIdeal := hCombineRefIdeal)
    ∧ quiescent_CombineRefIdeal_pre_slots_inside (hCombineRefIdeal := hCombineRefIdeal) (hPre_slots_inside := hPre_slots_inside)
    ∧ preserves_Hgrn_HgrnIdeal
    ∧ algebraic_HgrnIdeal_HgrnRefIdeal_pre_bounds_finite (hHgrnIdeal := hHgrnIdeal) (hHgrnRefIdeal := hHgrnRefIdeal) (hPre_bounds_finite := hPre_bounds_finite)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_Experts_ExpertsIdeal
    ∧ algebraic_ExpertsIdeal_ExpertsRefIdeal_on_rows_used (hExpertsIdeal := hExpertsIdeal) (hExpertsRefIdeal := hExpertsRefIdeal) (hPre_expert_numbers := hPre_expert_numbers) (hOn_rows_used := hOn_rows_used)
    ∧ preserves_OutProj_OutProjIdeal
    ∧ algebraic_OutProjIdeal_OutProjRefIdeal (hOutProjIdeal := hOutProjIdeal) (hOutProjRefIdeal := hOutProjRefIdeal)
    ∧ preserves_Combine_CombineIdeal
    ∧ algebraic_CombineIdeal_CombineRefIdeal (hCombineIdeal := hCombineIdeal) (hCombineRefIdeal := hCombineRefIdeal) (hPre_slots_inside := hPre_slots_inside)
-- ==== On_rows_used.lean ====
abbrev S93 : Shape := ⟨1, ![93]⟩
abbrev S101184x2048 : Shape := ⟨2, ![101184, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S93x1088x2048 : Shape := ⟨3, ![93, 1088, 2048]⟩
abbrev S93x1x1 : Shape := ⟨3, ![93, 1, 1]⟩

class Facts : Prop where
  bcast_S93_S93x1x1_0 : S93.BroadcastsInDim S93x1x1 (![0] : Fin 1 → Fin S93x1x1.rank)
  bcast_S93x1x1_S93x1088x2048_0_1_2 : S93x1x1.BroadcastsInDim S93x1088x2048 (![0, 1, 2] : Fin 3 → Fin S93x1088x2048.rank)
  shapeCasts_S93x1088x2048_S101184x2048 : S93x1088x2048.ShapeCasts S101184x2048

variable [Facts]

def fn {F : FTy → Type} [FloatOps F] (main_arg0 : IVec S93 32) (main_arg1 : IVec S93 32) (main_arg2 : FVec F S101184x2048 .f32) (main_arg3 : FVec F S1x32x2048x4096 .f32) (main_arg4 : FVec F S1x32x4096 .f32) (main_arg5 : FVec F S1x32x2048x2048 .f32) (main_arg6 : FVec F S1x32x2048 .f32) : IVec S101184x2048 1 :=
  let main_v0 : IVec S93x1088x2048 32 := iotaInDim S93x1088x2048 32 1
  let main_v1 : IVec S93x1x1 32 := broadcastInDim S93x1x1 ![0] bcast_S93_S93x1x1_0 main_arg1
  let main_v2 : IVec S93x1088x2048 32 := broadcastInDim S93x1088x2048 ![0, 1, 2] bcast_S93x1x1_S93x1088x2048_0_1_2 main_v1
  let main_v3 : IVec S93x1088x2048 1 := cmpi .slt main_v0 main_v2
  let main_v4 : IVec S101184x2048 1 := shapeCast S101184x2048 main_v3 shapeCasts_S93x1088x2048_S101184x2048
  main_v4
-- ==== Pre_bounds_finite.lean ====
abbrev S32x7168 : Shape := ⟨2, ![32, 7168]⟩
abbrev S2x1024 : Shape := ⟨2, ![2, 1024]⟩
abbrev S1x128 : Shape := ⟨2, ![1, 128]⟩
abbrev S1x32x8x128x128 : Shape := ⟨5, ![1, 32, 8, 128, 128]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S32x7168 .f32) (main_arg1 : FVec F S2x1024 .f32) (main_arg2 : FVec F S1x128 .f32) (main_arg3 : FVec F S1x32x8x128x128 .f32) : IVec S_ 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  main_v3
-- ==== Pre_expert_numbers.lean ====
abbrev S93 : Shape := ⟨1, ![93]⟩
abbrev S101184x2048 : Shape := ⟨2, ![101184, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S93 : S_.BroadcastsInDim S93 (![] : Fin 0 → Fin S93.rank)
  reducesTo_S93_S_d0 : S93.ReducesTo [0] S_
  h_S_ : 0 < S_.numel

variable [Facts]

def fn {F : FTy → Type} [FloatOps F] (main_arg0 : IVec S93 32) (main_arg1 : IVec S93 32) (main_arg2 : FVec F S101184x2048 .f32) (main_arg3 : FVec F S1x32x2048x4096 .f32) (main_arg4 : FVec F S1x32x4096 .f32) (main_arg5 : FVec F S1x32x2048x2048 .f32) (main_arg6 : FVec F S1x32x2048 .f32) : IVec S_ 1 :=
  let main_c : IVec S_ 32 := constantI S_ 32 0#32
  let main_v0 : IVec S93 32 := broadcastInDim S93 ![] bcast_S_S93 main_c
  let main_v1 : IVec S93 1 := cmpi .sge main_arg0 main_v0
  let main_c_0 : IVec S_ 32 := constantI S_ 32 32#32
  let main_v2 : IVec S93 32 := broadcastInDim S93 ![] bcast_S_S93 main_c_0
  let main_v3 : IVec S93 1 := cmpi .slt main_arg0 main_v2
  let main_v4 : IVec S93 1 := andi main_v1 main_v3
  let main_c_1 : IVec S_ 1 := constantI S_ 1 1#1
  let main_v5 : IVec S_ 1 := (fun x v => Host.reduce IntOp.andi x v reducesTo_S93_S_d0 h_S_) main_v4 main_c_1
  main_v5
-- ==== Pre_slots_inside.lean ====
abbrev S65536 : Shape := ⟨1, ![65536]⟩
abbrev S16384x2048 : Shape := ⟨2, ![16384, 2048]⟩
abbrev S16384x128 : Shape := ⟨2, ![16384, 128]⟩
abbrev S2048 : Shape := ⟨1, ![2048]⟩
abbrev S101184x2048 : Shape := ⟨2, ![101184, 2048]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : IVec S65536 32) (main_arg1 : FVec F S16384x2048 .f32) (main_arg2 : FVec F S16384x128 .f32) (main_arg3 : FVec F S2048 .f32) (main_arg4 : FVec F S101184x2048 .f32) : IVec S_ 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 101184#32
  let main_v2 : IVec S65536 32 := broadcastInDim S65536 ![] bcast_S_S65536 main_c_0
  let main_v3 : IVec S65536 1 := cmpi .slt main_arg0 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Hgrn.lean ====
abbrev S32x7168 : Shape := ⟨2, ![32, 7168]⟩
abbrev S2x1024 : Shape := ⟨2, ![2, 1024]⟩
abbrev S1x128 : Shape := ⟨2, ![1, 128]⟩
abbrev S1x32x8x128x128 : Shape := ⟨5, ![1, 32, 8, 128, 128]⟩
abbrev S_ : Shape := ⟨0, ![]⟩
abbrev S1024 : Shape := ⟨1, ![1024]⟩
abbrev S1x1024 : Shape := ⟨2, ![1, 1024]⟩
abbrev S128 : Shape := ⟨1, ![128]⟩
abbrev S32x8x128x128 : Shape := ⟨4, ![32, 8, 128, 128]⟩
abbrev S32x1x7168 : Shape := ⟨3, ![32, 1, 7168]⟩
abbrev S32x1x1024 : Shape := ⟨3, ![32, 1, 1024]⟩
abbrev S1x1x4096 : Shape := ⟨3, ![1, 1, 4096]⟩
abbrev S1x8x128x128 : Shape := ⟨4, ![1, 8, 128, 128]⟩
abbrev S1x1x1024 : Shape := ⟨3, ![1, 1, 1024]⟩
abbrev S128x128 : Shape := ⟨2, ![128, 128]⟩
abbrev S1x1x128 : Shape := ⟨3, ![1, 1, 128]⟩
abbrev S1x1x128x128 : Shape := ⟨4, ![1, 1, 128, 128]⟩
abbrev S8x128 : Shape := ⟨2, ![8, 128]⟩
abbrev S1 : Shape := ⟨1, ![1]⟩
abbrev S1x1 : Shape := ⟨2, ![1, 1]⟩
abbrev S128x1 : Shape := ⟨2, ![128, 1]⟩

abbrev nBuf : Space → Nat
  | .hbm => 30
  | .vmem => 10
  | .smem => 0
  | _ => 0

abbrev bufTy : (tb : Table) → Fin (tcTables nBuf tb) → BufTy
  | .hbm, ⟨0, _⟩ => ⟨S32x7168, .f32⟩
  | .hbm, ⟨1, _⟩ => ⟨S2x1024, .f32⟩
  | .hbm, ⟨2, _⟩ => ⟨S1x128, .f32⟩
  | .hbm, ⟨3, _⟩ => ⟨S1x32x8x128x128, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S1024, .f32⟩
  | .hbm, ⟨23, _⟩ => ⟨S128, .f32⟩
  | .hbm, ⟨24, _⟩ => ⟨S32x8x128x128, .f32⟩
  | .hbm, ⟨25, _⟩ => ⟨S32x1x7168, .f32⟩
  | .hbm, ⟨26, _⟩ => ⟨S1x1024, .f32⟩
  | .hbm, ⟨27, _⟩ => ⟨S1x128, .f32⟩
  | .hbm, ⟨28, _⟩ => ⟨S32x1x1024, .f32⟩
  | .hbm, ⟨29, _⟩ => ⟨S32x8x128x128, .f32⟩
  | .local _ .vmem, ⟨0, _⟩ => ⟨S1x1x4096, .f32⟩
  | .local _ .vmem, ⟨1, _⟩ => ⟨S1x1x4096, .f32⟩
  | .local _ .vmem, ⟨2, _⟩ => ⟨S1x1024, .f32⟩
  | .local _ .vmem, ⟨3, _⟩ => ⟨S1x128, .f32⟩
  | .local _ .vmem, ⟨4, _⟩ => ⟨S1x8x128x128, .f32⟩
  | .local _ .vmem, ⟨5, _⟩ => ⟨S1x8x128x128, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128x128, .f32⟩
  | .local _ .vmem, ⟨9, _⟩ => ⟨S1x8x128x128, .f32⟩
  | _, _ => ⟨S32x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HgrnRefIdeal.lean ====
abbrev S32x7168 : Shape := ⟨2, ![32, 7168]⟩
abbrev S2x1024 : Shape := ⟨2, ![2, 1024]⟩
abbrev S1x128 : Shape := ⟨2, ![1, 128]⟩
abbrev S1x32x8x128x128 : Shape := ⟨5, ![1, 32, 8, 128, 128]⟩
abbrev S_ : Shape := ⟨0, ![]⟩
abbrev S1024 : Shape := ⟨1, ![1024]⟩
abbrev S1x1024 : Shape := ⟨2, ![1, 1024]⟩
abbrev S32x1024 : Shape := ⟨2, ![32, 1024]⟩
abbrev S32x1x1024 : Shape := ⟨3, ![32, 1, 1024]⟩
abbrev S32x1x8x128 : Shape := ⟨4, ![32, 1, 8, 128]⟩
abbrev S1x1x1024 : Shape := ⟨3, ![1, 1, 1024]⟩
abbrev S32x8x1x128 : Shape := ⟨4, ![32, 8, 1, 128]⟩
abbrev S32x8x128x128 : Shape := ⟨4, ![32, 8, 128, 128]⟩
abbrev S32x8x1x1x128 : Shape := ⟨5, ![32, 8, 1, 1, 128]⟩
abbrev S1x1 : Shape := ⟨2, ![1, 1]⟩
abbrev S1x1x1 : Shape := ⟨3, ![1, 1, 1]⟩
abbrev S32x8x1x1 : Shape := ⟨4, ![32, 8, 1, 1]⟩
abbrev S32x8x128 : Shape := ⟨3, ![32, 8, 128]⟩
abbrev S32x8x128x1 : Shape := ⟨4, ![32, 8, 128, 1]⟩
abbrev S128 : Shape := ⟨1, ![128]⟩
abbrev S32x1x8 : Shape := ⟨3, ![32, 1, 8]⟩
abbrev S32x1x8x1 : Shape := ⟨4, ![32, 1, 8, 1]⟩
abbrev S1x1x1x128 : Shape := ⟨4, ![1, 1, 1, 128]⟩

abbrev nBuf : Space → Nat
  | .hbm => 145
  | .vmem => 0
  | .smem => 0
  | _ => 0

abbrev hbmTy0_0 (i : Nat) : BufTy := match i % 128 with
  | 0 => ⟨S32x7168, .f32⟩
  | 1 => ⟨S2x1024, .f32⟩
  | 2 => ⟨S1x128, .f32⟩
  | 3 => ⟨S1x32x8x128x128, .f32⟩
  | 4 => ⟨S_, .f32⟩
  | 5 => ⟨S1024, .f32⟩
  | 6 => ⟨S_, .f32⟩
  | 7 => ⟨S1024, .f32⟩
  | 8 => ⟨S1024, .f32⟩
  | 9 => ⟨S1x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S2x1024, .f32⟩
  | 17 => ⟨S2x1024, .f32⟩
  | 18 => ⟨S_, .f32⟩
  | 19 => ⟨S_, .f32⟩
  | 20 => ⟨S2x1024, .f32⟩
  | 21 => ⟨S1x1024, .f32⟩
  | 22 => ⟨S1024, .f32⟩
  | 23 => ⟨S32x1024, .f32⟩
  | 24 => ⟨S32x1x1024, .f32⟩
  | 25 => ⟨S32x1024, .f32⟩
  | 26 => ⟨S32x1x1024, .f32⟩
  | 27 => ⟨S32x1024, .f32⟩
  | 28 => ⟨S32x1x1024, .f32⟩
  | 29 => ⟨S32x1024, .f32⟩
  | 30 => ⟨S32x1x1024, .f32⟩
  | 31 => ⟨S32x1x1024, .f32⟩
  | 32 => ⟨S32x1x1024, .f32⟩
  | 33 => ⟨S_, .f32⟩
  | 34 => ⟨S32x1x1024, .f32⟩
  | 35 => ⟨S32x1x1024, .f32⟩
  | 36 => ⟨S_, .f32⟩
  | 37 => ⟨S32x1x1024, .f32⟩
  | 38 => ⟨S32x1x1024, .f32⟩
  | 39 => ⟨S32x1x1024, .f32⟩
  | 40 => ⟨S32x1x8x128, .f32⟩
  | 41 => ⟨S_, .f32⟩
  | 42 => ⟨S1024, .f32⟩
  | 43 => ⟨S1024, .f32⟩
  | 44 => ⟨S32x1x1024, .f32⟩
  | 45 => ⟨S32x1x1024, .f32⟩
  | 46 => ⟨S_, .f32⟩
  | 47 => ⟨S32x1x1024, .f32⟩
  | 48 => ⟨S32x1x1024, .f32⟩
  | 49 => ⟨S_, .f32⟩
  | 50 => ⟨S32x1x1024, .f32⟩
  | 51 => ⟨S32x1x1024, .f32⟩
  | 52 => ⟨S1x1x1024, .f32⟩
  | 53 => ⟨S32x1x1024, .f32⟩
  | 54 => ⟨S32x1x1024, .f32⟩
  | 55 => ⟨S1x1x1024, .f32⟩
  | 56 => ⟨S32x1x1024, .f32⟩
  | 57 => ⟨S32x1x1024, .f32⟩
  | 58 => ⟨S32x1x8x128, .f32⟩
  | 59 => ⟨S_, .f32⟩
  | 60 => ⟨S32x1x8x128, .f32⟩
  | 61 => ⟨S32x1x8x128, .f32⟩
  | 62 => ⟨S32x1x8x128, .f32⟩
  | 63 => ⟨S32x1x8x128, .f32⟩
  | 64 => ⟨S32x8x1x128, .f32⟩
  | 65 => ⟨S32x8x1x128, .f32⟩
  | 66 => ⟨S32x8x1x128, .f32⟩
  | 67 => ⟨S32x8x1x128, .f32⟩
  | 68 => ⟨S32x8x128x128, .f32⟩
  | 69 => ⟨S_, .f32⟩
  | 70 => ⟨S_, .f32⟩
  | 71 => ⟨S32x8x1x128, .f32⟩
  | 72 => ⟨S32x8x1x1x128, .f32⟩
  | 73 => ⟨S32x8x1x1x128, .f32⟩
  | 74 => ⟨S32x8x1x1x128, .f32⟩
  | 75 => ⟨S_, .i1⟩
  | 76 => ⟨S1x1, .i1⟩
  | 77 => ⟨S1x1, .i32⟩
  | 78 => ⟨S_, .i32⟩
  | 79 => ⟨S1x1, .i32⟩
  | 80 => ⟨S1x1, .i32⟩
  | 81 => ⟨S1x1, .i32⟩
  | 82 => ⟨S1x1, .i1⟩
  | 83 => ⟨S_, .i1⟩
  | 84 => ⟨S1x1, .i1⟩
  | 85 => ⟨S1x1, .i1⟩
  | 86 => ⟨S1x1x1, .i1⟩
  | 87 => ⟨S_, .f32⟩
  | 88 => ⟨S_, .f32⟩
  | 89 => ⟨S32x8x1x1x128, .i1⟩
  | 90 => ⟨S32x8x1x1x128, .f32⟩
  | 91 => ⟨S32x8x1x1x128, .f32⟩
  | 92 => ⟨S32x8x1x1x128, .f32⟩
  | 93 => ⟨S32x8x1x1x128, .f32⟩
  | 94 => ⟨S32x8x1x1x128, .f32⟩
  | 95 => ⟨S32x8x1x1x128, .f32⟩
  | 96 => ⟨S32x8x1x1x128, .f32⟩
  | 97 => ⟨S_, .f32⟩
  | 98 => ⟨S32x8x1x1, .f32⟩
  | 99 => ⟨S32x8x1x128, .f32⟩
  | 100 => ⟨S32x8x1x128, .f32⟩
  | 101 => ⟨S32x8x1x128, .f32⟩
  | 102 => ⟨S32x8x1x128, .f32⟩
  | 103 => ⟨S32x8x1x128, .f32⟩
  | 104 => ⟨S32x8x128, .f32⟩
  | 105 => ⟨S32x8x128, .f32⟩
  | 106 => ⟨S32x8x128x1, .f32⟩
  | 107 => ⟨S32x8x128x128, .f32⟩
  | 108 => ⟨S32x8x128x128, .f32⟩
  | 109 => ⟨S32x8x1x128, .f32⟩
  | 110 => ⟨S32x8x1x128, .f32⟩
  | 111 => ⟨S32x8x1x128, .f32⟩
  | 112 => ⟨S32x8x1x128, .f32⟩
  | 113 => ⟨S32x8x128x128, .f32⟩
  | 114 => ⟨S32x8x128x128, .f32⟩
  | 115 => ⟨S32x1x8x128, .f32⟩
  | 116 => ⟨S128, .f32⟩
  | 117 => ⟨S32x1x8x128, .f32⟩
  | 118 => ⟨S_, .f32⟩
  | 119 => ⟨S32x1x8, .f32⟩
  | 120 => ⟨S32x1x8x1, .f32⟩
  | 121 => ⟨S_, .f32⟩
  | 122 => ⟨S32x1x8x1, .f32⟩
  | 123 => ⟨S32x1x8x1, .f32⟩
  | 124 => ⟨S_, .f32⟩
  | 125 => ⟨S32x1x8x1, .f32⟩
  | 126 => ⟨S32x1x8x1, .f32⟩
  | 127 => ⟨S32x1x8x1, .f32⟩
  | _ => ⟨S32x7168, .f32⟩

abbrev hbmTy0_1 (i : Nat) : BufTy := match i % 128 with
  | 0 => ⟨S32x1x8x128, .f32⟩
  | 1 => ⟨S32x1x8x128, .f32⟩
  | 2 => ⟨S1x1x1x128, .f32⟩
  | 3 => ⟨S32x1x8x128, .f32⟩
  | 4 => ⟨S32x1x8x128, .f32⟩
  | 5 => ⟨S32x1x1024, .f32⟩
  | 6 => ⟨S32x1x1024, .f32⟩
  | 7 => ⟨S_, .f32⟩
  | 8 => ⟨S32x1x1024, .f32⟩
  | 9 => ⟨S32x1x1024, .f32⟩
  | 10 => ⟨S_, .f32⟩
  | 11 => ⟨S32x1x1024, .f32⟩
  | 12 => ⟨S32x1x1024, .f32⟩
  | 13 => ⟨S32x1x1024, .f32⟩
  | 14 => ⟨S32x1x8x128, .f32⟩
  | 15 => ⟨S32x1x8x128, .f32⟩
  | 16 => ⟨S32x1x1024, .f32⟩
  | _ => ⟨S32x7168, .f32⟩

abbrev hbmTy (i : Nat) : BufTy := match i / 128 with
  | 0 => hbmTy0_0 i
  | 1 => hbmTy0_1 i
  | _ => ⟨S32x7168, .f32⟩

abbrev bufTy : (tb : Table) → Fin (tcTables nBuf tb) → BufTy
  | .hbm, ⟨i, _⟩ => hbmTy i
  | _, _ => ⟨S32x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_call0_cst : Ref sig .tc := ⟨.hbm, 69, rfl⟩
abbrev main_call2_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_0 : Ref sig .tc := ⟨.hbm, 83, rfl⟩
abbrev main_call3_v5 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_7 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_8 : Ref sig .tc := ⟨.hbm, 118, rfl⟩
abbrev main_v81 : Ref sig .tc := ⟨.hbm, 119, rfl⟩
abbrev main_v82 : Ref sig .tc := ⟨.hbm, 120, rfl⟩
abbrev main_cst_9 : Ref sig .tc := ⟨.hbm, 121, rfl⟩
abbrev main_v83 : Ref sig .tc := ⟨.hbm, 122, rfl⟩
abbrev main_v84 : Ref sig .tc := ⟨.hbm, 123, rfl⟩
abbrev main_cst_10 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩

abbrev nD : Nat := 1
abbrev τ : Topo := Topo.v7x

variable {F : FTy → Type} [FloatOps F]
-- ==== InProj.lean ====
abbrev S8x2048x2048 : Shape := ⟨3, ![8, 2048, 2048]⟩
abbrev S1x2048 : Shape := ⟨2, ![1, 2048]⟩
abbrev S1x2048x6704 : Shape := ⟨3, ![1, 2048, 6704]⟩
abbrev S2048x6704 : Shape := ⟨2, ![2048, 6704]⟩
abbrev S_ : Shape := ⟨0, ![]⟩
abbrev S2048x7168 : Shape := ⟨2, ![2048, 7168]⟩
abbrev S16384x2048 : Shape := ⟨2, ![16384, 2048]⟩
abbrev S2048 : Shape := ⟨1, ![2048]⟩
abbrev S16384x7168 : Shape := ⟨2, ![16384, 7168]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x6704, .f32⟩
  | .hbm, ⟨3, _⟩ => ⟨S2048x6704, .f32⟩
  | .hbm, ⟨4, _⟩ => ⟨S_, .i32⟩
  | .hbm, ⟨5, _⟩ => ⟨S_, .f32⟩
  | .hbm, ⟨6, _⟩ => ⟨S2048x7168, .f32⟩
  | .hbm, ⟨7, _⟩ => ⟨S2048x7168, .bf16⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S8x2048x2048 : Shape := ⟨3, ![8, 2048, 2048]⟩
abbrev S1x2048 : Shape := ⟨2, ![1, 2048]⟩
abbrev S1x2048x6704 : Shape := ⟨3, ![1, 2048, 6704]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6704 : Shape := ⟨2, ![2048, 6704]⟩
abbrev S8x2048x6704 : Shape := ⟨3, ![8, 2048, 6704]⟩
abbrev S16384x6704 : Shape := ⟨2, ![16384, 6704]⟩
abbrev S16384x7168 : Shape := ⟨2, ![16384, 7168]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x6704, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x6704, .f32⟩
  | .hbm, ⟨21, _⟩ => ⟨S8x2048x6704, .f32⟩
  | .hbm, ⟨22, _⟩ => ⟨S16384x6704, .f32⟩
  | .hbm, ⟨23, _⟩ => ⟨S_, .i32⟩
  | .hbm, ⟨24, _⟩ => ⟨S_, .f32⟩
  | .hbm, ⟨25, _⟩ => ⟨S16384x7168, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== InProjS.lean ====
abbrev S32x1x2048 : Shape := ⟨3, ![32, 1, 2048]⟩
abbrev S1x2048 : Shape := ⟨2, ![1, 2048]⟩
abbrev S1x2048x6704 : Shape := ⟨3, ![1, 2048, 6704]⟩
abbrev S2048x6704 : Shape := ⟨2, ![2048, 6704]⟩
abbrev S_ : Shape := ⟨0, ![]⟩
abbrev S2048x7168 : Shape := ⟨2, ![2048, 7168]⟩
abbrev S32x2048 : Shape := ⟨2, ![32, 2048]⟩
abbrev S2048 : Shape := ⟨1, ![2048]⟩
abbrev S32x7168 : Shape := ⟨2, ![32, 7168]⟩
abbrev S2048x1792 : Shape := ⟨2, ![2048, 1792]⟩
abbrev S32x1792 : Shape := ⟨2, ![32, 1792]⟩
abbrev S32 : Shape := ⟨1, ![32]⟩
abbrev S32x1 : Shape := ⟨2, ![32, 1]⟩

abbrev nBuf : Space → Nat
  | .hbm => 12
  | .vmem => 7
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6704, .f32⟩
  | .hbm, ⟨3, _⟩ => ⟨S2048x6704, .f32⟩
  | .hbm, ⟨4, _⟩ => ⟨S_, .i32⟩
  | .hbm, ⟨5, _⟩ => ⟨S_, .f32⟩
  | .hbm, ⟨6, _⟩ => ⟨S2048x7168, .f32⟩
  | .hbm, ⟨7, _⟩ => ⟨S2048x7168, .bf16⟩
  | .hbm, ⟨8, _⟩ => ⟨S32x2048, .f32⟩
  | .hbm, ⟨9, _⟩ => ⟨S2048, .f32⟩
  | .hbm, ⟨10, _⟩ => ⟨S1x2048, .f32⟩
  | .hbm, ⟨11, _⟩ => ⟨S32x7168, .f32⟩
  | .local _ .vmem, ⟨0, _⟩ => ⟨S32x2048, .f32⟩
  | .local _ .vmem, ⟨1, _⟩ => ⟨S1x2048, .f32⟩
  | .local _ .vmem, ⟨2, _⟩ => ⟨S2048x1792, .bf16⟩
  | .local _ .vmem, ⟨3, _⟩ => ⟨S2048x1792, .bf16⟩
  | .local _ .vmem, ⟨4, _⟩ => ⟨S32x1792, .f32⟩
  | .local _ .vmem, ⟨5, _⟩ => ⟨S32x1792, .f32⟩
  | .local _ .vmem, ⟨6, _⟩ => ⟨S32x2048, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjSRefIdeal.lean ====
abbrev S32x1x2048 : Shape := ⟨3, ![32, 1, 2048]⟩
abbrev S1x2048 : Shape := ⟨2, ![1, 2048]⟩
abbrev S1x2048x6704 : Shape := ⟨3, ![1, 2048, 6704]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x2048 : Shape := ⟨3, ![1, 1, 2048]⟩
abbrev S2048x6704 : Shape := ⟨2, ![2048, 6704]⟩
abbrev S32x1x6704 : Shape := ⟨3, ![32, 1, 6704]⟩
abbrev S32x6704 : Shape := ⟨2, ![32, 6704]⟩
abbrev S32x7168 : Shape := ⟨2, ![32, 7168]⟩

abbrev nBuf : Space → Nat
  | .hbm => 26
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x6704, .f32⟩
  | .hbm, ⟨3, _⟩ => ⟨S2048, .f32⟩
  | .hbm, ⟨4, _⟩ => ⟨S32x1x2048, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x2048, .f32⟩
  | .hbm, ⟨16, _⟩ => ⟨S32x1x2048, .f32⟩
  | .hbm, ⟨17, _⟩ => ⟨S1x1x2048, .f32⟩
  | .hbm, ⟨18, _⟩ => ⟨S32x1x2048, .f32⟩
  | .hbm, ⟨19, _⟩ => ⟨S32x1x2048, .f32⟩
  | .hbm, ⟨20, _⟩ => ⟨S2048x6704, .f32⟩
  | .hbm, ⟨21, _⟩ => ⟨S32x1x6704, .f32⟩
  | .hbm, ⟨22, _⟩ => ⟨S32x6704, .f32⟩
  | .hbm, ⟨23, _⟩ => ⟨S_, .i32⟩
  | .hbm, ⟨24, _⟩ => ⟨S_, .f32⟩
  | .hbm, ⟨25, _⟩ => ⟨S32x7168, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Experts.lean ====
abbrev S93 : Shape := ⟨1, ![93]⟩
abbrev S101184x2048 : Shape := ⟨2, ![101184, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S1088x2048 : Shape := ⟨2, ![1088, 2048]⟩
abbrev S1x2048x256 : Shape := ⟨3, ![1, 2048, 256]⟩
abbrev S1 : Shape := ⟨1, ![1]⟩
abbrev S1x1x256 : Shape := ⟨3, ![1, 1, 256]⟩
abbrev S1x256x2048 : Shape := ⟨3, ![1, 256, 2048]⟩
abbrev S1x1x2048 : Shape := ⟨3, ![1, 1, 2048]⟩
abbrev S1x2048 : Shape := ⟨2, ![1, 2048]⟩
abbrev S2048x256 : Shape := ⟨2, ![2048, 256]⟩
abbrev S256x2048 : Shape := ⟨2, ![256, 2048]⟩
abbrev S544x2048 : Shape := ⟨2, ![544, 2048]⟩
abbrev S544x256 : Shape := ⟨2, ![544, 256]⟩
abbrev S1x256 : Shape := ⟨2, ![1, 256]⟩

abbrev nBuf : Space → Nat
  | .hbm => 12
  | .vmem => 16
  | .smem => 2
  | _ => 0

abbrev bufTy : (tb : Table) → Fin (tcTables nBuf tb) → BufTy
  | .hbm, ⟨0, _⟩ => ⟨S101184x2048, .f32⟩
  | .hbm, ⟨1, _⟩ => ⟨S1x32x2048x4096, .f32⟩
  | .hbm, ⟨2, _⟩ => ⟨S1x32x4096, .f32⟩
  | .hbm, ⟨3, _⟩ => ⟨S1x32x2048x2048, .f32⟩
  | .hbm, ⟨4, _⟩ => ⟨S1x32x2048, .f32⟩
  | .hbm, ⟨5, _⟩ => ⟨S32x2048x4096, .f32⟩
  | .hbm, ⟨6, _⟩ => ⟨S32x4096, .f32⟩
  | .hbm, ⟨7, _⟩ => ⟨S32x2048x2048, .f32⟩
  | .hbm, ⟨8, _⟩ => ⟨S32x2048, .f32⟩
  | .hbm, ⟨9, _⟩ => ⟨S32x1x4096, .f32⟩
  | .hbm, ⟨10, _⟩ => ⟨S32x1x2048, .f32⟩
  | .hbm, ⟨11, _⟩ => ⟨S101184x2048, .f32⟩
  | .local _ .vmem, ⟨0, _⟩ => ⟨S1088x2048, .f32⟩
  | .local _ .vmem, ⟨1, _⟩ => ⟨S1088x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S1088x2048, .f32⟩
  | .local _ .vmem, ⟨15, _⟩ => ⟨S1088x2048, .f32⟩
  | .local _ .smem, ⟨0, _⟩ => ⟨S93, .i32⟩
  | .local _ .smem, ⟨1, _⟩ => ⟨S93, .i32⟩
  | _, _ => ⟨S101184x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![93, 8], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let v6 : BitVec 32 := Scalar.extui v5
  let c0_i32_2 : BitVec 32 := 0#32
  let v7 : BitVec 1 := Scalar.cmpi .ne v6 c0_i32_2
  v7

def k0_cond3 (v1 : BitVec 32) : BitVec 1 :=
  let c0_i32_11 : BitVec 32 := 0#32
  let v17 : BitVec 1 := Scalar.cmpi .sgt v1 c0_i32_11
  let v18 : BitVec 32 := Scalar.extui v17
  let c0_i32_12 : BitVec 32 := 0#32
  let v19 : BitVec 1 := Scalar.cmpi .ne v18 c0_i32_12
  v19

def k0_cond4 (v1 : BitVec 32) : BitVec 1 :=
  let c544_i32 : BitVec 32 := 544#32
  let v20 : BitVec 1 := Scalar.cmpi .sgt v1 c544_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let v2 : Index := Scalar.indexCast arg0
  let v3 : BitVec 32 := pf.at 1 (Rect.unit (s := S93) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let v2 : Index := Scalar.indexCast arg0
  let v3 : BitVec 32 := pf.at 1 (Rect.unit (s := S93) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let v2 : Index := Scalar.indexCast arg0
  let v3 : BitVec 32 := pf.at 1 (Rect.unit (s := S93) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let v2 : Index := Scalar.indexCast arg0
  let v3 : BitVec 32 := pf.at 1 (Rect.unit (s := S93) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_5 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let v2 : Index := Scalar.indexCast arg0
  let v3 : BitVec 32 := pf.at 1 (Rect.unit (s := S93) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, v5.toNat, c0_i32_0.toNat]

def cc0_transform_6 (k0_off1_inb : ∀ i : grid0.Coords, ∀ a, (k0_off1 i) a + S1.size a ≤ S93.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S93) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S93 : Shape := ⟨1, ![93]⟩
abbrev S101184x2048 : Shape := ⟨2, ![101184, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S93x1088x2048 : Shape := ⟨3, ![93, 1088, 2048]⟩
abbrev S_ : Shape := ⟨0, ![]⟩
abbrev S93x1 : Shape := ⟨2, ![93, 1]⟩
abbrev S93x2048x4096 : Shape := ⟨3, ![93, 2048, 4096]⟩
abbrev S93x1088x4096 : Shape := ⟨3, ![93, 1088, 4096]⟩
abbrev S93x4096 : Shape := ⟨2, ![93, 4096]⟩
abbrev S93x1x4096 : Shape := ⟨3, ![93, 1, 4096]⟩
abbrev S93x2048x2048 : Shape := ⟨3, ![93, 2048, 2048]⟩
abbrev S93x2048 : Shape := ⟨2, ![93, 2048]⟩
abbrev S93x1x2048 : Shape := ⟨3, ![93, 1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S93, .i32⟩
  | .hbm, ⟨1, _⟩ => ⟨S93, .i32⟩
  | .hbm, ⟨2, _⟩ => ⟨S101184x2048, .f32⟩
  | .hbm, ⟨3, _⟩ => ⟨S1x32x2048x4096, .f32⟩
  | .hbm, ⟨4, _⟩ => ⟨S1x32x4096, .f32⟩
  | .hbm, ⟨5, _⟩ => ⟨S1x32x2048x2048, .f32⟩
  | .hbm, ⟨6, _⟩ => ⟨S1x32x2048, .f32⟩
  | .hbm, ⟨7, _⟩ => ⟨S32x2048x4096, .f32⟩
  | .hbm, ⟨8, _⟩ => ⟨S32x4096, .f32⟩
  | .hbm, ⟨9, _⟩ => ⟨S32x2048x2048, .f32⟩
  | .hbm, ⟨10, _⟩ => ⟨S32x2048, .f32⟩
  | .hbm, ⟨11, _⟩ => ⟨S93x1088x2048, .f32⟩
  | .hbm, ⟨12, _⟩ => ⟨S_, .i32⟩
  | .hbm, ⟨13, _⟩ => ⟨S93, .i32⟩
  | .hbm, ⟨14, _⟩ => ⟨S93, .i1⟩
  | .hbm, ⟨15, _⟩ => ⟨S_, .i32⟩
  | .hbm, ⟨16, _⟩ => ⟨S93, .i32⟩
  | .hbm, ⟨17, _⟩ => ⟨S93, .i32⟩
  | .hbm, ⟨18, _⟩ => ⟨S93, .i32⟩
  | .hbm, ⟨19, _⟩ => ⟨S93x1, .i32⟩
  | .hbm, ⟨20, _⟩ => ⟨S93x2048x4096, .f32⟩
  | .hbm, ⟨21, _⟩ => ⟨S93x1088x4096, .f32⟩
  | .hbm, ⟨22, _⟩ => ⟨S_, .i32⟩
  | .hbm, ⟨23, _⟩ => ⟨S93, .i32⟩
  | .hbm, ⟨24, _⟩ => ⟨S93, .i1⟩
  | .hbm, ⟨25, _⟩ => ⟨S_, .i32⟩
  | .hbm, ⟨26, _⟩ => ⟨S93, .i32⟩
  | .hbm, ⟨27, _⟩ => ⟨S93, .i32⟩
  | .hbm, ⟨28, _⟩ => ⟨S93, .i32⟩
  | .hbm, ⟨29, _⟩ => ⟨S93x1, .i32⟩
  | .hbm, ⟨30, _⟩ => ⟨S93x4096, .f32⟩
  | .hbm, ⟨31, _⟩ => ⟨S93x1x4096, .f32⟩
  | .hbm, ⟨32, _⟩ => ⟨S93x1088x4096, .f32⟩
  | .hbm, ⟨33, _⟩ => ⟨S93x1088x4096, .f32⟩
  | .hbm, ⟨34, _⟩ => ⟨S93x1088x2048, .f32⟩
  | .hbm, ⟨35, _⟩ => ⟨S_, .f32⟩
  | .hbm, ⟨36, _⟩ => ⟨S93x1088x2048, .f32⟩
  | .hbm, ⟨37, _⟩ => ⟨S93x1088x2048, .f32⟩
  | .hbm, ⟨38, _⟩ => ⟨S93x1088x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S93x1088x2048, .f32⟩
  | .hbm, ⟨43, _⟩ => ⟨S93x1088x2048, .f32⟩
  | .hbm, ⟨44, _⟩ => ⟨S_, .f32⟩
  | .hbm, ⟨45, _⟩ => ⟨S93x1088x2048, .f32⟩
  | .hbm, ⟨46, _⟩ => ⟨S93x1088x2048, .f32⟩
  | .hbm, ⟨47, _⟩ => ⟨S_, .f32⟩
  | .hbm, ⟨48, _⟩ => ⟨S93x1088x2048, .f32⟩
  | .hbm, ⟨49, _⟩ => ⟨S93x1088x2048, .f32⟩
  | .hbm, ⟨50, _⟩ => ⟨S93x1088x2048, .f32⟩
  | .hbm, ⟨51, _⟩ => ⟨S_, .f32⟩
  | .hbm, ⟨52, _⟩ => ⟨S93x1088x2048, .f32⟩
  | .hbm, ⟨53, _⟩ => ⟨S93x1088x2048, .f32⟩
  | .hbm, ⟨54, _⟩ => ⟨S93x1088x2048, .f32⟩
  | .hbm, ⟨55, _⟩ => ⟨S93x1088x2048, .f32⟩
  | .hbm, ⟨56, _⟩ => ⟨S_, .f32⟩
  | .hbm, ⟨57, _⟩ => ⟨S93x1088x2048, .f32⟩
  | .hbm, ⟨58, _⟩ => ⟨S93x1088x2048, .f32⟩
  | .hbm, ⟨59, _⟩ => ⟨S_, .f32⟩
  | .hbm, ⟨60, _⟩ => ⟨S93x1088x2048, .f32⟩
  | .hbm, ⟨61, _⟩ => ⟨S93x1088x2048, .f32⟩
  | .hbm, ⟨62, _⟩ => ⟨S93x1088x2048, .f32⟩
  | .hbm, ⟨63, _⟩ => ⟨S_, .i32⟩
  | .hbm, ⟨64, _⟩ => ⟨S93, .i32⟩
  | .hbm, ⟨65, _⟩ => ⟨S93, .i1⟩
  | .hbm, ⟨66, _⟩ => ⟨S_, .i32⟩
  | .hbm, ⟨67, _⟩ => ⟨S93, .i32⟩
  | .hbm, ⟨68, _⟩ => ⟨S93, .i32⟩
  | .hbm, ⟨69, _⟩ => ⟨S93, .i32⟩
  | .hbm, ⟨70, _⟩ => ⟨S93x1, .i32⟩
  | .hbm, ⟨71, _⟩ => ⟨S93x2048x2048, .f32⟩
  | .hbm, ⟨72, _⟩ => ⟨S93x1088x2048, .f32⟩
  | .hbm, ⟨73, _⟩ => ⟨S_, .i32⟩
  | .hbm, ⟨74, _⟩ => ⟨S93, .i32⟩
  | .hbm, ⟨75, _⟩ => ⟨S93, .i1⟩
  | .hbm, ⟨76, _⟩ => ⟨S_, .i32⟩
  | .hbm, ⟨77, _⟩ => ⟨S93, .i32⟩
  | .hbm, ⟨78, _⟩ => ⟨S93, .i32⟩
  | .hbm, ⟨79, _⟩ => ⟨S93, .i32⟩
  | .hbm, ⟨80, _⟩ => ⟨S93x1, .i32⟩
  | .hbm, ⟨81, _⟩ => ⟨S93x2048, .f32⟩
  | .hbm, ⟨82, _⟩ => ⟨S93x1x2048, .f32⟩
  | .hbm, ⟨83, _⟩ => ⟨S93x1088x2048, .f32⟩
  | .hbm, ⟨84, _⟩ => ⟨S93x1088x2048, .f32⟩
  | .hbm, ⟨85, _⟩ => ⟨S101184x2048, .f32⟩
  | _, _ => ⟨S93, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== OutProj.lean ====
abbrev S8x2048x2048 : Shape := ⟨3, ![8, 2048, 2048]⟩
abbrev S16384x1024 : Shape := ⟨2, ![16384, 1024]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S2048x2048 : Shape := ⟨2, ![2048, 2048]⟩
abbrev S2048x32 : Shape := ⟨2, ![2048, 32]⟩
abbrev S_ : Shape := ⟨0, ![]⟩
abbrev S2048x128 : Shape := ⟨2, ![2048, 128]⟩
abbrev S32 : Shape := ⟨1, ![32]⟩
abbrev S128 : Shape := ⟨1, ![128]⟩
abbrev S1x128 : Shape := ⟨2, ![1, 128]⟩
abbrev S16384x2048 : Shape := ⟨2, ![16384, 2048]⟩
abbrev S2048 : Shape := ⟨1, ![2048]⟩
abbrev S16384x128 : Shape := ⟨2, ![16384, 128]⟩
abbrev S256x2048 : Shape := ⟨2, ![256, 2048]⟩
abbrev S256x1024 : Shape := ⟨2, ![256, 1024]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩

abbrev nBuf : Space → Nat
  | .hbm => 25
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .f32⟩
  | .hbm, ⟨2, _⟩ => ⟨S16384x1024, .f32⟩
  | .hbm, ⟨3, _⟩ => ⟨S1x2048x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S2048x2048, .f32⟩
  | .hbm, ⟨8, _⟩ => ⟨S2048x2048, .bf16⟩
  | .hbm, ⟨9, _⟩ => ⟨S2048x32, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S16384x2048, .f32⟩
  | .hbm, ⟨20, _⟩ => ⟨S2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x2048, .bf16⟩
  | .local _ .vmem, ⟨7, _⟩ => ⟨S1x2048, .f32⟩
  | .local _ .vmem, ⟨8, _⟩ => ⟨S2048x128, .bf16⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x128, .f32⟩
  | .local _ .vmem, ⟨15, _⟩ => ⟨S256x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S8x2048x2048 : Shape := ⟨3, ![8, 2048, 2048]⟩
abbrev S16384x1024 : Shape := ⟨2, ![16384, 1024]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S8x2048x1024 : Shape := ⟨3, ![8, 2048, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S16384x1024, .f32⟩
  | .hbm, ⟨2, _⟩ => ⟨S16384x1024, .f32⟩
  | .hbm, ⟨3, _⟩ => ⟨S1x2048x2048, .f32⟩
  | .hbm, ⟨4, _⟩ => ⟨S1x2048, .f32⟩
  | .hbm, ⟨5, _⟩ => ⟨S1x2048x32, .f32⟩
  | .hbm, ⟨6, _⟩ => ⟨S1x32, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | .hbm, ⟨14, _⟩ => ⟨S2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Combine.lean ====
abbrev S65536 : Shape := ⟨1, ![65536]⟩
abbrev S16384x2048 : Shape := ⟨2, ![16384, 2048]⟩
abbrev S16384x128 : Shape := ⟨2, ![16384, 128]⟩
abbrev S2048 : Shape := ⟨1, ![2048]⟩
abbrev S101184x2048 : Shape := ⟨2, ![101184, 2048]⟩
abbrev S1x2048 : Shape := ⟨2, ![1, 2048]⟩
abbrev S512 : Shape := ⟨1, ![512]⟩
abbrev S128x2048 : Shape := ⟨2, ![128, 2048]⟩
abbrev S128x128 : Shape := ⟨2, ![128, 128]⟩
abbrev S4x128x2048 : Shape := ⟨3, ![4, 128, 2048]⟩
abbrev S_ : Shape := ⟨0, ![]⟩
abbrev S1 : Shape := ⟨1, ![1]⟩
abbrev S1x1x2048 : Shape := ⟨3, ![1, 1, 2048]⟩
abbrev S128x1 : Shape := ⟨2, ![128, 1]⟩
abbrev S1x128x2048 : Shape := ⟨3, ![1, 128, 2048]⟩
abbrev S128 : Shape := ⟨1, ![128]⟩

abbrev nBuf : Space → Nat
  | .hbm => 7
  | .vmem => 8
  | .smem => 2
  | _ => 0

abbrev bufTy : (tb : Table) → Fin (tcTables nBuf tb) → BufTy
  | .hbm, ⟨0, _⟩ => ⟨S65536, .i32⟩
  | .hbm, ⟨1, _⟩ => ⟨S16384x2048, .f32⟩
  | .hbm, ⟨2, _⟩ => ⟨S16384x128, .f32⟩
  | .hbm, ⟨3, _⟩ => ⟨S2048, .f32⟩
  | .hbm, ⟨4, _⟩ => ⟨S101184x2048, .f32⟩
  | .hbm, ⟨5, _⟩ => ⟨S1x2048, .f32⟩
  | .hbm, ⟨6, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x128, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S4x128x2048, .f32⟩
  | .local _ .smem, ⟨0, _⟩ => ⟨S512, .i32⟩
  | .local _ .smem, ⟨1, _⟩ => ⟨S512, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32 : BitVec 32 := 4#32
  let v43 : BitVec 32 := Scalar.muli arg9 c4_i32
  let c0_i32_23 : BitVec 32 := 0#32
  let v44 : BitVec 32 := Scalar.addi v43 c0_i32_23
  let v45 : Index := Scalar.indexCast v44
  ![v45.toNat]
def k0_off2 (k0_t1 : Fin k0_t1_loop.trips) : Fin 3 → Nat :=
  let c0_i32_24 : BitVec 32 := 0#32
  let c0_i32 : BitVec 32 := 0#32
  let c1_i32 : BitVec 32 := 1#32
  let arg9 : BitVec 32 := Scf.iv c0_i32 c1_i32 k0_t1
  let c0_i32_25 : BitVec 32 := 0#32
  ![0, arg9.toNat, 0]
def k0_off3 (v46 : BitVec 32) : Fin 2 → Nat :=
  let c0_i32_26 : BitVec 32 := 0#32
  ![v46.toNat, 0]

def k0_chk1 (v46 : BitVec 32) : Prop :=
  (∀ a, (k0_off3 v46) a + S1x2048.size a ≤ S101184x2048.size a)
theorem k0_off3_inb : ∀ (v46 : BitVec 32) (k0_hw1 : k0_chk1 v46), ∀ a, (k0_off3 v46) a + S1x2048.size a ≤ S101184x2048.size a := fun v46 k0_hw1 => k0_hw1

def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_27 : BitVec 32 := 4#32
  let v50 : BitVec 32 := Scalar.muli arg9 c4_i32_27
  let c1_i32_28 : BitVec 32 := 1#32
  let v51 : BitVec 32 := Scalar.addi v50 c1_i32_28
  let v52 : Index := Scalar.indexCast v51
  ![v52.toNat]
def k0_off5 (k0_t1 : Fin k0_t1_loop.trips) : Fin 3 → Nat :=
  let c1_i32_29 : BitVec 32 := 1#32
  let c0_i32 : BitVec 32 := 0#32
  let c1_i32 : BitVec 32 := 1#32
  let arg9 : BitVec 32 := Scf.iv c0_i32 c1_i32 k0_t1
  let c0_i32_30 : BitVec 32 := 0#32
  ![1, arg9.toNat, 0]
def k0_off6 (v53 : BitVec 32) : Fin 2 → Nat :=
  let c0_i32_31 : BitVec 32 := 0#32
  ![v53.toNat, 0]

def k0_chk2 (v53 : BitVec 32) : Prop :=
  (∀ a, (k0_off6 v53) a + S1x2048.size a ≤ S101184x2048.size a)
theorem k0_off6_inb : ∀ (v53 : BitVec 32) (k0_hw2 : k0_chk2 v53), ∀ a, (k0_off6 v53) a + S1x2048.size a ≤ S101184x2048.size a := fun v53 k0_hw2 => k0_hw2

def k0_off7 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_32 : BitVec 32 := 4#32
  let v57 : BitVec 32 := Scalar.muli arg9 c4_i32_32
  let c2_i32 : BitVec 32 := 2#32
  let v58 : BitVec 32 := Scalar.addi v57 c2_i32
  let v59 : Index := Scalar.indexCast v58
  ![v59.toNat]
def k0_off8 (k0_t1 : Fin k0_t1_loop.trips) : Fin 3 → Nat :=
  let c2_i32_33 : BitVec 32 := 2#32
  let c0_i32 : BitVec 32 := 0#32
  let c1_i32 : BitVec 32 := 1#32
  let arg9 : BitVec 32 := Scf.iv c0_i32 c1_i32 k0_t1
  let c0_i32_34 : BitVec 32 := 0#32
  ![2, arg9.toNat, 0]
def k0_off9 (v60 : BitVec 32) : Fin 2 → Nat :=
  let c0_i32_35 : BitVec 32 := 0#32
  ![v60.toNat, 0]

def k0_chk3 (v60 : BitVec 32) : Prop :=
  (∀ a, (k0_off9 v60) a + S1x2048.size a ≤ S101184x2048.size a)
theorem k0_off9_inb : ∀ (v60 : BitVec 32) (k0_hw3 : k0_chk3 v60), ∀ a, (k0_off9 v60) a + S1x2048.size a ≤ S101184x2048.size a := fun v60 k0_hw3 => k0_hw3

def k0_off10 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_36 : BitVec 32 := 4#32
  let v64 : BitVec 32 := Scalar.muli arg9 c4_i32_36
  let c3_i32 : BitVec 32 := 3#32
  let v65 : BitVec 32 := Scalar.addi v64 c3_i32
  let v66 : Index := Scalar.indexCast v65
  ![v66.toNat]
def k0_off11 (k0_t1 : Fin k0_t1_loop.trips) : Fin 3 → Nat :=
  let c3_i32_37 : BitVec 32 := 3#32
  let c0_i32 : BitVec 32 := 0#32
  let c1_i32 : BitVec 32 := 1#32
  let arg9 : BitVec 32 := Scf.iv c0_i32 c1_i32 k0_t1
  let c0_i32_38 : BitVec 32 := 0#32
  ![3, arg9.toNat, 0]
def k0_off12 (v67 : BitVec 32) : Fin 2 → Nat :=
  let c0_i32_39 : BitVec 32 := 0#32
  ![v67.toNat, 0]

def k0_chk4 (v67 : BitVec 32) : Prop :=
  (∀ a, (k0_off12 v67) a + S1x2048.size a ≤ S101184x2048.size a)
theorem k0_off12_inb : ∀ (v67 : BitVec 32) (k0_hw4 : k0_chk4 v67), ∀ a, (k0_off12 v67) a + S1x2048.size a ≤ S101184x2048.size a := fun v67 k0_hw4 => k0_hw4

@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def k0_off13 (k0_t2 : Fin k0_t2_loop.trips) : Fin 1 → Nat :=
  let c0_i32_1 : BitVec 32 := 0#32
  let c1_i32_3 : BitVec 32 := 1#32
  let arg9 : BitVec 32 := Scf.iv c0_i32_1 c1_i32_3 k0_t2
  let c4_i32 : BitVec 32 := 4#32
  let v43 : BitVec 32 := Scalar.muli arg9 c4_i32
  let c0_i32_23 : BitVec 32 := 0#32
  let v44 : BitVec 32 := Scalar.addi v43 c0_i32_23
  let v45 : Index := Scalar.indexCast v44
  ![v45.toNat]
def k0_off14 (k0_t2 : Fin k0_t2_loop.trips) : Fin 3 → Nat :=
  let c0_i32_24 : BitVec 32 := 0#32
  let c0_i32_1 : BitVec 32 := 0#32
  let c1_i32_3 : BitVec 32 := 1#32
  let arg9 : BitVec 32 := Scf.iv c0_i32_1 c1_i32_3 k0_t2
  let c0_i32_25 : BitVec 32 := 0#32
  ![0, arg9.toNat, 0]
def k0_off15 (v46 : BitVec 32) : Fin 2 → Nat :=
  let c0_i32_26 : BitVec 32 := 0#32
  ![v46.toNat, 0]

def k0_chk5 (v46 : BitVec 32) : Prop :=
  (∀ a, (k0_off15 v46) a + S1x2048.size a ≤ S101184x2048.size a)
theorem k0_off15_inb : ∀ (v46 : BitVec 32) (k0_hw5 : k0_chk5 v46), ∀ a, (k0_off15 v46) a + S1x2048.size a ≤ S101184x2048.size a := fun v46 k0_hw5 => k0_hw5

def k0_off16 (k0_t2 : Fin k0_t2_loop.trips) : Fin 1 → Nat :=
  let c0_i32_1 : BitVec 32 := 0#32
  let c1_i32_3 : BitVec 32 := 1#32
  let arg9 : BitVec 32 := Scf.iv c0_i32_1 c1_i32_3 k0_t2
  let c4_i32_27 : BitVec 32 := 4#32
  let v50 : BitVec 32 := Scalar.muli arg9 c4_i32_27
  let c1_i32_28 : BitVec 32 := 1#32
  let v51 : BitVec 32 := Scalar.addi v50 c1_i32_28
  let v52 : Index := Scalar.indexCast v51
  ![v52.toNat]
def k0_off17 (k0_t2 : Fin k0_t2_loop.trips) : Fin 3 → Nat :=
  let c1_i32_29 : BitVec 32 := 1#32
  let c0_i32_1 : BitVec 32 := 0#32
  let c1_i32_3 : BitVec 32 := 1#32
  let arg9 : BitVec 32 := Scf.iv c0_i32_1 c1_i32_3 k0_t2
  let c0_i32_30 : BitVec 32 := 0#32
  ![1, arg9.toNat, 0]
def k0_off18 (v53 : BitVec 32) : Fin 2 → Nat :=
  let c0_i32_31 : BitVec 32 := 0#32
  ![v53.toNat, 0]

def k0_chk6 (v53 : BitVec 32) : Prop :=
  (∀ a, (k0_off18 v53) a + S1x2048.size a ≤ S101184x2048.size a)
theorem k0_off18_inb : ∀ (v53 : BitVec 32) (k0_hw6 : k0_chk6 v53), ∀ a, (k0_off18 v53) a + S1x2048.size a ≤ S101184x2048.size a := fun v53 k0_hw6 => k0_hw6

def k0_off19 (k0_t2 : Fin k0_t2_loop.trips) : Fin 1 → Nat :=
  let c0_i32_1 : BitVec 32 := 0#32
  let c1_i32_3 : BitVec 32 := 1#32
  let arg9 : BitVec 32 := Scf.iv c0_i32_1 c1_i32_3 k0_t2
  let c4_i32_32 : BitVec 32 := 4#32
  let v57 : BitVec 32 := Scalar.muli arg9 c4_i32_32
  let c2_i32 : BitVec 32 := 2#32
  let v58 : BitVec 32 := Scalar.addi v57 c2_i32
  let v59 : Index := Scalar.indexCast v58
  ![v59.toNat]
def k0_off20 (k0_t2 : Fin k0_t2_loop.trips) : Fin 3 → Nat :=
  let c2_i32_33 : BitVec 32 := 2#32
  let c0_i32_1 : BitVec 32 := 0#32
  let c1_i32_3 : BitVec 32 := 1#32
  let arg9 : BitVec 32 := Scf.iv c0_i32_1 c1_i32_3 k0_t2
  let c0_i32_34 : BitVec 32 := 0#32
  ![2, arg9.toNat, 0]
def k0_off21 (v60 : BitVec 32) : Fin 2 → Nat :=
  let c0_i32_35 : BitVec 32 := 0#32
  ![v60.toNat, 0]

def k0_chk7 (v60 : BitVec 32) : Prop :=
  (∀ a, (k0_off21 v60) a + S1x2048.size a ≤ S101184x2048.size a)
theorem k0_off21_inb : ∀ (v60 : BitVec 32) (k0_hw7 : k0_chk7 v60), ∀ a, (k0_off21 v60) a + S1x2048.size a ≤ S101184x2048.size a := fun v60 k0_hw7 => k0_hw7

def k0_off22 (k0_t2 : Fin k0_t2_loop.trips) : Fin 1 → Nat :=
  let c0_i32_1 : BitVec 32 := 0#32
  let c1_i32_3 : BitVec 32 := 1#32
  let arg9 : BitVec 32 := Scf.iv c0_i32_1 c1_i32_3 k0_t2
  let c4_i32_36 : BitVec 32 := 4#32
  let v64 : BitVec 32 := Scalar.muli arg9 c4_i32_36
  let c3_i32 : BitVec 32 := 3#32
  let v65 : BitVec 32 := Scalar.addi v64 c3_i32
  let v66 : Index := Scalar.indexCast v65
  ![v66.toNat]
def k0_off23 (k0_t2 : Fin k0_t2_loop.trips) : Fin 3 → Nat :=
  let c3_i32_37 : BitVec 32 := 3#32
  let c0_i32_1 : BitVec 32 := 0#32
  let c1_i32_3 : BitVec 32 := 1#32
  let arg9 : BitVec 32 := Scf.iv c0_i32_1 c1_i32_3 k0_t2
  let c0_i32_38 : BitVec 32 := 0#32
  ![3, arg9.toNat, 0]
def k0_off24 (v67 : BitVec 32) : Fin 2 → Nat :=
  let c0_i32_39 : BitVec 32 := 0#32
  ![v67.toNat, 0]

def k0_chk8 (v67 : BitVec 32) : Prop :=
  (∀ a, (k0_off24 v67) a + S1x2048.size a ≤ S101184x2048.size a)
theorem k0_off24_inb : ∀ (v67 : BitVec 32) (k0_hw8 : k0_chk8 v67), ∀ a, (k0_off24 v67) a + S1x2048.size a ≤ S101184x2048.size a := fun v67 k0_hw8 => k0_hw8

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineRefIdeal.lean ====
abbrev S65536 : Shape := ⟨1, ![65536]⟩
abbrev S16384x2048 : Shape := ⟨2, ![16384, 2048]⟩
abbrev S16384x128 : Shape := ⟨2, ![16384, 128]⟩
abbrev S2048 : Shape := ⟨1, ![2048]⟩
abbrev S101184x2048 : Shape := ⟨2, ![101184, 2048]⟩
abbrev S16384x4 : Shape := ⟨2, ![16384, 4]⟩
abbrev S_ : Shape := ⟨0, ![]⟩
abbrev S16384x4x1 : Shape := ⟨3, ![16384, 4, 1]⟩
abbrev S16384x4x2048 : Shape := ⟨3, ![16384, 4, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S65536, .i32⟩
  | .hbm, ⟨1, _⟩ => ⟨S16384x2048, .f32⟩
  | .hbm, ⟨2, _⟩ => ⟨S16384x128, .f32⟩
  | .hbm, ⟨3, _⟩ => ⟨S2048, .f32⟩
  | .hbm, ⟨4, _⟩ => ⟨S101184x2048, .f32⟩
  | .hbm, ⟨5, _⟩ => ⟨S16384x4, .f32⟩
  | .hbm, ⟨6, _⟩ => ⟨S16384x4, .i32⟩
  | .hbm, ⟨7, _⟩ => ⟨S_, .i32⟩
  | .hbm, ⟨8, _⟩ => ⟨S16384x4, .i32⟩
  | .hbm, ⟨9, _⟩ => ⟨S16384x4, .i1⟩
  | .hbm, ⟨10, _⟩ => ⟨S_, .i32⟩
  | .hbm, ⟨11, _⟩ => ⟨S16384x4, .i32⟩
  | .hbm, ⟨12, _⟩ => ⟨S16384x4, .i32⟩
  | .hbm, ⟨13, _⟩ => ⟨S16384x4, .i32⟩
  | .hbm, ⟨14, _⟩ => ⟨S16384x4x1, .i32⟩
  | .hbm, ⟨15, _⟩ => ⟨S16384x4x2048, .f32⟩
  | .hbm, ⟨16, _⟩ => ⟨S16384x4x1, .f32⟩
  | .hbm, ⟨17, _⟩ => ⟨S16384x4x2048, .f32⟩
  | .hbm, ⟨18, _⟩ => ⟨S16384x4x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.HgrnRef.lean ====
module
public import proofs.«01_k».proof.Proof.Gen.HgrnRefIdeal.Read
public import Idealize.ShloMosaic.Lib.Pipeline.ValueKit
public import Idealize.ShloMosaic.Lib.Pointwise
@[expose] public section
set_option maxRecDepth 16384
noncomputable section
open Idealize.ShloMosaic Idealize.SL.Sem Cert.HgrnRefIdeal Cert.HgrnRefIdeal.Read
namespace Cert.HgrnIdeal.Norm

/-- The projected activations, one row per sequence. -/
abbrev TZ := (⟨S32x7168, .f32⟩ : BufTy).Contents (Elt Ideal)
/-- The two rows of lower-bound logits. -/
abbrev TB := (⟨S2x1024, .f32⟩ : BufTy).Contents (Elt Ideal)
/-- The gain of the output normalisation. -/
abbrev TG := (⟨S1x128, .f32⟩ : BufTy).Contents (Elt Ideal)
/-- The recurrent state before the step. -/
abbrev TS := (⟨S1x32x8x128x128, .f32⟩ : BufTy).Contents (Elt Ideal)

/-- The forget gate: the lower bound plus what is left of one, times the logistic of the logit. -/
def gate (lb x : EReal) : EReal := lb + (1 - lb) * Ideal.div 1 (1 + Ideal.exp (-x))

/-- `x` times its logistic. -/
def swish (x : EReal) : EReal := x * Ideal.div 1 (1 + Ideal.exp (-x))

/-- One entry of a head's state after the step. -/
def stateAt (f lb v : Fin 128 → EReal) (s : Fin 128 → Fin 128 → EReal) (i j : Fin 128) : EReal :=
  Ideal.exp (Ideal.log (gate (lb i) (f i))) * s i j + (1 - gate (lb i) (f i)) * v j

/-- One entry of a head's read-out before normalisation. -/
def readAt (q f lb v : Fin 128 → EReal) (s : Fin 128 → Fin 128 → EReal) (j : Fin 128) : EReal :=
  (∑ x, swish (q x) * (1 - gate (lb x) (f x))) * v j
    + ∑ x, swish (q x) * Ideal.exp (Ideal.log (gate (lb x) (f x))) * s x j

/-- One entry of a head's output: the read-out normalised over the head, times the gain and the gated activation. -/
def outAt (q f lb v g gain : Fin 128 → EReal) (s : Fin 128 → Fin 128 → EReal) (j : Fin 128) : EReal :=
  readAt q f lb v s j
      * Ideal.rsqrt (Ideal.div (∑ x, readAt q f lb v s x * readAt q f lb v s x) (Ideal.ofBits FTy.f32 1124073472#32)
          + Ideal.ofBits FTy.f32 925353388#32)
      * gain j * swish (g j)

/-- The logistic of any extended real lies in the closed unit interval. -/
theorem sigmoid_real (x : EReal) : ∃ r : ℝ, Ideal.div 1 (1 + Ideal.exp (-x)) = (r : EReal) ∧ 0 ≤ r ∧ r ≤ 1 := by
  show ∃ r : ℝ, Ideal.logistic x = (r : EReal) ∧ 0 ≤ r ∧ r ≤ 1
  induction x using EReal.rec with
  | bot => exact ⟨0, by simp, le_refl _, zero_le_one⟩
  | top => exact ⟨1, by simp, zero_le_one, le_refl _⟩
  | coe x =>
    have h := Real.exp_pos (-x)
    exact ⟨(1 + Real.exp (-x))⁻¹, Ideal.logistic_coe x, by positivity, inv_le_one_of_one_le₀ (by linarith)⟩

/-- With the lower bound strictly between zero and one the gate's logarithm is a real number. -/
theorem log_gate_real {lb : EReal} (h : ∃ r : ℝ, lb = (r : EReal) ∧ 0 < r ∧ r < 1) (x : EReal) :
    ∃ b : ℝ, Ideal.log (gate lb x) = (b : EReal) := by
  obtain ⟨r, rfl, h0, h1⟩ := h
  obtain ⟨s, hs, s0, s1⟩ := sigmoid_real x
  have e : gate (r : EReal) x = ((r + (1 - r) * s : ℝ) : EReal) := by
    unfold gate
    rw [hs]
    norm_cast
  have hp : 0 < r + (1 - r) * s := by nlinarith
  exact ⟨Real.log (r + (1 - r) * s), by rw [e, Ideal.log_coe, if_neg (not_le.2 hp)]⟩

/-- The word of minus infinity. -/
theorem ninf_word : Ideal.ofBits FTy.f32 4286578688#32 = ⊥ := by
  simp [Ideal.ofBits, Ideal.ieee]

/-- The larger of two real numbers, started from minus infinity, is a real number. -/
theorem max_real (f : Fin 2 → EReal) (h : ∀ k, ∃ r : ℝ, f k = (r : EReal)) :
    ∃ r : ℝ, max (⊥ : EReal) (Finset.fold max ⊥ f Finset.univ) = (r : EReal) := by
  obtain ⟨a, ha⟩ := h 0
  obtain ⟨b, hb⟩ := h 1
  refine ⟨max a b, ?_⟩
  rw [show (Finset.univ : Finset (Fin 2)) = {0, 1} from rfl, Finset.fold_insert (by decide), Finset.fold_singleton, ha, hb, max_eq_right bot_le]
  exact (EReal.coe_strictMono.monotone.map_max).symm

/-- The first softmax row of finite logits lies strictly between zero and one. -/
theorem soft_real (x1 : TB) (c : Fin 1024) (h : ∀ k, ∃ r : ℝ, x1 (ix2 k c) = (r : EReal)) :
    ∃ r : ℝ, val_main_v10 (F := Ideal) x1 (ix2 0 c) = (r : EReal) ∧ 0 < r ∧ r < 1 := by
  obtain ⟨m, hm⟩ := max_real (fun k => x1 (ix2 k c)) h
  obtain ⟨a, ha⟩ := h 0
  obtain ⟨b, hb⟩ := h 1
  have e : val_main_v10 (F := Ideal) x1 (ix2 0 c) = Ideal.div (Ideal.exp (x1 (ix2 0 c) - m)) (∑ x, Ideal.exp (x1 (ix2 x c) - m)) := by
    rw [← hm, ← ninf_word]
    pointwise [val_main_v10,val_main_v9,val_main_v8,val_main_v7,val_main_cst_1,val_main_v6,val_main_v5,val_main_v4,val_main_v3,val_main_v2,val_main_v1,val_main_v0,val_main_cst,val_main_cst_0]
  have p := Real.exp_pos (a - m)
  have q := Real.exp_pos (b - m)
  refine ⟨Real.exp (a - m) * (1 / (Real.exp (a - m) + Real.exp (b - m))), ?_, by positivity, ?_⟩
  · rw [e, Fin.sum_univ_two, ha, hb]
    have d : ∀ r : ℝ, Ideal.exp ((r : EReal) - (m : EReal)) = (Real.exp (r - m) : EReal) := fun r => by
      rw [← EReal.coe_sub]; rfl
    rw [d, d, ← EReal.coe_add, Ideal.div_coe (by positivity)]
    norm_cast
  · rw [mul_one_div, div_lt_one (by positivity)]
    linarith

/-- A sum over a window of one element. -/
theorem window_one (x : FVec Ideal S32x8x1x128 .f32) (y : FVec Ideal S_ .f32) (hy : ∀ i, y i = (0 : EReal)) (b : Fin 32) (h : Fin 8) (i : Fin 128) :
   Host.reduceWindowAdd ![1, 1, 1, 1] ![1, 1, 1, 1] ![0, 0, 0, 0] ![0, 0, 0, 0] x y
      Gen.reduceWindows_S32x8x1x128_S32x8x1x128_w1s1p0_0_w1s1p0_0_w1s1p0_0_w1s1p0_0 Gen.h_S_ (ix4 b h 0 i) = (x (ix4 b h 0 i) : EReal) := by
  unfold Host.reduceWindowAdd
  show Ideal.hostReduceWindowAdd _ _ _ _ _ _ _ _ = _
  unfold Ideal.hostReduceWindowAdd Host.reduceWindow
  have z : ∀ (n : Fin (⟨4, ![1, 1, 1, 1]⟩ : Shape).numel) (a : Fin 4), ((⟨4, ![1, 1, 1, 1]⟩ : Shape).rowMajor.symm n a).val = 0 := fun n a => by
    have := ((⟨4, ![1, 1, 1, 1]⟩ : Shape).rowMajor.symm n a).isLt
    have e : (⟨4, ![1, 1, 1, 1]⟩ : Shape).size a = 1 := by fin_cases a <;> rfl
    omega
  dsimp only
  rw [show List.finRange (⟨S32x8x1x128.rank, ![1, 1, 1, 1]⟩ : Shape).numel = [⟨0, by decide⟩] from by decide, List.foldl_cons, List.foldl_nil]
  rw [hy, zero_add, dif_pos]
  · congr 1
    funext a
    apply Fin.ext
    show _ * _ + ((⟨4, ![1, 1, 1, 1]⟩ : Shape).rowMajor.symm _ a).val - _ = _
    rw [z]
    fin_cases a <;> simp <;> rfl
  · intro a
    show _ ≤ _ * _ + ((⟨4, ![1, 1, 1, 1]⟩ : Shape).rowMajor.symm _ a).val ∧ _ * _ + ((⟨4, ![1, 1, 1, 1]⟩ : Shape).rowMajor.symm _ a).val - _ < _
    rw [z]
    have hb := b.isLt
    have hh := h.isLt
    have hi := i.isLt
    fin_cases a <;> simp

/-- The first row of the running sum of the softmax rows is the first softmax row. -/
theorem first_row (x : FVec Ideal S2x1024 .f32) (y : FVec Ideal S_ .f32) (hy : ∀ i, y i = (0 : EReal)) (c : Fin 1024) :
    Host.reduceWindowAdd ![2, 1] ![1, 1] ![1, 0] ![0, 0] x y Gen.reduceWindows_S2x1024_S2x1024_w2s1p1_0_w1s1p0_0 Gen.h_S_ (ix2 0 c) = (x (ix2 0 c) : EReal) := by
  unfold Host.reduceWindowAdd
  show Ideal.hostReduceWindowAdd _ _ _ _ _ _ _ _ = _
  unfold Ideal.hostReduceWindowAdd Host.reduceWindow
  have z1 : ∀ (n : Fin (⟨2, ![2, 1]⟩ : Shape).numel), ((⟨2, ![2, 1]⟩ : Shape).rowMajor.symm n 1).val = 0 := fun n => by
    have : ((⟨2, ![2, 1]⟩ : Shape).rowMajor.symm n 1).val < 1 := ((⟨2, ![2, 1]⟩ : Shape).rowMajor.symm n 1).isLt
    omega
  have z0 : ∀ (n : Fin (⟨2, ![2, 1]⟩ : Shape).numel), ((⟨2, ![2, 1]⟩ : Shape).rowMajor.symm n 0).val = n.val := fun n => by
    have e : ((⟨2, ![2, 1]⟩ : Shape).rowMajor ((⟨2, ![2, 1]⟩ : Shape).rowMajor.symm n)).val
        = ((⟨2, ![2, 1]⟩ : Shape).rowMajor.symm n 0).val * 1 + ((⟨2, ![2, 1]⟩ : Shape).rowMajor.symm n 1).val := Shape.rowMajor_val_two _
    rw [Equiv.apply_symm_apply] at e
    have := z1 n
    omega
  dsimp only
  rw [show List.finRange (⟨S2x1024.rank, ![2, 1]⟩ : Shape).numel = [⟨0, by decide⟩, ⟨1, by decide⟩] from by decide, List.foldl_cons, List.foldl_cons, List.foldl_nil]
  rw [hy, zero_add, dif_neg, zero_add, dif_pos]
  · congr 1
    funext a
    apply Fin.ext
    show _ * _ + ((⟨2, ![2, 1]⟩ : Shape).rowMajor.symm _ a).val - _ = _
    fin_cases a
    · show _ * _ + ((⟨2, ![2, 1]⟩ : Shape).rowMajor.symm _ 0).val - _ = _
      rw [z0]; simp
    · show _ * _ + ((⟨2, ![2, 1]⟩ : Shape).rowMajor.symm _ 1).val - _ = _
      rw [z1]; simp
  · intro a
    fin_cases a
    · show _ ≤ _ * _ + ((⟨2, ![2, 1]⟩ : Shape).rowMajor.symm _ 0).val ∧ _ * _ + ((⟨2, ![2, 1]⟩ : Shape).rowMajor.symm _ 0).val - _ < _
      rw [z0]; simp
    · show _ ≤ _ * _ + ((⟨2, ![2, 1]⟩ : Shape).rowMajor.symm _ 1).val ∧ _ * _ + ((⟨2, ![2, 1]⟩ : Shape).rowMajor.symm _ 1).val - _ < _
      rw [z1]; simp
  · intro hin
    have h0 : 1 ≤ _ * _ + ((⟨2, ![2, 1]⟩ : Shape).rowMajor.symm _ 0).val := (hin 0).1
    rw [z0] at h0
    simp at h0

/-- The lower bound at a channel, from finite logits: strictly between zero and one. -/
theorem bound_real (x1 : TB) (h : ∀ k c, ∃ r : ℝ, x1 (ix2 k c) = (r : EReal)) (c : Fin 1024) :
    ∃ r : ℝ, val_main_v13 (F := Ideal) x1 (ix1 c) = (r : EReal) ∧ 0 < r ∧ r < 1 := by
  have e : val_main_v13 (F := Ideal) x1 (ix1 c) = val_main_v11 (F := Ideal) x1 (ix2 0 c) := by
    pointwise [val_main_v13, val_main_v12]
  have e' : val_main_v11 (F := Ideal) x1 (ix2 0 c) = val_main_v10 (F := Ideal) x1 (ix2 0 c) :=
    first_row _ _ (fun i => by pointwise [val_main_call0_call0_v0, val_main_call0_call0_cst]) c
  rw [e, e']
  exact soft_real x1 c fun k => h k c

section
variable (x0 : TZ) (x1 : TB) (x2 : TG) (x3 : TS) (b : Fin 32) (h : Fin 8)
/-- A head's slice of the activations, beginning at column `o`. -/
def part (o : Nat) (ho : o ≤ 6144) (i : Fin 128) : EReal := x0 (ix2 b ⟨o + (h.val * 128 + i.val), by omega⟩)
/-- A head's slice of the lower bound. -/
def low (i : Fin 128) : EReal := val_main_v13 (F := Ideal) x1 (ix1 ⟨h.val * 128 + i.val, by omega⟩)
/-- A head's state. -/
def cell (i j : Fin 128) : EReal := x3 (ix5 0 b h i j)

/-- The running sum of the gate's logarithms over one step. -/
theorem v48_at (i : Fin 128) : val_main_v48 (F := Ideal) x0 x1 (ix4 b h 0 i) = Ideal.log (gate (low x1 h i) (part x0 b h 1024 (by omega) i)) := by
  refine (window_one _ _ (fun i => by pointwise [val_main_call2_call0_v0, val_main_call2_call0_cst]) b h i).trans ?_
  unfold gate low part
  pointwise [val_main_v46, val_main_v42, val_main_v38, val_main_v37, val_main_v36, val_main_v35, val_main_v34, val_main_v33,val_main_v32,val_main_v31,val_main_v30,val_main_cst_4,val_main_v29,val_main_v28,val_main_cst_3,val_main_v27,val_main_v26,val_main_v17,val_main_v16,val_main_v25,val_main_v24,val_main_cst_2]
/-- The key: one minus the gate. -/
theorem v44_at (i : Fin 128) : val_main_v44 (F := Ideal) x0 x1 (ix4 b h 0 i) = 1 - (gate (low x1 h i) (part x0 b h 1024 (by omega) i)) := by
  unfold gate low part
  pointwise [val_main_v44, val_main_v40, val_main_v39, val_main_cst_5, val_main_v38, val_main_v37, val_main_v36, val_main_v35, val_main_v34, val_main_v33,val_main_v32,val_main_v31,val_main_v30,val_main_cst_4,val_main_v29,val_main_v28,val_main_cst_3,val_main_v27,val_main_v26,val_main_v17,val_main_v16,val_main_v25,val_main_v24,val_main_cst_2]
/-- The query behind its swish. -/
theorem v43_at (i : Fin 128) : val_main_v43 (F := Ideal) x0 (ix4 b h 0 i) = swish (part x0 b h 0 (by omega) i) := by
  unfold swish part
  simp only [Nat.zero_add]
  pointwise [val_main_v43,val_main_v23,val_main_v22,val_main_call1_v5,val_main_call1_v4,val_main_call1_cst_0,val_main_call1_v3,val_main_call1_v2,val_main_call1_cst,val_main_call1_v1,val_main_call1_v0,val_main_v15,val_main_v14]

variable (hx : ∀ k c, ∃ r : ℝ, x1 (ix2 k c) = (r : EReal))
include hx

/-- The gate's logarithm less itself has exponential one. -/
theorem exp_gap (i : Fin 128) (x : EReal) : Ideal.exp (Ideal.log (gate (low x1 h i) x) - Ideal.log (gate (low x1 h i) x)) = 1 := by
  obtain ⟨r, hr⟩ := log_gate_real (bound_real x1 hx ⟨h.val * 128 + i.val, by omega⟩) x
  show Ideal.exp (Ideal.log (gate (val_main_v13 (F := Ideal) x1 (ix1 ⟨h.val * 128 + i.val, by omega⟩)) x) - Ideal.log (gate (val_main_v13 (F := Ideal) x1 (ix1 ⟨h.val * 128 + i.val, by omega⟩)) x)) = 1
  rw [hr, ← EReal.coe_sub, sub_self, Ideal.exp_coe, Real.exp_zero]
  rfl

/-- The reference's new state at an entry. -/
theorem ref_state (i j : Fin 128) : val_main_v77 (F := Ideal) x0 x1 x3 (ix4 b h i j)
    = stateAt (part x0 b h 1024 (by omega)) (low x1 h) (part x0 b h 2048 (by omega)) (cell x3 b h) i j := by
  have e : val_main_v77 (F := Ideal) x0 x1 x3 (ix4 b h i j) = Ideal.exp (val_main_v48 x0 x1 (ix4 b h 0 i)) * x3 (ix5 0 b h i j) +
      ∑ x : Fin 1, val_main_v44 x0 x1 (ix4 b h x i) *
            Ideal.exp (val_main_v48 x0 x1 (ix4 b h 0 i) - val_main_v48 x0 x1 (ix4 b h x i)) *
          x0 (ix2 b ⟨2048 + (h.val * 128 + j.val), by omega⟩) := by
    pointwise [val_main_v77,val_main_v71,val_main_v70,val_main_v69,val_main_v68,val_main_v67,val_main_v47,val_main_v76,val_main_v75,val_main_v74,val_main_v73,val_main_v72,val_main_v45,val_main_v41,val_main_v19,val_main_v18]
  rw [e, Fin.sum_univ_one, v48_at, v44_at, exp_gap x1 h hx, mul_one]
  rfl

/-- The reference's read-out at an entry. -/
theorem ref_read (j : Fin 128) : val_main_v66 (F := Ideal) x0 x1 x3 (ix4 b h 0 j)
    = readAt (part x0 b h 0 (by omega)) (part x0 b h 1024 (by omega)) (low x1 h) (part x0 b h 2048 (by omega)) (cell x3 b h) j := by
  have e : val_main_v66 (F := Ideal) x0 x1 x3 (ix4 b h 0 j) = ∑ x : Fin 1,
        (∑ x,
            val_main_v43 x0 (ix4 b h 0 x) * val_main_v44 x0 x1 (ix4 b h 0 x) *
              Ideal.exp
                (Scalar.select (Scalar.select (IntOp.cmpi CmpIPredicate.sge (IntOp.addi 0#32 0#32) 0#32) 1#1 0#1)
                  (val_main_v48 x0 x1 (ix4 b h 0 x) - val_main_v48 x0 x1 (ix4 b h 0 x))
                  (val_main_call4_v2 (F := Ideal) (ix5 b h 0 0 x)))) *
          x0 (ix2 b ⟨2048 + (h.val * 128 + j.val), by omega⟩) +
      ∑ x, val_main_v43 x0 (ix4 b h 0 x) * Ideal.exp (val_main_v48 x0 x1 (ix4 b h 0 x)) * x3 (ix5 0 b h x j) := by
    pointwise [val_main_v66,val_main_v65,val_main_v64,val_main_v63,val_main_v62,val_main_v61,val_main_cst_7,val_main_v60,val_main_v59,val_main_v58,val_main_v57,val_main_v56,val_main_v55,val_main_v47,val_main_v45,val_main_v41,val_main_v19,val_main_v18,val_main_v51,val_main_v50,val_main_v49,val_main_call4_v1,val_main_v54,val_main_v53,val_main_call3_v4,val_main_call3_v2,val_main_call3_v0,val_main_call3_v1,val_main_call3_c,val_main_call3_v3,val_main_v52,val_main_c,val_main_call3_v5,val_main_call3_c_0]
  rw [e, Fin.sum_univ_one]
  have s : ∀ p q : EReal, Scalar.select (Scalar.select (IntOp.cmpi CmpIPredicate.sge (IntOp.addi 0#32 0#32) 0#32) 1#1 0#1) p q = p := fun p q => rfl
  simp only [s, v43_at, v48_at, v44_at, exp_gap x1 h hx, mul_one]
  rfl

/-- The reference's output at an entry. -/
theorem ref_out (j : Fin 128) : val_main_v96 (F := Ideal) x0 x1 x2 x3 (ix3 b 0 ⟨h.val * 128 + j.val, by omega⟩)
    = outAt (part x0 b h 0 (by omega)) (part x0 b h 1024 (by omega)) (low x1 h) (part x0 b h 2048 (by omega)) (part x0 b h 3072 (by omega))
        (fun i => x2 (ix2 0 i)) (cell x3 b h) j := by
  have e : val_main_v96 (F := Ideal) x0 x1 x2 x3 (ix3 b 0 ⟨h.val * 128 + j.val, by omega⟩) = val_main_v66 x0 x1 x3 (ix4 b h 0 j) *
          Ideal.rsqrt
            (Ideal.div (∑ x, val_main_v66 x0 x1 x3 (ix4 b h 0 x) * val_main_v66 x0 x1 x3 (ix4 b h 0 x))
                (Ideal.ofBits FTy.f32 1124073472#32) +
              Ideal.ofBits FTy.f32 925353388#32) *
        x2 (ix2 0 j) *
      (x0 (ix2 b ⟨3072 + (h.val * 128 + j.val), by omega⟩) * Ideal.div 1 (1 + Ideal.exp (-x0 (ix2 b ⟨3072 + (h.val * 128 + j.val), by omega⟩)))) := by
    pointwise [val_main_v96,val_main_v95,val_main_v94,val_main_v93,val_main_call5_v5,val_main_call5_v4,val_main_call5_v3,val_main_call5_v2,val_main_call5_v1,val_main_call5_v0,val_main_call5_cst,val_main_call5_cst_0,val_main_v92,val_main_v91,val_main_v90,val_main_v89,val_main_v88,val_main_v87,val_main_v86,val_main_v85,val_main_cst_10,val_main_v84,val_main_v83,val_main_cst_9,val_main_v82,val_main_v81,val_main_cst_8,val_main_v80,val_main_v79,val_main_v78,val_main_v21,val_main_v20]
  rw [e]
  simp only [ref_read x0 x1 x3 b h hx]
  rfl
end
end Cert.HgrnIdeal.Norm
end
-- ==== Proof.HgrnValue.lean ====
/- The value of the recurrent step for the sampled tokens: what the kernel's pipelined region leaves in its two result
   arrays is the reference's composed terms, index by index. -/
module
public import proofs.«01_k».proof.Proof.Gen.HgrnIdeal.Value
public import proofs.«01_k».proof.Proof.HgrnRef
public import Idealize.ShloMosaic.Lib.Pipeline.ValueKit
public import Idealize.ShloMosaic.Lib.Pointwise
@[expose] public section
set_option maxRecDepth 16384
noncomputable section
namespace Cert.HgrnIdeal.Norm
open Cert.HgrnIdeal Cert.HgrnIdeal.Gen Idealize.ShloMosaic Idealize.ShloMosaic.TcCoe Idealize.SL.Sem
open Idealize.ShloMosaic.Pipeline (Dat)
variable (m : (ℓ : Loc nD τ sig) → Buf (Elt Ideal) ℓ)

/-- A selection on the equality of two channel numbers. -/
theorem select_eq (i x : Fin 128) (a b : EReal) :
    Scalar.select (IntOp.cmpi CmpIPredicate.eq (BitVec.ofNat 32 i.val) (BitVec.ofNat 32 x.val)) a b = if i = x then a else b := by
  have e : (BitVec.ofNat 32 i.val = BitVec.ofNat 32 x.val) ↔ i = x := by
    rw [← BitVec.toNat_inj, BitVec.toNat_ofNat, BitVec.toNat_ofNat, Fin.ext_iff]
    omega
  by_cases h : i = x
  · subst h
    simp [Scalar.select, IntOp.cmpi]
  · have h' := mt e.1 h
    have hb : (BitVec.ofNat 32 i.val == BitVec.ofNat 32 x.val) = false := by simpa using h'
    simp [Scalar.select, IntOp.cmpi, h, hb]

section
variable (q f v g : Vec Ideal S1x1x128 .f32) (gain lb : Vec Ideal S1x128 .f32) (s0 : Vec Ideal S1x1x128x128 .f32)

/-- A head's new state, from its slices. -/
def stH : Vec Ideal S1x1x128x128 .f32 := k0_pay12 (F := Ideal) k0_pay4 (k0_pay7 f lb) (k0_pay8 v) (k0_pay9 f lb) s0

/-- A head's output, from its slices. -/
def outH : Vec Ideal S1x1x128 .f32 :=
    k0_pay16 (k0_pay3 gain) (k0_pay11 (k0_pay5 q) (k0_pay7 f lb) (k0_pay8 v) (k0_pay9 f lb) s0) (k0_pay13 g)
     (k0_pay14 (k0_pay5 q) (k0_pay7 f lb) (k0_pay8 v) (k0_pay9 f lb) s0) k0_pay15

/-- One head's new state at an entry. -/
theorem stH_at (i j : Fin 128) : stH f v lb s0 (ix4 0 0 i j)
    = stateAt (fun k => f (ix3 0 0 k)) (fun k => lb (ix2 0 k)) (fun k => v (ix3 0 0 k)) (fun k l => s0 (ix4 0 0 k l)) i j := by
  unfold stateAt gate
  pointwise [stH, k0_pay12, k0_pay10, k0_pay4, k0_pay7, k0_pay6, k0_pay8, k0_pay9]
  simp only [select_eq, zero_sub, Finset.sum_ite_eq, Finset.mem_univ, if_true]

/-- One head's output at an entry. -/
theorem outH_at (j : Fin 128) : outH q f v g gain lb s0 (ix3 0 0 j)
    = outAt (fun k => q (ix3 0 0 k)) (fun k => f (ix3 0 0 k)) (fun k => lb (ix2 0 k)) (fun k => v (ix3 0 0 k)) (fun k => g (ix3 0 0 k))
        (fun k => gain (ix2 0 k)) (fun k l => s0 (ix4 0 0 k l)) j := by
  unfold outAt readAt gate swish
  pointwise [outH, k0_pay16, k0_pay3, k0_pay5, k0_pay7, k0_pay6, k0_pay8, k0_pay9, k0_pay13, k0_pay14, k0_pay15, k0_pay11, k0_pay10]
  simp only [zero_sub]
end

/-- The grid point a block belongs to. -/
theorem idx : ∀ t : Fin cfg0.N, win0_0.index t = ![t.val, 0, 0] ∧ win0_1.index t = ![0, 0]
    ∧ win0_2.index t = ![0, 0] ∧ win0_3.index t = ![t.val, 0, 0, 0] ∧ win0_4.index t = ![t.val, 0, 0] ∧ win0_5.index t = ![t.val, 0, 0, 0] :=
  (by decide +kernel : ∀ t : Fin grid0.N, _)

/-- A load of 128 columns of the activations' block. -/
theorem ld_act (X : Vec Ideal S1x1x4096 .f32) (o : ℕ) (h : ∀ a, (![0, 0, o] : Fin 3 → ℕ) a + S1x1x128.size a ≤ S1x1x4096.size a)
    (k : Fin 128) (q : Fin 4096) (hq : q.val = o + k.val) :
    View.ld X (Rect.unit (s := S1x1x4096) ![0, 0, o] S1x1x128.size h) (ix3 0 0 k) = X (ix3 0 0 q) := by
  show X _ = X _
  congr 1
  blk_ext
  show o + 1 * k.val = q.val
  omega

/-- A load of 128 columns of the lower bound's block. -/
theorem ld_low (X : Vec Ideal S1x1024 .f32) (o : ℕ) (h : ∀ a, (![0, o] : Fin 2 → ℕ) a + S1x128.size a ≤ S1x1024.size a)
    (k : Fin 128) (q : Fin 1024) (hq : q.val = o + k.val) :
    View.ld X (Rect.unit (s := S1x1024) ![0, o] S1x128.size h) (ix2 0 k) = X (ix2 0 q) := by
  show X _ = X _
  congr 1
  blk_ext
  show o + 1 * k.val = q.val
  omega

/-- A load of one head of the state's block. -/
theorem ld_st (X : Vec Ideal S1x8x128x128 .f32) (n : ℕ) (h : ∀ a, (![0, n, 0, 0] : Fin 4 → ℕ) a + S1x1x128x128.size a ≤ S1x8x128x128.size a)
    (k l : Fin 128) (p : Fin 8) (hp : p.val = n) :
    View.ld X (Rect.unit (s := S1x8x128x128) ![0, n, 0, 0] S1x1x128x128.size h) (ix4 0 0 k l) = X (ix4 0 p k l) := by
  show X _ = X _
  congr 1
  blk_ext
  · show n + 1 * 0 = p.val
    omega
  · show 0 + 1 * k.val = k.val
    omega
  · show 0 + 1 * l.val = l.val
    omega

/-- The state piece of head `n`, read off the point's blocks. -/
theorem st_piece (X : Vec Ideal S1x1x4096 .f32) (L : Vec Ideal S1x1024 .f32) (S : Vec Ideal S1x8x128x128 .f32) (p : Fin 8) (i j : Fin 128)
    (n : ℕ) (of ov ol : ℕ) (hf : ∀ a, (![0, 0, of] : Fin 3 → ℕ) a + S1x1x128.size a ≤ S1x1x4096.size a)
    (hv : ∀ a, (![0, 0, ov] : Fin 3 → ℕ) a + S1x1x128.size a ≤ S1x1x4096.size a)
    (hl : ∀ a, (![0, ol] : Fin 2 → ℕ) a + S1x128.size a ≤ S1x1024.size a)
    (hs : ∀ a, (![0, n, 0, 0] : Fin 4 → ℕ) a + S1x1x128x128.size a ≤ S1x8x128x128.size a)
    (hp : (p : ℕ) = n) (ef : of = 1024 + n * 128) (ev : ov = 2048 + n * 128) (el : ol = n * 128)
    (x : S1x1x128x128.Idx) (h2 : (i : ℕ) = (x 2 : Fin 128)) (h3 : (j : ℕ) = (x 3 : Fin 128)) :
    stH (View.ld X (Rect.unit (s := S1x1x4096) ![0, 0, of] S1x1x128.size hf)) (View.ld X (Rect.unit (s := S1x1x4096) ![0, 0, ov] S1x1x128.size hv))
      (View.ld L (Rect.unit (s := S1x1024) ![0, ol] S1x128.size hl)) (View.ld S (Rect.unit (s := S1x8x128x128) ![0, n, 0, 0] S1x1x128x128.size hs)) x
    = stateAt (fun k => X (ix3 0 0 ⟨1024 + (p.val * 128 + k.val), by omega⟩)) (fun k => L (ix2 0 ⟨p.val * 128 + k.val, by omega⟩))
       (fun k => X (ix3 0 0 ⟨2048 + (p.val * 128 + k.val), by omega⟩)) (fun k l => S (ix4 0 p k l)) i j := by
  idx_vars x
  obtain rfl : i = x2 := Fin.ext h2
  obtain rfl : j = x3 := Fin.ext h3
  rw [Subsingleton.elim x0 0, Subsingleton.elim x1 0, stH_at]
  subst hp ef ev el
  congr 1 <;> funext k
  · exact ld_act _ _ _ _ _ (by show _ + (_ + _) = _; omega)
  · exact ld_low _ _ _ _ _ rfl
  · exact ld_act _ _ _ _ _ (by show _ + (_ + _) = _; omega)
  · funext l
    exact ld_st _ _ _ _ _ _ rfl

/-- The output piece of head `n`, read off the point's blocks. -/
theorem out_piece (X : Vec Ideal S1x1x4096 .f32) (G : Vec Ideal S1x128 .f32) (L : Vec Ideal S1x1024 .f32) (S : Vec Ideal S1x8x128x128 .f32) (p : Fin 8) (j : Fin 128)
    (n : ℕ) (oq of ov og ol : ℕ) (hq : ∀ a, (![0, 0, oq] : Fin 3 → ℕ) a + S1x1x128.size a ≤ S1x1x4096.size a)
    (hf : ∀ a, (![0, 0, of] : Fin 3 → ℕ) a + S1x1x128.size a ≤ S1x1x4096.size a)
    (hv : ∀ a, (![0, 0, ov] : Fin 3 → ℕ) a + S1x1x128.size a ≤ S1x1x4096.size a)
    (hg : ∀ a, (![0, 0, og] : Fin 3 → ℕ) a + S1x1x128.size a ≤ S1x1x4096.size a)
    (hl : ∀ a, (![0, ol] : Fin 2 → ℕ) a + S1x128.size a ≤ S1x1024.size a)
    (hs : ∀ a, (![0, n, 0, 0] : Fin 4 → ℕ) a + S1x1x128x128.size a ≤ S1x8x128x128.size a)
    (hp : (p : ℕ) = n) (eq : oq = n * 128) (ef : of = 1024 + n * 128) (ev : ov = 2048 + n * 128) (eg : og = 3072 + n * 128) (el : ol = n * 128)
    (x : S1x1x128.Idx) (h2 : (j : ℕ) = (x 2 : Fin 128)) :
    outH (View.ld X (Rect.unit (s := S1x1x4096) ![0, 0, oq] S1x1x128.size hq)) (View.ld X (Rect.unit (s := S1x1x4096) ![0, 0, of] S1x1x128.size hf))
      (View.ld X (Rect.unit (s := S1x1x4096) ![0, 0, ov] S1x1x128.size hv)) (View.ld X (Rect.unit (s := S1x1x4096) ![0, 0, og] S1x1x128.size hg)) G
      (View.ld L (Rect.unit (s := S1x1024) ![0, ol] S1x128.size hl)) (View.ld S (Rect.unit (s := S1x8x128x128) ![0, n, 0, 0] S1x1x128x128.size hs)) x
    = outAt (fun k => X (ix3 0 0 ⟨0 + (p.val * 128 + k.val), by omega⟩)) (fun k => X (ix3 0 0 ⟨1024 + (p.val * 128 + k.val), by omega⟩))
       (fun k => L (ix2 0 ⟨p.val * 128 + k.val, by omega⟩)) (fun k => X (ix3 0 0 ⟨2048 + (p.val * 128 + k.val), by omega⟩))
       (fun k => X (ix3 0 0 ⟨3072 + (p.val * 128 + k.val), by omega⟩)) (fun k => G (ix2 0 k)) (fun k l => S (ix4 0 p k l)) j := by
  idx_vars x
  obtain rfl : j = x2 := Fin.ext h2
  rw [Subsingleton.elim x0 0, Subsingleton.elim x1 0, outH_at]
  subst hp eq ef ev eg el
  congr 1 <;> funext k
  · exact ld_act _ _ _ _ _ (by show _ + (_ + _) = _; omega)
  · exact ld_act _ _ _ _ _ (by show _ + (_ + _) = _; omega)
  · exact ld_low _ _ _ _ _ rfl
  · exact ld_act _ _ _ _ _ (by show _ + (_ + _) = _; omega)
  · exact ld_act _ _ _ _ _ (by show _ + (_ + _) = _; omega)
  · funext l
    exact ld_st _ _ _ _ _ _ rfl

/-- What a point leaves in the state's block. -/
theorem st_tiles (c : Dev nD) (t : Fin cfg0.N) (p : Fin 8) (i j : Fin 128) : (outsAt0 m c t).2 (ix4 0 p i j)
    = stateAt (fun k => X0_0 m c t (ix3 0 0 ⟨1024 + (p.val * 128 + k.val), by omega⟩)) (fun k => iblk m c 1 t (ix2 0 ⟨p.val * 128 + k.val, by omega⟩))
       (fun k => X0_0 m c t (ix3 0 0 ⟨2048 + (p.val * 128 + k.val), by omega⟩)) (fun k l => iblk m c 3 t (ix4 0 p k l)) i j := by
  unfold outsAt0
  frame_out
  canon_tiles x h
  case piece0 =>
    show stH (View.ld (X0_0 m c t) (Rect.unit (s := S1x1x4096) ![0, 0, 1920] S1x1x128.size inb_S1x1x4096_S1x1x128_0_0_1920)) (View.ld (X0_0 m c t) (Rect.unit (s := S1x1x4096) ![0, 0, 2944] S1x1x128.size inb_S1x1x4096_S1x1x128_0_0_2944)) (View.ld (iblk m c 1 t) (Rect.unit (s := S1x1024) ![0, 896] S1x128.size inb_S1x1024_S1x128_0_896)) (View.ld (iblk m c 3 t) (Rect.unit (s := S1x8x128x128) ![0, 7, 0, 0] S1x1x128x128.size inb_S1x8x128x128_S1x1x128x128_0_7_0_0)) x = _
    exact st_piece _ _ _ p i j 7 _ _ _ _ _ _ _ (by have e : (p : ℕ) = 7 + ((x 1 : Fin 1) : ℕ) := h1; omega) rfl rfl rfl x h2 h3
  case piece1 =>
    show stH (View.ld (X0_0 m c t) (Rect.unit (s := S1x1x4096) ![0, 0, 1792] S1x1x128.size inb_S1x1x4096_S1x1x128_0_0_1792)) (View.ld (X0_0 m c t) (Rect.unit (s := S1x1x4096) ![0, 0, 2816] S1x1x128.size inb_S1x1x4096_S1x1x128_0_0_2816)) (View.ld (iblk m c 1 t) (Rect.unit (s := S1x1024) ![0, 768] S1x128.size inb_S1x1024_S1x128_0_768)) (View.ld (iblk m c 3 t) (Rect.unit (s := S1x8x128x128) ![0, 6, 0, 0] S1x1x128x128.size inb_S1x8x128x128_S1x1x128x128_0_6_0_0)) x = _
    exact st_piece _ _ _ p i j 6 _ _ _ _ _ _ _ (by have e : (p : ℕ) = 6 + ((x 1 : Fin 1) : ℕ) := h1; omega) rfl rfl rfl x h2 h3
  case piece2 =>
    show stH (View.ld (X0_0 m c t) (Rect.unit (s := S1x1x4096) ![0, 0, 1664] S1x1x128.size inb_S1x1x4096_S1x1x128_0_0_1664)) (View.ld (X0_0 m c t) (Rect.unit (s := S1x1x4096) ![0, 0, 2688] S1x1x128.size inb_S1x1x4096_S1x1x128_0_0_2688)) (View.ld (iblk m c 1 t) (Rect.unit (s := S1x1024) ![0, 640] S1x128.size inb_S1x1024_S1x128_0_640)) (View.ld (iblk m c 3 t) (Rect.unit (s := S1x8x128x128) ![0, 5, 0, 0] S1x1x128x128.size inb_S1x8x128x128_S1x1x128x128_0_5_0_0)) x = _
    exact st_piece _ _ _ p i j 5 _ _ _ _ _ _ _ (by have e : (p : ℕ) = 5 + ((x 1 : Fin 1) : ℕ) := h1; omega) rfl rfl rfl x h2 h3
  case piece3 =>
    show stH (View.ld (X0_0 m c t) (Rect.unit (s := S1x1x4096) ![0, 0, 1536] S1x1x128.size inb_S1x1x4096_S1x1x128_0_0_1536)) (View.ld (X0_0 m c t) (Rect.unit (s := S1x1x4096) ![0, 0, 2560] S1x1x128.size inb_S1x1x4096_S1x1x128_0_0_2560)) (View.ld (iblk m c 1 t) (Rect.unit (s := S1x1024) ![0, 512] S1x128.size inb_S1x1024_S1x128_0_512)) (View.ld (iblk m c 3 t) (Rect.unit (s := S1x8x128x128) ![0, 4, 0, 0] S1x1x128x128.size inb_S1x8x128x128_S1x1x128x128_0_4_0_0)) x = _
    exact st_piece _ _ _ p i j 4 _ _ _ _ _ _ _ (by have e : (p : ℕ) = 4 + ((x 1 : Fin 1) : ℕ) := h1; omega) rfl rfl rfl x h2 h3
  case piece4 =>
    show stH (View.ld (X0_0 m c t) (Rect.unit (s := S1x1x4096) ![0, 0, 1408] S1x1x128.size inb_S1x1x4096_S1x1x128_0_0_1408)) (View.ld (X0_0 m c t) (Rect.unit (s := S1x1x4096) ![0, 0, 2432] S1x1x128.size inb_S1x1x4096_S1x1x128_0_0_2432)) (View.ld (iblk m c 1 t) (Rect.unit (s := S1x1024) ![0, 384] S1x128.size inb_S1x1024_S1x128_0_384)) (View.ld (iblk m c 3 t) (Rect.unit (s := S1x8x128x128) ![0, 3, 0, 0] S1x1x128x128.size inb_S1x8x128x128_S1x1x128x128_0_3_0_0)) x = _
    exact st_piece _ _ _ p i j 3 _ _ _ _ _ _ _ (by have e : (p : ℕ) = 3 + ((x 1 : Fin 1) : ℕ) := h1; omega) rfl rfl rfl x h2 h3
  case piece5 =>
    show stH (View.ld (X0_0 m c t) (Rect.unit (s := S1x1x4096) ![0, 0, 1280] S1x1x128.size inb_S1x1x4096_S1x1x128_0_0_1280)) (View.ld (X0_0 m c t) (Rect.unit (s := S1x1x4096) ![0, 0, 2304] S1x1x128.size inb_S1x1x4096_S1x1x128_0_0_2304)) (View.ld (iblk m c 1 t) (Rect.unit (s := S1x1024) ![0, 256] S1x128.size inb_S1x1024_S1x128_0_256)) (View.ld (iblk m c 3 t) (Rect.unit (s := S1x8x128x128) ![0, 2, 0, 0] S1x1x128x128.size inb_S1x8x128x128_S1x1x128x128_0_2_0_0)) x = _
    exact st_piece _ _ _ p i j 2 _ _ _ _ _ _ _ (by have e : (p : ℕ) = 2 + ((x 1 : Fin 1) : ℕ) := h1; omega) rfl rfl rfl x h2 h3
  case piece6 =>
    show stH (View.ld (X0_0 m c t) (Rect.unit (s := S1x1x4096) ![0, 0, 1152] S1x1x128.size inb_S1x1x4096_S1x1x128_0_0_1152)) (View.ld (X0_0 m c t) (Rect.unit (s := S1x1x4096) ![0, 0, 2176] S1x1x128.size inb_S1x1x4096_S1x1x128_0_0_2176)) (View.ld (iblk m c 1 t) (Rect.unit (s := S1x1024) ![0, 128] S1x128.size inb_S1x1024_S1x128_0_128)) (View.ld (iblk m c 3 t) (Rect.unit (s := S1x8x128x128) ![0, 1, 0, 0] S1x1x128x128.size inb_S1x8x128x128_S1x1x128x128_0_1_0_0)) x = _
    exact st_piece _ _ _ p i j 1 _ _ _ _ _ _ _ (by have e : (p : ℕ) = 1 + ((x 1 : Fin 1) : ℕ) := h1; omega) rfl rfl rfl x h2 h3
  case piece7 =>
    show stH (View.ld (X0_0 m c t) (Rect.unit (s := S1x1x4096) ![0, 0, 1024] S1x1x128.size inb_S1x1x4096_S1x1x128_0_0_1024)) (View.ld (X0_0 m c t) (Rect.unit (s := S1x1x4096) ![0, 0, 2048] S1x1x128.size inb_S1x1x4096_S1x1x128_0_0_2048)) (View.ld (iblk m c 1 t) (Rect.unit (s := S1x1024) ![0, 0] S1x128.size inb_S1x1024_S1x128_0_0)) (View.ld (iblk m c 3 t) (Rect.unit (s := S1x8x128x128) ![0, 0, 0, 0] S1x1x128x128.size inb_S1x8x128x128_S1x1x128x128_0_0_0_0)) x = _
    exact st_piece _ _ _ p i j 0 _ _ _ _ _ _ _ (by have e : (p : ℕ) = ((x 1 : Fin 1) : ℕ) := h1; omega) rfl rfl rfl x h2 h3

/-- What a point leaves in the output's block. -/
theorem out_tiles (c : Dev nD) (t : Fin cfg0.N) (p : Fin 8) (j : Fin 128) : (outsAt0 m c t).1 (ix3 0 0 ⟨p.val * 128 + j.val, by omega⟩)
    = outAt (fun k => X0_0 m c t (ix3 0 0 ⟨0 + (p.val * 128 + k.val), by omega⟩)) (fun k => X0_0 m c t (ix3 0 0 ⟨1024 + (p.val * 128 + k.val), by omega⟩))
       (fun k => iblk m c 1 t (ix2 0 ⟨p.val * 128 + k.val, by omega⟩)) (fun k => X0_0 m c t (ix3 0 0 ⟨2048 + (p.val * 128 + k.val), by omega⟩))
       (fun k => X0_0 m c t (ix3 0 0 ⟨3072 + (p.val * 128 + k.val), by omega⟩)) (fun k => iblk m c 2 t (ix2 0 k)) (fun k l => iblk m c 3 t (ix4 0 p k l)) j := by
  unfold outsAt0
  frame_out
  canon_tiles x h
  case piece0 =>
    show outH (View.ld (X0_0 m c t) (Rect.unit (s := S1x1x4096) ![0, 0, 896] S1x1x128.size inb_S1x1x4096_S1x1x128_0_0_896)) (View.ld (X0_0 m c t) (Rect.unit (s := S1x1x4096) ![0, 0, 1920] S1x1x128.size inb_S1x1x4096_S1x1x128_0_0_1920)) (View.ld (X0_0 m c t) (Rect.unit (s := S1x1x4096) ![0, 0, 2944] S1x1x128.size inb_S1x1x4096_S1x1x128_0_0_2944)) (View.ld (X0_0 m c t) (Rect.unit (s := S1x1x4096) ![0, 0, 3968] S1x1x128.size inb_S1x1x4096_S1x1x128_0_0_3968)) (iblk m c 2 t) (View.ld (iblk m c 1 t) (Rect.unit (s := S1x1024) ![0, 896] S1x128.size inb_S1x1024_S1x128_0_896)) (View.ld (iblk m c 3 t) (Rect.unit (s := S1x8x128x128) ![0, 7, 0, 0] S1x1x128x128.size inb_S1x8x128x128_S1x1x128x128_0_7_0_0)) x = _
    exact out_piece _ _ _ _ p j 7 _ _ _ _ _ _ _ _ _ _ _ (by have e : (p : ℕ) * 128 + (j : ℕ) = 896 + ((x 2 : Fin 128) : ℕ) := h2; omega) rfl rfl rfl rfl rfl x (by have e : (p : ℕ) * 128 + (j : ℕ) = 896 + ((x 2 : Fin 128) : ℕ) := h2; omega)
  case piece1 =>
    show outH (View.ld (X0_0 m c t) (Rect.unit (s := S1x1x4096) ![0, 0, 768] S1x1x128.size inb_S1x1x4096_S1x1x128_0_0_768)) (View.ld (X0_0 m c t) (Rect.unit (s := S1x1x4096) ![0, 0, 1792] S1x1x128.size inb_S1x1x4096_S1x1x128_0_0_1792)) (View.ld (X0_0 m c t) (Rect.unit (s := S1x1x4096) ![0, 0, 2816] S1x1x128.size inb_S1x1x4096_S1x1x128_0_0_2816)) (View.ld (X0_0 m c t) (Rect.unit (s := S1x1x4096) ![0, 0, 3840] S1x1x128.size inb_S1x1x4096_S1x1x128_0_0_3840)) (iblk m c 2 t) (View.ld (iblk m c 1 t) (Rect.unit (s := S1x1024) ![0, 768] S1x128.size inb_S1x1024_S1x128_0_768)) (View.ld (iblk m c 3 t) (Rect.unit (s := S1x8x128x128) ![0, 6, 0, 0] S1x1x128x128.size inb_S1x8x128x128_S1x1x128x128_0_6_0_0)) x = _
    exact out_piece _ _ _ _ p j 6 _ _ _ _ _ _ _ _ _ _ _ (by have e : (p : ℕ) * 128 + (j : ℕ) = 768 + ((x 2 : Fin 128) : ℕ) := h2; omega) rfl rfl rfl rfl rfl x (by have e : (p : ℕ) * 128 + (j : ℕ) = 768 + ((x 2 : Fin 128) : ℕ) := h2; omega)
  case piece2 =>
    show outH (View.ld (X0_0 m c t) (Rect.unit (s := S1x1x4096) ![0, 0, 640] S1x1x128.size inb_S1x1x4096_S1x1x128_0_0_640)) (View.ld (X0_0 m c t) (Rect.unit (s := S1x1x4096) ![0, 0, 1664] S1x1x128.size inb_S1x1x4096_S1x1x128_0_0_1664)) (View.ld (X0_0 m c t) (Rect.unit (s := S1x1x4096) ![0, 0, 2688] S1x1x128.size inb_S1x1x4096_S1x1x128_0_0_2688)) (View.ld (X0_0 m c t) (Rect.unit (s := S1x1x4096) ![0, 0, 3712] S1x1x128.size inb_S1x1x4096_S1x1x128_0_0_3712)) (iblk m c 2 t) (View.ld (iblk m c 1 t) (Rect.unit (s := S1x1024) ![0, 640] S1x128.size inb_S1x1024_S1x128_0_640)) (View.ld (iblk m c 3 t) (Rect.unit (s := S1x8x128x128) ![0, 5, 0, 0] S1x1x128x128.size inb_S1x8x128x128_S1x1x128x128_0_5_0_0)) x = _
    exact out_piece _ _ _ _ p j 5 _ _ _ _ _ _ _ _ _ _ _ (by have e : (p : ℕ) * 128 + (j : ℕ) = 640 + ((x 2 : Fin 128) : ℕ) := h2; omega) rfl rfl rfl rfl rfl x (by have e : (p : ℕ) * 128 + (j : ℕ) = 640 + ((x 2 : Fin 128) : ℕ) := h2; omega)
  case piece3 =>
    show outH (View.ld (X0_0 m c t) (Rect.unit (s := S1x1x4096) ![0, 0, 512] S1x1x128.size inb_S1x1x4096_S1x1x128_0_0_512)) (View.ld (X0_0 m c t) (Rect.unit (s := S1x1x4096) ![0, 0, 1536] S1x1x128.size inb_S1x1x4096_S1x1x128_0_0_1536)) (View.ld (X0_0 m c t) (Rect.unit (s := S1x1x4096) ![0, 0, 2560] S1x1x128.size inb_S1x1x4096_S1x1x128_0_0_2560)) (View.ld (X0_0 m c t) (Rect.unit (s := S1x1x4096) ![0, 0, 3584] S1x1x128.size inb_S1x1x4096_S1x1x128_0_0_3584)) (iblk m c 2 t) (View.ld (iblk m c 1 t) (Rect.unit (s := S1x1024) ![0, 512] S1x128.size inb_S1x1024_S1x128_0_512)) (View.ld (iblk m c 3 t) (Rect.unit (s := S1x8x128x128) ![0, 4, 0, 0] S1x1x128x128.size inb_S1x8x128x128_S1x1x128x128_0_4_0_0)) x = _
    exact out_piece _ _ _ _ p j 4 _ _ _ _ _ _ _ _ _ _ _ (by have e : (p : ℕ) * 128 + (j : ℕ) = 512 + ((x 2 : Fin 128) : ℕ) := h2; omega) rfl rfl rfl rfl rfl x (by have e : (p : ℕ) * 128 + (j : ℕ) = 512 + ((x 2 : Fin 128) : ℕ) := h2; omega)
  case piece4 =>
    show outH (View.ld (X0_0 m c t) (Rect.unit (s := S1x1x4096) ![0, 0, 384] S1x1x128.size inb_S1x1x4096_S1x1x128_0_0_384)) (View.ld (X0_0 m c t) (Rect.unit (s := S1x1x4096) ![0, 0, 1408] S1x1x128.size inb_S1x1x4096_S1x1x128_0_0_1408)) (View.ld (X0_0 m c t) (Rect.unit (s := S1x1x4096) ![0, 0, 2432] S1x1x128.size inb_S1x1x4096_S1x1x128_0_0_2432)) (View.ld (X0_0 m c t) (Rect.unit (s := S1x1x4096) ![0, 0, 3456] S1x1x128.size inb_S1x1x4096_S1x1x128_0_0_3456)) (iblk m c 2 t) (View.ld (iblk m c 1 t) (Rect.unit (s := S1x1024) ![0, 384] S1x128.size inb_S1x1024_S1x128_0_384)) (View.ld (iblk m c 3 t) (Rect.unit (s := S1x8x128x128) ![0, 3, 0, 0] S1x1x128x128.size inb_S1x8x128x128_S1x1x128x128_0_3_0_0)) x = _
    exact out_piece _ _ _ _ p j 3 _ _ _ _ _ _ _ _ _ _ _ (by have e : (p : ℕ) * 128 + (j : ℕ) = 384 + ((x 2 : Fin 128) : ℕ) := h2; omega) rfl rfl rfl rfl rfl x (by have e : (p : ℕ) * 128 + (j : ℕ) = 384 + ((x 2 : Fin 128) : ℕ) := h2; omega)
  case piece5 =>
    show outH (View.ld (X0_0 m c t) (Rect.unit (s := S1x1x4096) ![0, 0, 256] S1x1x128.size inb_S1x1x4096_S1x1x128_0_0_256)) (View.ld (X0_0 m c t) (Rect.unit (s := S1x1x4096) ![0, 0, 1280] S1x1x128.size inb_S1x1x4096_S1x1x128_0_0_1280)) (View.ld (X0_0 m c t) (Rect.unit (s := S1x1x4096) ![0, 0, 2304] S1x1x128.size inb_S1x1x4096_S1x1x128_0_0_2304)) (View.ld (X0_0 m c t) (Rect.unit (s := S1x1x4096) ![0, 0, 3328] S1x1x128.size inb_S1x1x4096_S1x1x128_0_0_3328)) (iblk m c 2 t) (View.ld (iblk m c 1 t) (Rect.unit (s := S1x1024) ![0, 256] S1x128.size inb_S1x1024_S1x128_0_256)) (View.ld (iblk m c 3 t) (Rect.unit (s := S1x8x128x128) ![0, 2, 0, 0] S1x1x128x128.size inb_S1x8x128x128_S1x1x128x128_0_2_0_0)) x = _
    exact out_piece _ _ _ _ p j 2 _ _ _ _ _ _ _ _ _ _ _ (by have e : (p : ℕ) * 128 + (j : ℕ) = 256 + ((x 2 : Fin 128) : ℕ) := h2; omega) rfl rfl rfl rfl rfl x (by have e : (p : ℕ) * 128 + (j : ℕ) = 256 + ((x 2 : Fin 128) : ℕ) := h2; omega)
  case piece6 =>
    show outH (View.ld (X0_0 m c t) (Rect.unit (s := S1x1x4096) ![0, 0, 128] S1x1x128.size inb_S1x1x4096_S1x1x128_0_0_128)) (View.ld (X0_0 m c t) (Rect.unit (s := S1x1x4096) ![0, 0, 1152] S1x1x128.size inb_S1x1x4096_S1x1x128_0_0_1152)) (View.ld (X0_0 m c t) (Rect.unit (s := S1x1x4096) ![0, 0, 2176] S1x1x128.size inb_S1x1x4096_S1x1x128_0_0_2176)) (View.ld (X0_0 m c t) (Rect.unit (s := S1x1x4096) ![0, 0, 3200] S1x1x128.size inb_S1x1x4096_S1x1x128_0_0_3200)) (iblk m c 2 t) (View.ld (iblk m c 1 t) (Rect.unit (s := S1x1024) ![0, 128] S1x128.size inb_S1x1024_S1x128_0_128)) (View.ld (iblk m c 3 t) (Rect.unit (s := S1x8x128x128) ![0, 1, 0, 0] S1x1x128x128.size inb_S1x8x128x128_S1x1x128x128_0_1_0_0)) x = _
    exact out_piece _ _ _ _ p j 1 _ _ _ _ _ _ _ _ _ _ _ (by have e : (p : ℕ) * 128 + (j : ℕ) = 128 + ((x 2 : Fin 128) : ℕ) := h2; omega) rfl rfl rfl rfl rfl x (by have e : (p : ℕ) * 128 + (j : ℕ) = 128 + ((x 2 : Fin 128) : ℕ) := h2; omega)
  case piece7 =>
    show outH (View.ld (X0_0 m c t) (Rect.unit (s := S1x1x4096) ![0, 0, 0] S1x1x128.size inb_S1x1x4096_S1x1x128_0_0_0)) (View.ld (X0_0 m c t) (Rect.unit (s := S1x1x4096) ![0, 0, 1024] S1x1x128.size inb_S1x1x4096_S1x1x128_0_0_1024)) (View.ld (X0_0 m c t) (Rect.unit (s := S1x1x4096) ![0, 0, 2048] S1x1x128.size inb_S1x1x4096_S1x1x128_0_0_2048)) (View.ld (X0_0 m c t) (Rect.unit (s := S1x1x4096) ![0, 0, 3072] S1x1x128.size inb_S1x1x4096_S1x1x128_0_0_3072)) (iblk m c 2 t) (View.ld (iblk m c 1 t) (Rect.unit (s := S1x1024) ![0, 0] S1x128.size inb_S1x1024_S1x128_0_0)) (View.ld (iblk m c 3 t) (Rect.unit (s := S1x8x128x128) ![0, 0, 0, 0] S1x1x128x128.size inb_S1x8x128x128_S1x1x128x128_0_0_0_0)) x = _
    exact out_piece _ _ _ _ p j 0 _ _ _ _ _ _ _ _ _ _ _ (by have e : (p : ℕ) * 128 + (j : ℕ) = ((x 2 : Fin 128) : ℕ) := h2; omega) rfl rfl rfl rfl rfl x (by have e : (p : ℕ) * 128 + (j : ℕ) = ((x 2 : Fin 128) : ℕ) := h2; omega)

/-- The region finds the activations with a unit axis. -/
theorem V_z (c : Dev nD) : V m c main_v16 = shapeCast S32x1x7168 (m ((c : Thread nD τ).loc main_arg0)) shapeCasts_S32x7168_S32x1x7168 := by
  unfold V
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results <;> rfl

/-- The region finds the state without its leading axis. -/
theorem V_s (c : Dev nD) : V m c main_v15 = shapeCast S32x8x128x128 (m ((c : Thread nD τ).loc main_arg3)) shapeCasts_S1x32x8x128x128_S32x8x128x128 := by
  unfold V
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results <;> rfl

/-- The region finds the gain as one row. -/
theorem V_g (c : Dev nD) : V m c main_v18 = shapeCast S1x128 (shapeCast S128 (m ((c : Thread nD τ).loc main_arg2)) shapeCasts_S1x128_S128) shapeCasts_S128_S1x128 := by
  unfold V
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results <;> rfl

/-- The region finds the lower bound as one row. -/
theorem V_l (c : Dev nD) : V m c main_v17 = shapeCast S1x1024 (Cert.HgrnRefIdeal.Read.val_main_v13 (F := Ideal) (m ((c : Thread nD τ).loc main_arg1))) shapeCasts_S1024_S1x1024 := by
  unfold V
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results <;> rfl

/-- Entries of the activations with a unit axis. -/
theorem unit_at (x : Vec Ideal S32x7168 .f32) (b : Fin 32) (k : Fin 7168) : shapeCast S32x1x7168 x shapeCasts_S32x7168_S32x1x7168 (ix3 b 0 k) = x (ix2 b k) := by
  pointwise []

/-- Entries of the state without its leading axis. -/
theorem flat_at (x : Vec Ideal S1x32x8x128x128 .f32) (b : Fin 32) (h : Fin 8) (i j : Fin 128) :
    shapeCast S32x8x128x128 x shapeCasts_S1x32x8x128x128_S32x8x128x128 (ix4 b h i j) = x (ix5 0 b h i j) := by
  pointwise []

/-- Entries of the gain as one row. -/
theorem row_at (g : Vec Ideal S1x128 .f32) (k : Fin 128) :
    shapeCast S1x128 (shapeCast S128 g shapeCasts_S1x128_S128) shapeCasts_S128_S1x128 (ix2 0 k) = g (ix2 0 k) := by
  pointwise []

/-- Entries of the lower bound as one row. -/
theorem low_at (g : Vec Ideal S1024 .f32) (k : Fin 1024) : shapeCast S1x1024 g shapeCasts_S1024_S1x1024 (ix2 0 k) = g (ix1 k) := by
  pointwise []

/-- A row of the activations' block. -/
theorem z_at (c : Dev nD) (t : Fin cfg0.N) (k : Fin 4096) (b : Fin 32) (hb : b.val = t.val) (q : Fin 7168) (hq : q.val = k.val)
    (x : Vec Ideal S32x7168 .f32) (hx : m ((c : Thread nD τ).loc main_arg0) = x) : X0_0 m c t (ix3 0 0 k) = x (ix2 b q) := by
  rw [← unit_at x b q, ← hx, ← V_z]
  unfold X0_0 Pipeline.Window.fill
  rw [dif_pos (moved0_0 t _)]
  show V m c main_v16 (((cfg0.win 0).blk t).view.emb _) = V m c main_v16 _
  congr 1
  blk_ext [idx t]

/-- The lower bound's block. -/
theorem l_at (c : Dev nD) (t : Fin cfg0.N) (k : Fin 1024)
    (x : Vec Ideal S2x1024 .f32) (hx : m ((c : Thread nD τ).loc main_arg1) = x) : iblk m c 1 t (ix2 0 k) = Cert.HgrnRefIdeal.Read.val_main_v13 (F := Ideal) x (ix1 k) := by
  rw [← low_at (Cert.HgrnRefIdeal.Read.val_main_v13 (F := Ideal) x) k, ← hx, ← V_l]
  show V m c main_v17 (((cfg0.win 1).blk t).view.emb (ix2 0 k)) = V m c main_v17 _
  congr 1
  blk_ext [idx t]

/-- The gain's block. -/
theorem g_at (c : Dev nD) (t : Fin cfg0.N) (k : Fin 128)
    (x : Vec Ideal S1x128 .f32) (hx : m ((c : Thread nD τ).loc main_arg2) = x) : iblk m c 2 t (ix2 0 k) = x (ix2 0 k) := by
  rw [← row_at x k, ← hx, ← V_g]
  show V m c main_v18 (((cfg0.win 2).blk t).view.emb (ix2 0 k)) = V m c main_v18 _
  congr 1
  blk_ext [idx t]

/-- The state's block. -/
theorem s_at (c : Dev nD) (t : Fin cfg0.N) (h : Fin 8) (i j : Fin 128) (b : Fin 32) (hb : b.val = t.val)
    (x : Vec Ideal S1x32x8x128x128 .f32) (hx : m ((c : Thread nD τ).loc main_arg3) = x) : iblk m c 3 t (ix4 0 h i j) = x (ix5 0 b h i j) := by
  rw [← flat_at x b h i j, ← hx, ← V_s]
  show V m c main_v15 (((cfg0.win 3).blk t).view.emb (ix4 0 h i j)) = V m c main_v15 _
  congr 1
  blk_ext [idx t]

section
variable (c : Dev nD) (t : Fin cfg0.N) (b : Fin 32) (hb : b.val = t.val)
    (x0 : Vec Ideal S32x7168 .f32) (h0 : m ((c : Thread nD τ).loc main_arg0) = x0)
    (x1 : Vec Ideal S2x1024 .f32) (h1 : m ((c : Thread nD τ).loc main_arg1) = x1)
    (x2 : Vec Ideal S1x128 .f32) (h2 : m ((c : Thread nD τ).loc main_arg2) = x2)
    (x3 : Vec Ideal S1x32x8x128x128 .f32) (h3 : m ((c : Thread nD τ).loc main_arg3) = x3)
    (hx : ∀ k c, ∃ r : ℝ, x1 (ix2 k c) = (r : EReal))
include hb h0 h1 h2 h3 hx

/-- One entry of the new state against the reference. -/
theorem st_point (p : Fin 8) (i j : Fin 128) : (outsAt0 m c t).2 (ix4 0 p i j) = Cert.HgrnRefIdeal.Read.val_main_v77 (F := Ideal) x0 x1 x3 (ix4 b p i j) := by
  rw [st_tiles, ref_state x0 x1 x3 b p hx]
  congr 1
  · exact funext fun k => z_at m c t _ b hb _ rfl x0 h0
  · exact funext fun k => l_at m c t _ x1 h1
  · exact funext fun k => z_at m c t _ b hb _ rfl x0 h0
  · exact funext fun k => funext fun l => s_at m c t p k l b hb x3 h3

/-- One entry of the output against the reference. -/
theorem out_point (p : Fin 8) (j : Fin 128) : (outsAt0 m c t).1 (ix3 0 0 ⟨p.val * 128 + j.val, by omega⟩)
    = Cert.HgrnRefIdeal.Read.val_main_v96 (F := Ideal) x0 x1 x2 x3 (ix3 b 0 ⟨p.val * 128 + j.val, by omega⟩) := by
  rw [out_tiles, ref_out x0 x1 x2 x3 b p hx]
  congr 1
  · exact funext fun k => z_at m c t _ b hb _ rfl x0 h0
  · exact funext fun k => z_at m c t _ b hb _ rfl x0 h0
  · exact funext fun k => l_at m c t _ x1 h1
  · exact funext fun k => z_at m c t _ b hb _ rfl x0 h0
  · exact funext fun k => z_at m c t _ b hb _ rfl x0 h0
  · exact funext fun k => g_at m c t _ x2 h2
  · exact funext fun k => funext fun l => s_at m c t p k l b hb x3 h3
end

/-- The new state's array is the reference's term. -/
theorem final_state (c : Dev nD) (hx : ∀ (k : Fin 2) (q : Fin 1024), ∃ r : ℝ, (m ((c : Thread nD τ).loc main_arg1) : Vec Ideal S2x1024 .f32) (ix2 k q) = (r : EReal)) :
    (dats m 0 c).arrAt 5 cfg0.N = Cert.HgrnRefIdeal.Read.val_main_v77 (F := Ideal)
      (m ((c : Thread nD τ).loc main_arg0)) (m ((c : Thread nD τ).loc main_arg1)) (m ((c : Thread nD τ).loc main_arg3)) := by
  refine (dats m 0 c).arrAt_eq_of_covers 5 _ (by decide +kernel) fun t hf y => ?_
  have ht : t.val < 32 := lt_of_lt_of_eq t.isLt N_0
  blk_simp
  rw [after0_5]
  idx_vars y
  obtain rfl : y0 = 0 := Subsingleton.elim _ _
  rw [show (win0_5.blk t).view.emb (ix4 0 y1 y2 y3) = (ix4 ⟨t.val, ht⟩ y1 y2 y3 : S32x8x128x128.Idx) by
    blk_ext [idx t]]
  exact st_point m c t _ rfl _ rfl _ rfl _ rfl _ rfl hx y1 y2 y3

/-- The output's array is the reference's term. -/
theorem final_out (c : Dev nD) (hx : ∀ (k : Fin 2) (q : Fin 1024), ∃ r : ℝ, (m ((c : Thread nD τ).loc main_arg1) : Vec Ideal S2x1024 .f32) (ix2 k q) = (r : EReal)) :
    (dats m 0 c).arrAt 4 cfg0.N = Cert.HgrnRefIdeal.Read.val_main_v96 (F := Ideal)
      (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 32 := lt_of_lt_of_eq t.isLt N_0
  blk_simp
  rw [after0_4]
  idx_vars y
  obtain rfl : y0 = 0 := Subsingleton.elim _ _
  obtain rfl : y1 = 0 := Subsingleton.elim _ _
  rw [show (win0_4.blk t).view.emb (ix3 0 0 y2) = (ix3 ⟨t.val, ht⟩ 0 y2 : S32x1x1024.Idx) by
    blk_ext [idx t]]
  have e : y2 = ⟨y2.val / 128 * 128 + y2.val % 128, by omega⟩ := Fin.ext (Nat.div_add_mod' _ _).symm
  rw [e]
  exact out_point m c t _ rfl _ rfl _ rfl _ rfl _ rfl hx ⟨y2.val / 128, by omega⟩ ⟨y2.val % 128, Nat.mod_lt _ (by decide)⟩

end Cert.HgrnIdeal.Norm
end
-- ==== Proof.HgrnPre.lean ====
module

public import proofs.«01_k».proof.Defs
public import proofs.«01_k».proof.Proof.Gen.HgrnIdeal
public import proofs.«01_k».proof.Proof.Gen.Pre_bounds_finite
public import Idealize.ShloMosaic.Lib.ReduceAll
public import Idealize.ShloMosaic.Lib.Pipeline.ValueKit
public import Idealize.ShloMosaic.Lib.Pointwise

@[expose] public section

set_option maxRecDepth 16384

noncomputable section

/-! # What the precondition on the lower bound says -/

namespace Cert.HgrnIdeal.Norm

open Idealize.ShloMosaic Idealize.SL.Sem Cert.Pre_bounds_finite

/-- An extended real whose absolute value lies below `⊤` is a real number. -/
theorem real_of_abs {x : EReal} (h : max x (-x) < ⊤) : ∃ r : ℝ, x = (r : EReal) := by
  induction x using EReal.rec with
  | bot => simp at h
  | coe r => exact ⟨r, rfl⟩
  | top => simp at h

/-- The word of plus infinity. -/
theorem inf_word : Ideal.ofBits FTy.f32 2139095040#32 = ⊤ := by
  simp [Ideal.ofBits, Ideal.ieee]

/-- The printed predicate at 1: every entry of the lower bound is a real number. -/
theorem real_of_fn (x0 : Vec Ideal S32x7168 .f32) (x1 : Vec Ideal S2x1024 .f32) (x2 : Vec Ideal S1x128 .f32) (x3 : Vec Ideal S1x32x8x128x128 .f32)
    (e : fn (F := Ideal) x0 x1 x2 x3 = fun _ => 1#1) (k : Fin 2) (q : Fin 1024) : ∃ r : ℝ, x1 (ix2 k q) = (r : EReal) := by
  have e0 := congrFun e (fun a => a.elim0)
  unfold fn at e0
  haveI : Subsingleton S_.Idx := ⟨fun a b => funext fun i => i.elim0⟩
  have e1 := Host.reduce_andi_all _ _ _ _ _ e0 (ix2 k q)
  apply real_of_abs
  have e2 : Ideal.cmp .olt (max (x1 (ix2 k q)) (-x1 (ix2 k q))) (Ideal.ofBits FTy.f32 2139095040#32) = 1#1 := e1
  rw [inf_word] at e2
  by_contra hn
  have hd : decide (max (x1 (ix2 k q)) (-x1 (ix2 k q)) < (⊤ : EReal)) = false := decide_eq_false hn
  simp only [Ideal.cmp, hd] at e2
  exact absurd e2 (by decide)

/-- The precondition in the region's memory. -/
theorem real_of_pre (m : (ℓ : Loc Cert.HgrnIdeal.nD Cert.HgrnIdeal.τ Cert.HgrnIdeal.sig) → Buf (Elt Ideal) ℓ) (hp : Cert.Pre_HgrnIdeal_bounds_finite m)
    (c : Dev Cert.HgrnIdeal.nD) (k : Fin 2) (q : Fin 1024) : ∃ r : ℝ,
      (m ((c.tc : Thread Cert.HgrnIdeal.nD Cert.HgrnIdeal.τ).loc Cert.HgrnIdeal.main_arg1) : Vec Ideal S2x1024 .f32) (ix2 k q) = (r : EReal) :=
  real_of_fn _ _ _ _ (hp c) k q

end Cert.HgrnIdeal.Norm
end
-- ==== Proof.HgrnClaims.lean ====
module

public import proofs.«01_k».proof.Defs
public import proofs.«01_k».proof.Proof.Gen.Hgrn.Frame
public import proofs.«01_k».proof.Proof.Gen.HgrnIdeal.Frame
public import proofs.«01_k».proof.Proof.Gen.HgrnIdeal.Value
public import proofs.«01_k».proof.Proof.Gen.HgrnRefIdeal.Run
public import proofs.«01_k».proof.Proof.Gen.HgrnRefIdeal.Read
public import proofs.«01_k».proof.Proof.HgrnValue
public import proofs.«01_k».proof.Proof.Gen.Pre_bounds_finite
public import proofs.«01_k».proof.Proof.HgrnPre
public import Idealize.ShloMosaic.Adequacy
public import Idealize.ShloMosaic.Init
public import Idealize.ShloMosaic.Lib.Claim

@[expose] public section

set_option maxRecDepth 16384

noncomputable section

/-! # The recurrence's claims -/

namespace Cert.HgrnClaims

open Idealize.ShloMosaic Idealize.SL.Sem

/-- The kernel as written runs, and leaves its arguments and every counter as they were. -/
theorem frame_p : Cert.quiescent_Hgrn := fun m ρ _ => Cert.Hgrn.Gen.frame m ρ

/-- The kernel over the extended reals runs, and leaves its arguments and every counter as they were. -/
theorem frame_pi : Cert.quiescent_HgrnIdeal := fun m ρ _ => Cert.HgrnIdeal.Gen.frame m ρ

/-- The reference runs, and leaves its arguments and every counter as they were. -/
theorem frame_ri : Cert.quiescent_HgrnRefIdeal := fun m ρ _ =>
  (θ_run Cert.HgrnRefIdeal.defs _ _).mono (fun r h => ⟨fun c => (h c).2.2, sem_eq_zero_of_no_sems (by decide) r.2⟩)
    (Cert.HgrnRefIdeal.Value.run (F := Ideal) m ρ)

/-- The kernel's run again, under the claim's precondition. -/
theorem frame_pi_pre : Cert.quiescent_HgrnIdeal_pre_bounds_finite := fun m ρ _ => Cert.HgrnIdeal.Gen.frame m ρ

/-- The reference's run again, under the claim's precondition. -/
theorem frame_ri_pre : Cert.quiescent_HgrnRefIdeal_pre_bounds_finite := fun m ρ _ =>
  (θ_run Cert.HgrnRefIdeal.defs _ _).mono (fun r h => ⟨fun c => (h c).2.2, sem_eq_zero_of_no_sems (by decide) r.2⟩)
    (Cert.HgrnRefIdeal.Value.run (F := Ideal) m ρ)

/-- The reference's output, from its own memory, is the kernel's array. -/
theorem out_eq (m : (ℓ : Loc Cert.HgrnIdeal.nD Cert.HgrnIdeal.τ Cert.HgrnIdeal.sig) → Buf (Elt Ideal) ℓ)
    (m' : (ℓ : Loc Cert.HgrnRefIdeal.nD Cert.HgrnRefIdeal.τ Cert.HgrnRefIdeal.sig) → Buf (Elt Ideal) ℓ)
    (c : Dev Cert.HgrnRefIdeal.nD) (hpre : Cert.Pre_HgrnIdeal_bounds_finite m)
    (h0 : m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0))
    (h1 : m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1))
    (h2 : m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2))
    (h3 : m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) :
    Cert.HgrnRefIdeal.Value.res_main_v96 m' c = (Cert.HgrnIdeal.Gen.dats m 0 c).arrAt 4 Cert.HgrnIdeal.cfg0.N := by
  rw [Cert.HgrnRefIdeal.Read.val_main_v96_eq, h0, h1, h2, h3]
  exact (Cert.HgrnIdeal.Norm.final_out m c (Cert.HgrnIdeal.Norm.real_of_pre m hpre c)).symm

/-- The reference's new state, from its own memory, is the kernel's array. -/
theorem state_eq (m : (ℓ : Loc Cert.HgrnIdeal.nD Cert.HgrnIdeal.τ Cert.HgrnIdeal.sig) → Buf (Elt Ideal) ℓ)
    (m' : (ℓ : Loc Cert.HgrnRefIdeal.nD Cert.HgrnRefIdeal.τ Cert.HgrnRefIdeal.sig) → Buf (Elt Ideal) ℓ)
    (c : Dev Cert.HgrnRefIdeal.nD) (hpre : Cert.Pre_HgrnIdeal_bounds_finite m)
    (h0 : m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0))
    (h1 : m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1))
    (h3 : m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) :
    Cert.HgrnRefIdeal.Value.res_main_v77 m' c = (Cert.HgrnIdeal.Gen.dats m 0 c).arrAt 5 Cert.HgrnIdeal.cfg0.N := by
  rw [Cert.HgrnRefIdeal.Read.val_main_v77_eq, h0, h1, h3]
  exact (Cert.HgrnIdeal.Norm.final_state m c (Cert.HgrnIdeal.Norm.real_of_pre m hpre c)).symm

/-- Over the extended reals the kernel and the reference end with the same results. -/
theorem algebraic : Cert.algebraic_HgrnIdeal_HgrnRefIdeal_pre_bounds_finite := by
  intro m g m' g' hpre hagree
  refine ⟨fun c => (Cert.HgrnIdeal.Gen.dats m 0 c).arrAt 4 Cert.HgrnIdeal.cfg0.N,
    fun c => (Cert.HgrnIdeal.Gen.dats m 0 c).arrAt 5 Cert.HgrnIdeal.cfg0.N, Cert.HgrnIdeal.Value.run_blocks m g, ?_⟩
  refine (θ_run Cert.HgrnRefIdeal.defs _ _).mono (fun r h c => ?_) (Cert.HgrnRefIdeal.Value.run (F := Ideal) m' g')
  obtain ⟨h0, h1, h2, h3⟩ := hagree c
  exact ⟨(h c).1.trans (out_eq m m' c hpre h0 h1 h2 h3), (h c).2.1.trans (state_eq m m' c hpre h0 h1 h3), (h c).2.2⟩

end Cert.HgrnClaims
end
-- ==== Proof.InProjValue.lean ====
/- The value of the prompt's input projection: what the pipelined kernel leaves in its result array is the reference's
   composed term, index by index. -/
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise

@[expose] public section

set_option maxRecDepth 16384

noncomputable section

namespace Cert.InProjIdeal.Norm

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The blocks' places over the grid. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The reciprocal root mean square of a row whose entries are `x`, the scale the normalisation multiplies by. -/
def scale (x : Fin 2048 → EReal) : EReal :=
  Ideal.rsqrt (Ideal.div (∑ k : Fin 2048, x k * x k) (Ideal.ofBits .f32 0x45000000#32) + Ideal.ofBits .f32 0x3727C5AC#32)

/-- The stored block of the first column step: the rows scaled, then multiplied by the gain. -/
theorem pay1_at (x : Vec Ideal S1024x2048 .f32) (g : Vec Ideal S1x2048 .f32) (r : Fin 1024) (k : Fin 2048) :
    k0_pay1 (F := Ideal) x g (ix2 r k) = x (ix2 r k) * scale (fun l => x (ix2 r l)) * g (ix2 0 k) := by
  pointwise [k0_pay1, scale]

/-- The product of the normalised rows with one block of columns. -/
theorem pay2_at (h : Vec Ideal S1024x2048 .bf16) (w : Vec Ideal S2048x1792 .bf16) (r : Fin 1024) (k : Fin 1792) :
    k0_pay2 (F := Ideal) h w (ix2 r k) = ∑ l : Fin 2048, h (ix2 r l) * w (ix2 l k) := by
  pointwise [k0_pay2]

/-- The region finds the prompt's rows flattened. -/
theorem V_x (c : Dev nD) : V m c main_v3 = shapeCast S16384x2048 (m ((c : Thread nD τ).loc main_arg0)) shapeCasts_S8x2048x2048_S16384x2048 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The region finds the gain as one row. -/
theorem V_g (c : Dev nD) : V m c main_v5 = shapeCast S1x2048 (shapeCast S2048 (m ((c : Thread nD τ).loc main_arg1)) shapeCasts_S1x2048_S2048) shapeCasts_S2048_S1x2048 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The region finds the weights with zero columns added on the right. -/
theorem V_w (c : Dev nD) : V m c main_v2 = truncf .bf16 (pad S2048x7168 ![0, 0] ![0, 464] ![0, 0]
    (shapeCast S2048x6704 (m ((c : Thread nD τ).loc main_arg2)) shapeCasts_S1x2048x6704_S2048x6704)
    (sitofp (F := Ideal) .f32 (constantI S_ 32 0#32)) pads_S2048x6704_S2048x7168_000_04640 h_S_) bitsLt_bf16_f32 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The integer zero the added columns are filled with is the real zero. -/
theorem zero_word : FloatOps.sitofp (F := Ideal) FTy.f32 (0#32) = (0 : EReal) := by
  simp [FloatOps.sitofp]

/-- Entries of the flattened rows. -/
theorem flat_at (x : Vec Ideal S8x2048x2048 .f32) (r : Fin 16384) (k : Fin 2048) :
    shapeCast S16384x2048 x shapeCasts_S8x2048x2048_S16384x2048 (ix2 r k)
      = x (ix3 ⟨r.val / 2048, by omega⟩ ⟨r.val % 2048, by omega⟩ k) := by
  pointwise []

/-- Entries of the gain as one row. -/
theorem row_at (g : Vec Ideal S1x2048 .f32) (k : Fin 2048) :
    shapeCast S1x2048 (shapeCast S2048 g shapeCasts_S1x2048_S2048) shapeCasts_S2048_S1x2048 (ix2 0 k) = g (ix2 0 k) := by
  pointwise []

/-- A row of the flattened input block is a row of the prompt's input. -/
theorem x_at (c : Dev nD) (t : Fin cfg0.N) (r : Fin 1024) (k : Fin 2048) (q : Fin 16384) (hq : q.val = t.val / 4 * 1024 + r.val)
    (x : Vec Ideal S8x2048x2048 .f32) (hx : m ((c : Thread nD τ).loc main_arg0) = x) :
    iblk m c 0 t (ix2 r k) = x (ix3 ⟨q.val / 2048, by omega⟩ ⟨q.val % 2048, by omega⟩ k) := by
  rw [← flat_at x q k, ← hx, ← V_x]
  show V m c main_v3 (((cfg0.win 0).blk t).view.emb (ix2 r k)) = V m c main_v3 _
  congr 1
  blk_ext [idx t]

/-- The gain's block is the gain. -/
theorem g_at (c : Dev nD) (t : Fin cfg0.N) (k : Fin 2048) (g : Vec Ideal S1x2048 .f32) (hg : m ((c : Thread nD τ).loc main_arg1) = g) :
    iblk m c 1 t (ix2 0 k) = g (ix2 0 k) := by
  rw [← row_at g k, ← hg, ← V_g]
  show V m c main_v5 (((cfg0.win 1).blk t).view.emb (ix2 0 k)) = V m c main_v5 _
  congr 1
  blk_ext [idx t]

/-- Entries of the weights with the columns added. -/
theorem padded_at (w : Vec Ideal S1x2048x6704 .f32) (l : Fin 2048) (k : Fin 7168) :
    truncf (F := Ideal) .bf16 (pad S2048x7168 ![0, 0] ![0, 464] ![0, 0] (shapeCast S2048x6704 w shapeCasts_S1x2048x6704_S2048x6704)
      (sitofp (F := Ideal) .f32 (constantI S_ 32 0#32)) pads_S2048x6704_S2048x7168_000_04640 h_S_) bitsLt_bf16_f32 (ix2 l k)
      = if h : k.val < 6704 then w (ix3 0 l ⟨k.val, h⟩) else (0 : EReal) := by
  pointwise [zero_word]

/-- A block of the padded weights: the weights, and zero in the added columns. -/
theorem w_at (c : Dev nD) (t : Fin cfg0.N) (l : Fin 2048) (k : Fin 1792) (q : Fin 7168) (hq : q.val = t.val % 4 * 1792 + k.val)
    (w : Vec Ideal S1x2048x6704 .f32) (hw : m ((c : Thread nD τ).loc main_arg2) = w) :
    iblk m c 2 t (ix2 l k) = if h : q.val < 6704 then w (ix3 0 l ⟨q.val, h⟩) else (0 : EReal) := by
  rw [← padded_at w l q, ← hw, ← V_w]
  show V m c main_v2 (((cfg0.win 2).blk t).view.emb (ix2 l k)) = V m c main_v2 _
  congr 1
  blk_ext [idx t]

/-- What the reference computes at one entry. -/
theorem ref_at (x : Vec Ideal S8x2048x2048 .f32) (g : Vec Ideal S1x2048 .f32) (w : Vec Ideal S1x2048x6704 .f32)
    (r : Fin 16384) (k : Fin 7168) :
    Cert.InProjRefIdeal.Read.val_main_v17 (F := Ideal) x g w (ix2 r k) = if h : k.val < 6704 then
      ∑ l : Fin 2048, x (ix3 ⟨r.val / 2048, by omega⟩ ⟨r.val % 2048, by omega⟩ l)
        * scale (fun q => x (ix3 ⟨r.val / 2048, by omega⟩ ⟨r.val % 2048, by omega⟩ q))
        * g (ix2 0 l) * w (ix3 0 l ⟨k.val, h⟩) else 0 := by
  rw [← Cert.InProjRefIdeal.Read.val_main_v17_eq]
  pointwise [scale, zero_word]

/-- What a point leaves, its number written another way. -/
theorem prev (c : Dev nD) (n k : ℕ) (h : k < cfg0.N) (h' : n < cfg0.N) (e : k = n) : outsAt0 m c k h = outsAt0 m c n h' := by
  subst e; rfl

/-- The normalised block the first column step stores is kept through the other column steps of its rows. -/
theorem scratch (c : Dev nD) : ∀ (n : ℕ) (hn : n < cfg0.N),
   (outsAt0 m c n hn).2 = k0_pay1 (F := Ideal) (iblk m c 0 ⟨n, hn⟩) (iblk m c 1 ⟨n, hn⟩)
  | 0, hn => by
    rw [outsAt0_A m c ⟨0, hn⟩ rfl]; frame_out
  | n + 1, hn => by
    by_cases h : (n + 1) % 4 = 0
    · rw [outsAt0_A m c ⟨n + 1, hn⟩ h]; frame_out
    · rw [outsAt0_B m c ⟨n + 1, hn⟩ h]
      dsimp only
      unfold sout0_B_0
      rw [prev m c n (n + 1 - 1) _ (Nat.lt_of_succ_lt hn) rfl, scratch c n]
      have hq : (n + 1) / 4 = n / 4 := by omega
      have h0 : (iblk m c 0 ⟨n, Nat.lt_of_succ_lt hn⟩ : Vec Ideal S1024x2048 .f32) = iblk m c 0 ⟨n + 1, hn⟩ := by
        funext y
        idx_vars y
        show V m c main_v3 _ = V m c main_v3 _
        congr 1
        blk_ext [idx ⟨n, Nat.lt_of_succ_lt hn⟩, idx ⟨n + 1, hn⟩]
      have h1 : (iblk m c 1 ⟨n, Nat.lt_of_succ_lt hn⟩ : Vec Ideal S1x2048 .f32) = iblk m c 1 ⟨n + 1, hn⟩ := by
        funext y
        idx_vars y
        show V m c main_v5 _ = V m c main_v5 _
        congr 1
        blk_ext [idx ⟨n, Nat.lt_of_succ_lt hn⟩, idx ⟨n + 1, hn⟩]
      rw [h0, h1]

/-- What each point leaves in the result's block: its normalised rows times its columns. -/
theorem out (c : Dev nD) (t : Fin cfg0.N) : (outsAt0 m c t.val t.isLt).1
    = k0_pay2 (F := Ideal) (k0_pay1 (F := Ideal) (iblk m c 0 t) (iblk m c 1 t)) (iblk m c 2 t) := by
  by_cases h : t.val % 4 = 0
  · rw [outsAt0_A m c t h]; frame_out
  · have hs := scratch m c t.val t.isLt
    rw [outsAt0_B m c t h] at hs ⊢
    rw [← hs]
    unfold sout0_B_0
    frame_out
    rw [(Memref.isWhole_whole _).read_unread]

/-- One entry of one block of the result against the reference. -/
theorem point (c : Dev nD) (t : Fin cfg0.N) (r : Fin 1024) (k : Fin 1792) (p : Fin 16384) (hp : p.val = t.val / 4 * 1024 + r.val)
    (q : Fin 7168) (hq : q.val = t.val % 4 * 1792 + k.val)
    (x : Vec Ideal S8x2048x2048 .f32) (hx : m ((c : Thread nD τ).loc main_arg0) = x)
    (g : Vec Ideal S1x2048 .f32) (hg : m ((c : Thread nD τ).loc main_arg1) = g)
    (w : Vec Ideal S1x2048x6704 .f32) (hw : m ((c : Thread nD τ).loc main_arg2) = w) :
    k0_pay2 (F := Ideal) (k0_pay1 (F := Ideal) (iblk m c 0 t) (iblk m c 1 t)) (iblk m c 2 t) (ix2 r k)
      = Cert.InProjRefIdeal.Read.val_main_v17 (F := Ideal) x g w (ix2 p q) := by
  rw [pay2_at, ref_at]
  have e : ∀ l : Fin 2048, k0_pay1 (F := Ideal) (iblk m c 0 t) (iblk m c 1 t) (ix2 r l)
      = x (ix3 ⟨p.val / 2048, by omega⟩ ⟨p.val % 2048, by omega⟩ l)
        * scale (fun q => x (ix3 ⟨p.val / 2048, by omega⟩ ⟨p.val % 2048, by omega⟩ q)) * g (ix2 0 l) := fun l => by
    rw [pay1_at, g_at m c t l g hg]
    simp only [x_at m c t r _ p hp x hx]
  split
  · next h => exact Finset.sum_congr rfl fun l _ => by rw [e l, w_at m c t l k q hq w hw, dif_pos h]
  · next h => exact Finset.sum_eq_zero fun l _ => by rw [w_at m c t l k q hq w hw, dif_neg h, mul_zero]

/-- The projection's result array is the reference's term. -/
theorem final (c : Dev nD) : (dats m 0 c).arrAt 3 cfg0.N = Cert.InProjRefIdeal.Read.val_main_v17 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 64 := lt_of_lt_of_eq t.isLt N_0
  blk_simp
  rw [after0_3, out]
  idx_vars y
  have hm : t.val % 4 < 4 := Nat.mod_lt _ (by decide)
  rw [show (win0_3.blk t).view.emb (ix2 y0 y1) = (ix2 ⟨t.val / 4 * 1024 + y0.val, by omega⟩ ⟨t.val % 4 * 1792 + y1.val, by omega⟩ : S16384x7168.Idx) by
    blk_ext [idx t]]
  exact point m c t y0 y1 _ rfl _ rfl _ rfl _ rfl _ rfl

end Cert.InProjIdeal.Norm
end
-- ==== Proof.InProjClaims.lean ====
module

public import proofs.«01_k».proof.Defs
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjValue
public import Idealize.ShloMosaic.Adequacy
public import Idealize.ShloMosaic.Init
public import Idealize.ShloMosaic.Lib.Claim

@[expose] public section

set_option maxRecDepth 16384

noncomputable section

/-! # The prompt projection's claims -/

namespace Cert.InProjClaims

open Idealize.ShloMosaic Idealize.SL.Sem

/-- The kernel as written runs, and leaves its arguments and every counter as they were. -/
theorem frame_p : Cert.quiescent_InProj := fun m ρ _ => Cert.InProj.Gen.frame m ρ

/-- The kernel over the extended reals runs, and leaves its arguments and every counter as they were. -/
theorem frame_pi : Cert.quiescent_InProjIdeal := fun m ρ _ => Cert.InProjIdeal.Gen.frame m ρ

/-- The reference runs, and leaves its arguments and every counter as they were. -/
theorem frame_ri : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- Over the extended reals the kernel and the reference end with the same results. -/
theorem algebraic : Cert.algebraic_InProjIdeal_InProjRefIdeal := by
  pair_intro
  · run_from Cert.InProjIdeal.Value.run_blocks m g
  · run_from Cert.InProjRefIdeal.Value.run m' g'
    exact (Cert.InProjIdeal.Norm.final m c).symm

end Cert.InProjClaims
end
-- ==== Proof.InProjSValue.lean ====
/- The value of the sample's input projection: what the pipelined kernel leaves in its result array is the reference's
   composed term, index by index. -/
module

public import proofs.«01_k».proof.Proof.Gen.InProjSIdeal.Value
public import proofs.«01_k».proof.Proof.Gen.InProjSRefIdeal.Read
public import Idealize.ShloMosaic.Lib.Pipeline.ValueKit
public import Idealize.ShloMosaic.Lib.Pointwise

@[expose] public section

set_option maxRecDepth 16384

noncomputable section

namespace Cert.InProjSIdeal.Norm

open Cert.InProjSIdeal Cert.InProjSIdeal.Gen Idealize.ShloMosaic Idealize.ShloMosaic.TcCoe Idealize.SL.Sem
open Idealize.ShloMosaic.Pipeline (Dat)

variable (m : (ℓ : Loc nD τ sig) → Buf (Elt Ideal) ℓ)

/-- The blocks' places over the grid. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The reciprocal root mean square of a row whose entries are `x`, the scale the normalisation multiplies by. -/
def scale (x : Fin 2048 → EReal) : EReal :=
  Ideal.rsqrt (Ideal.div (∑ k : Fin 2048, x k * x k) (Ideal.ofBits .f32 0x45000000#32) + Ideal.ofBits .f32 0x3727C5AC#32)

/-- The stored block of the first column step: the rows scaled, then multiplied by the gain. -/
theorem pay1_at (x : Vec Ideal S32x2048 .f32) (g : Vec Ideal S1x2048 .f32) (r : Fin 32) (k : Fin 2048) :
    k0_pay1 (F := Ideal) x g (ix2 r k) = x (ix2 r k) * scale (fun l => x (ix2 r l)) * g (ix2 0 k) := by
  pointwise [k0_pay1, scale]

/-- The product of the normalised rows with one block of columns. -/
theorem pay2_at (h : Vec Ideal S32x2048 .bf16) (w : Vec Ideal S2048x1792 .bf16) (r : Fin 32) (k : Fin 1792) :
    k0_pay2 (F := Ideal) h w (ix2 r k) = ∑ l : Fin 2048, h (ix2 r l) * w (ix2 l k) := by
  pointwise [k0_pay2]

/-- The region finds the sample's rows flattened. -/
theorem V_x (c : Dev nD) : V m c main_v3 = shapeCast S32x2048 (m ((c : Thread nD τ).loc main_arg0)) shapeCasts_S32x1x2048_S32x2048 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The region finds the gain as one row. -/
theorem V_g (c : Dev nD) : V m c main_v5 = shapeCast S1x2048 (shapeCast S2048 (m ((c : Thread nD τ).loc main_arg1)) shapeCasts_S1x2048_S2048) shapeCasts_S2048_S1x2048 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The region finds the weights with zero columns added on the right. -/
theorem V_w (c : Dev nD) : V m c main_v2 = truncf .bf16 (pad S2048x7168 ![0, 0] ![0, 464] ![0, 0]
    (shapeCast S2048x6704 (m ((c : Thread nD τ).loc main_arg2)) shapeCasts_S1x2048x6704_S2048x6704)
    (sitofp (F := Ideal) .f32 (constantI S_ 32 0#32)) pads_S2048x6704_S2048x7168_000_04640 h_S_) bitsLt_bf16_f32 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results <;> rfl

/-- The integer zero the added columns are filled with is the real zero. -/
theorem zero_word : FloatOps.sitofp (F := Ideal) FTy.f32 (0#32) = (0 : EReal) := by
  simp [FloatOps.sitofp]

/-- Entries of the flattened rows. -/
theorem flat_at (x : Vec Ideal S32x1x2048 .f32) (r : Fin 32) (k : Fin 2048) :
    shapeCast S32x2048 x shapeCasts_S32x1x2048_S32x2048 (ix2 r k)
      = x (ix3 r 0 k) := by
  pointwise []

/-- Entries of the gain as one row. -/
theorem row_at (g : Vec Ideal S1x2048 .f32) (k : Fin 2048) :
    shapeCast S1x2048 (shapeCast S2048 g shapeCasts_S1x2048_S2048) shapeCasts_S2048_S1x2048 (ix2 0 k) = g (ix2 0 k) := by
  pointwise []

/-- A row of the flattened input block is a row of the sample's input. -/
theorem x_at (c : Dev nD) (t : Fin cfg0.N) (r : Fin 32) (k : Fin 2048) (q : Fin 32) (hq : q.val = t.val / 4 * 32 + r.val)
    (x : Vec Ideal S32x1x2048 .f32) (hx : m ((c : Thread nD τ).loc main_arg0) = x) :
    iblk m c 0 t (ix2 r k) = x (ix3 q 0 k) := by
  rw [← flat_at x q k, ← hx, ← V_x]
  show V m c main_v3 (((cfg0.win 0).blk t).view.emb (ix2 r k)) = V m c main_v3 _
  congr 1
  blk_ext [idx t]

/-- The gain's block is the gain. -/
theorem g_at (c : Dev nD) (t : Fin cfg0.N) (k : Fin 2048) (g : Vec Ideal S1x2048 .f32) (hg : m ((c : Thread nD τ).loc main_arg1) = g) :
    iblk m c 1 t (ix2 0 k) = g (ix2 0 k) := by
  rw [← row_at g k, ← hg, ← V_g]
  show V m c main_v5 (((cfg0.win 1).blk t).view.emb (ix2 0 k)) = V m c main_v5 _
  congr 1
  blk_ext [idx t]

/-- Entries of the weights with the columns added. -/
theorem padded_at (w : Vec Ideal S1x2048x6704 .f32) (l : Fin 2048) (k : Fin 7168) :
    truncf (F := Ideal) .bf16 (pad S2048x7168 ![0, 0] ![0, 464] ![0, 0] (shapeCast S2048x6704 w shapeCasts_S1x2048x6704_S2048x6704)
      (sitofp (F := Ideal) .f32 (constantI S_ 32 0#32)) pads_S2048x6704_S2048x7168_000_04640 h_S_) bitsLt_bf16_f32 (ix2 l k)
      = if h : k.val < 6704 then w (ix3 0 l ⟨k.val, h⟩) else (0 : EReal) := by
  pointwise [zero_word]

/-- A block of the padded weights: the weights, and zero in the added columns. -/
theorem w_at (c : Dev nD) (t : Fin cfg0.N) (l : Fin 2048) (k : Fin 1792) (q : Fin 7168) (hq : q.val = t.val % 4 * 1792 + k.val)
    (w : Vec Ideal S1x2048x6704 .f32) (hw : m ((c : Thread nD τ).loc main_arg2) = w) :
    iblk m c 2 t (ix2 l k) = if h : q.val < 6704 then w (ix3 0 l ⟨q.val, h⟩) else (0 : EReal) := by
  rw [← padded_at w l q, ← hw, ← V_w]
  show V m c main_v2 (((cfg0.win 2).blk t).view.emb (ix2 l k)) = V m c main_v2 _
  congr 1
  blk_ext [idx t]

/-- What the reference computes at one entry. -/
theorem ref_at (x : Vec Ideal S32x1x2048 .f32) (g : Vec Ideal S1x2048 .f32) (w : Vec Ideal S1x2048x6704 .f32)
    (r : Fin 32) (k : Fin 7168) :
    Cert.InProjSRefIdeal.Read.val_main_v17 (F := Ideal) x g w (ix2 r k) = if h : k.val < 6704 then
      ∑ l : Fin 2048, x (ix3 r 0 l)
        * scale (fun q => x (ix3 r 0 q))
        * g (ix2 0 l) * w (ix3 0 l ⟨k.val, h⟩) else 0 := by
  rw [← Cert.InProjSRefIdeal.Read.val_main_v17_eq]
  pointwise [scale, zero_word]

/-- What a point leaves, its number written another way. -/
theorem prev (c : Dev nD) (n k : ℕ) (h : k < cfg0.N) (h' : n < cfg0.N) (e : k = n) : outsAt0 m c k h = outsAt0 m c n h' := by
  subst e; rfl

/-- The normalised block the first column step stores is kept through the other column steps of its rows. -/
theorem scratch (c : Dev nD) : ∀ (n : ℕ) (hn : n < cfg0.N),
   (outsAt0 m c n hn).2 = k0_pay1 (F := Ideal) (iblk m c 0 ⟨n, hn⟩) (iblk m c 1 ⟨n, hn⟩)
  | 0, hn => by
    rw [outsAt0_A m c ⟨0, hn⟩ rfl]; frame_out
  | n + 1, hn => by
    by_cases h : (n + 1) % 4 = 0
    · rw [outsAt0_A m c ⟨n + 1, hn⟩ h]; frame_out
    · rw [outsAt0_B m c ⟨n + 1, hn⟩ h]
      dsimp only
      unfold sout0_B_0
      rw [prev m c n (n + 1 - 1) _ (Nat.lt_of_succ_lt hn) rfl, scratch c n]
      have hq : (n + 1) / 4 = n / 4 := by omega
      have h0 : (iblk m c 0 ⟨n, Nat.lt_of_succ_lt hn⟩ : Vec Ideal S32x2048 .f32) = iblk m c 0 ⟨n + 1, hn⟩ := by
        funext y
        idx_vars y
        show V m c main_v3 _ = V m c main_v3 _
        congr 1
        blk_ext [idx ⟨n, Nat.lt_of_succ_lt hn⟩, idx ⟨n + 1, hn⟩]
      have h1 : (iblk m c 1 ⟨n, Nat.lt_of_succ_lt hn⟩ : Vec Ideal S1x2048 .f32) = iblk m c 1 ⟨n + 1, hn⟩ := by
        funext y
        idx_vars y
        show V m c main_v5 _ = V m c main_v5 _
        congr 1
        blk_ext [idx ⟨n, Nat.lt_of_succ_lt hn⟩, idx ⟨n + 1, hn⟩]
      rw [h0, h1]

/-- What each point leaves in the result's block: its normalised rows times its columns. -/
theorem out (c : Dev nD) (t : Fin cfg0.N) : (outsAt0 m c t.val t.isLt).1
    = k0_pay2 (F := Ideal) (k0_pay1 (F := Ideal) (iblk m c 0 t) (iblk m c 1 t)) (iblk m c 2 t) := by
  by_cases h : t.val % 4 = 0
  · rw [outsAt0_A m c t h]; frame_out
  · have hs := scratch m c t.val t.isLt
    rw [outsAt0_B m c t h] at hs ⊢
    rw [← hs]
    unfold sout0_B_0
    frame_out
    rw [(Memref.isWhole_whole _).read_unread]

/-- One entry of one block of the result against the reference. -/
theorem point (c : Dev nD) (t : Fin cfg0.N) (r : Fin 32) (k : Fin 1792) (p : Fin 32) (hp : p.val = t.val / 4 * 32 + r.val)
    (q : Fin 7168) (hq : q.val = t.val % 4 * 1792 + k.val)
    (x : Vec Ideal S32x1x2048 .f32) (hx : m ((c : Thread nD τ).loc main_arg0) = x)
    (g : Vec Ideal S1x2048 .f32) (hg : m ((c : Thread nD τ).loc main_arg1) = g)
    (w : Vec Ideal S1x2048x6704 .f32) (hw : m ((c : Thread nD τ).loc main_arg2) = w) :
    k0_pay2 (F := Ideal) (k0_pay1 (F := Ideal) (iblk m c 0 t) (iblk m c 1 t)) (iblk m c 2 t) (ix2 r k)
      = Cert.InProjSRefIdeal.Read.val_main_v17 (F := Ideal) x g w (ix2 p q) := by
  rw [pay2_at, ref_at]
  have e : ∀ l : Fin 2048, k0_pay1 (F := Ideal) (iblk m c 0 t) (iblk m c 1 t) (ix2 r l)
      = x (ix3 p 0 l)
        * scale (fun q => x (ix3 p 0 q)) * g (ix2 0 l) := fun l => by
    rw [pay1_at, g_at m c t l g hg]
    simp only [x_at m c t r _ p hp x hx]
  split
  · next h => exact Finset.sum_congr rfl fun l _ => by rw [e l, w_at m c t l k q hq w hw, dif_pos h]
  · next h => exact Finset.sum_eq_zero fun l _ => by rw [w_at m c t l k q hq w hw, dif_neg h, mul_zero]

/-- The projection's result array is the reference's term. -/
theorem final (c : Dev nD) : (dats m 0 c).arrAt 3 cfg0.N = Cert.InProjSRefIdeal.Read.val_main_v17 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 4 := lt_of_lt_of_eq t.isLt N_0
  blk_simp
  rw [after0_3, out]
  idx_vars y
  have hm : t.val % 4 < 4 := Nat.mod_lt _ (by decide)
  rw [show (win0_3.blk t).view.emb (ix2 y0 y1) = (ix2 ⟨t.val / 4 * 32 + y0.val, by omega⟩ ⟨t.val % 4 * 1792 + y1.val, by omega⟩ : S32x7168.Idx) by
    blk_ext [idx t]]
  exact point m c t y0 y1 _ rfl _ rfl _ rfl _ rfl _ rfl

end Cert.InProjSIdeal.Norm
end
-- ==== Proof.InProjSClaims.lean ====
module

public import proofs.«01_k».proof.Defs
public import proofs.«01_k».proof.Proof.Gen.InProjS.Frame
public import proofs.«01_k».proof.Proof.Gen.InProjSIdeal.Frame
public import proofs.«01_k».proof.Proof.Gen.InProjSIdeal.Value
public import proofs.«01_k».proof.Proof.Gen.InProjSRefIdeal.Run
public import proofs.«01_k».proof.Proof.Gen.InProjSRefIdeal.Read
public import proofs.«01_k».proof.Proof.InProjSValue
public import Idealize.ShloMosaic.Adequacy
public import Idealize.ShloMosaic.Init
public import Idealize.ShloMosaic.Lib.Claim

@[expose] public section

set_option maxRecDepth 16384

noncomputable section

/-! # The sample projection's claims -/

namespace Cert.InProjSClaims

open Idealize.ShloMosaic Idealize.SL.Sem

/-- The kernel as written runs, and leaves its arguments and every counter as they were. -/
theorem frame_p : Cert.quiescent_InProjS := fun m ρ _ => Cert.InProjS.Gen.frame m ρ

/-- The kernel over the extended reals runs, and leaves its arguments and every counter as they were. -/
theorem frame_pi : Cert.quiescent_InProjSIdeal := fun m ρ _ => Cert.InProjSIdeal.Gen.frame m ρ

/-- The reference runs, and leaves its arguments and every counter as they were. -/
theorem frame_ri : Cert.quiescent_InProjSRefIdeal := fun m ρ _ =>
  (θ_run Cert.InProjSRefIdeal.defs _ _).mono (fun r h => ⟨fun c => (h c).2, sem_eq_zero_of_no_sems (by decide) r.2⟩)
    (Cert.InProjSRefIdeal.Value.run (F := Ideal) m ρ)

/-- Over the extended reals the kernel and the reference end with the same results. -/
theorem algebraic : Cert.algebraic_InProjSIdeal_InProjSRefIdeal := by
  pair_intro
  · run_from Cert.InProjSIdeal.Value.run_blocks m g
  · run_from Cert.InProjSRefIdeal.Value.run m' g'
    exact (Cert.InProjSIdeal.Norm.final m c).symm

end Cert.InProjSClaims
end
-- ==== Proof.ExpertsIdealRun.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of expert numbers, as the body is handed it. -/
abbrev tabE : Memref sig .tc .smem S93 .i32 := Memref.whole main_arg0
/-- The table of row counts, as the body is handed it. -/
abbrev tabR : Memref sig .tc .smem S93 .i32 := Memref.whole main_arg1

/-- What a table's buffer holds on core `c`. -/
abbrev TbBuf (c : Dev nD) {S : Shape} {e : EltTy} (M : Memref sig .tc .smem S e) : Type := Buf (Elt F) (M.view.loc (c : Thread nD τ))
/-- The half of a table's buffer that the body holds, at contents `f`. -/
abbrev tbPt (c : Dev nD) {S : Shape} {e : EltTy} (M : Memref sig .tc .smem S e) (f : TbBuf (F := F) c M) : sProp 𝕄 :=
  M.view.loc (c : Thread nD τ) ↦{fullShare.right} f

/-- The row count of the item that point `i` works on, read off the table's contents. -/
def rowsAt (c : Dev nD) (xt1 : TbBuf (F := F) c tabR) (i : grid0.Coords) : Elt F .i32 :=
  View.readAt (Elt F) tabR.view (Rect.unit (s := S93) (k0_off1 i) S1.size (k0_off1_inb i)).toLoadRect xt1 (Shape.Idx.first (numel1_S1.symm ▸ Nat.one_pos))

/-- The first 544 rows after the chunk's product is added to them. -/
def topRows (x0 : Vec F S1088x2048 .f32) (x1 x2 : Vec F S1x2048x256 .f32) (x3 x4 : Vec F S1x1x256 .f32) (x5 : Vec F S1x256x2048 .f32) (b : Vec F S1088x2048 .f32) : FVec F S544x2048 .f32 :=
  k0_pay5 (k0_pay2 x1) (k0_pay3 x2) (k0_pay4 x5) (VecWindow.window x0 ![0, 0] S544x2048.size inb_S1088x2048_S544x2048_0_0) x3 x4
    (VecWindow.window b ![0, 0] S544x2048.size inb_S1088x2048_S544x2048_0_0)

/-- The last 544 rows after the chunk's product is added to them. -/
def botRows (x0 : Vec F S1088x2048 .f32) (x1 x2 : Vec F S1x2048x256 .f32) (x3 x4 : Vec F S1x1x256 .f32) (x5 : Vec F S1x256x2048 .f32) (b : Vec F S1088x2048 .f32) : FVec F S544x2048 .f32 :=
  k0_pay6 (k0_pay2 x1) (k0_pay3 x2) (k0_pay4 x5) (VecWindow.window x0 ![544, 0] S544x2048.size inb_S1088x2048_S544x2048_544_0) x3 x4
    (VecWindow.window b ![544, 0] S544x2048.size inb_S1088x2048_S544x2048_544_0)

/-- The block after one point, of the row count and of what the block held: each region of 544 rows that the count
    reaches has the chunk's product added, the others are left alone. -/
def accum (w : Elt F .i32) (x0 : Vec F S1088x2048 .f32) (x1 x2 : Vec F S1x2048x256 .f32) (x3 x4 : Vec F S1x1x256 .f32) (x5 : Vec F S1x256x2048 .f32) (b : Vec F S1088x2048 .f32) : Vec F S1088x2048 .f32 :=
  if k0_cond2 w = 1#1 then
    if k0_cond4 w = 1#1 then
      VecWindow.put (VecWindow.put b ![0, 0] S544x2048.size (topRows x0 x1 x2 x3 x4 x5 b)) ![544, 0] S544x2048.size (botRows x0 x1 x2 x3 x4 x5 b)
    else VecWindow.put b ![0, 0] S544x2048.size (topRows x0 x1 x2 x3 x4 x5 b)
  else b

/-- A load of a box is the box of the contents. -/
theorem readAt_window {κ : Kind} {sp : Space} {s : Shape} {e : EltTy} (v : View sig κ sp s e) (f : v.ty.Contents (Elt F))
    {off size : Fin s.rank → ℕ} (inb : ∀ a, off a + size a ≤ s.size a) :
    v.readAt (Elt F) (Rect.unit off size inb).toLoadRect f = VecWindow.window (v.read (Elt F) f) off size inb := rfl

/-- A store of the whole block leaves what was stored. -/
theorem read_whole {κ : Kind} {sp : Space} (v : View sig κ sp S1088x2048 .f32) (f : v.ty.Contents (Elt F)) (w : FVec F S1088x2048 .f32) (L : List (View.Piece (Elt F) S1088x2048 .f32)) :
    v.read (Elt F) (v.writes (Elt F) f (⟨Rect.unit (s := S1088x2048) ![0, 0] ![1088, 2048] inb_S1088x2048_S1088x2048_0_0, w⟩ :: L)) = w :=
  View.read_writes_full v f _ w L

/-- The last 544 rows are not among the first 544 rows. -/
theorem window_bot (x : Vec F S1088x2048 .f32) (w : FVec F S544x2048 .f32) :
    VecWindow.window (VecWindow.put x ![0, 0] S544x2048.size w) ![544, 0] S544x2048.size inb_S1088x2048_S544x2048_544_0
      = VecWindow.window x ![544, 0] S544x2048.size inb_S1088x2048_S544x2048_544_0 :=
  VecWindow.window_put_of_disjoint x ![0, 0] S544x2048.size ![544, 0] S544x2048.size inb_S1088x2048_S544x2048_544_0 w (0 : Fin 2) (.inr (by decide))

set_option maxHeartbeats 1000000 in
/-- At the first point of an item's eight the body copies the bias into the whole block, then adds the first chunk's product to the regions the row count reaches. -/
theorem run_A (c : Dev nD) (i : grid0.Coords) (arg4 : Memref sig .tc .vmem S1088x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole)
    (arg9 : Memref sig .tc .vmem S1x256x2048 .f32) (harg9 : arg9.IsWhole) (arg10 : Memref sig .tc .vmem S1x1x2048 .f32) (harg10 : arg10.IsWhole) (arg11 : Memref sig .tc .vmem S1088x2048 .f32) (harg11 : arg11.IsWhole)
    (hc0 : k0_cond1 i = 1#1) (x0 : Vec F S1088x2048 .f32) (x1 x2 : Vec F S1x2048x256 .f32) (x3 x4 : Vec F S1x1x256 .f32) (x5 : Vec F S1x256x2048 .f32) (x6 : Vec F S1x1x2048 .f32) (xt0 : TbBuf c tabE) (xt1 : TbBuf c tabR) (xo7 : Vec F S1088x2048 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xo7 ∗ tbPt c tabE xt0 ∗ tbPt c tabR xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (accum (rowsAt c xt1 i) x0 x1 x2 x3 x4 x5 (k0_pay1 x6)) ∗ tbPt c tabE xt0 ∗ tbPt c tabR xt1) -∗ K ⟨⟩))
      ⊢ wp frame (wpE (defs₀ (F := F)) Variants.none c none) E (cc0_moe_experts i tabE (Memref.isWhole_whole _) tabR (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold accum
    have hw : run_A.sl.r c i xt1 = rowsAt c xt1 i := rfl
    rw [hw]
    have e1 : View.readAt (Elt F) arg5.view (Rect.unit ![0, 0, 0] S1x2048x256.size inb_S1x2048x256_S1x2048x256_0_0_0).toLoadRect (harg5.unread x1) = x1 := (View.readAt_full _ _ _).trans (harg5.read_unread x1)
    have e2 : View.readAt (Elt F) arg6.view (Rect.unit ![0, 0, 0] S1x2048x256.size inb_S1x2048x256_S1x2048x256_0_0_0).toLoadRect (harg6.unread x2) = x2 := (View.readAt_full _ _ _).trans (harg6.read_unread x2)
    have e3 : View.readAt (Elt F) arg7.view (Rect.unit ![0, 0, 0] S1x1x256.size inb_S1x1x256_S1x1x256_0_0_0).toLoadRect (harg7.unread x3) = x3 := (View.readAt_full _ _ _).trans (harg7.read_unread x3)
    have e4 : View.readAt (Elt F) arg8.view (Rect.unit ![0, 0, 0] S1x1x256.size inb_S1x1x256_S1x1x256_0_0_0).toLoadRect (harg8.unread x4) = x4 := (View.readAt_full _ _ _).trans (harg8.read_unread x4)
    have e5 : View.readAt (Elt F) arg9.view (Rect.unit ![0, 0, 0] S1x256x2048.size inb_S1x256x2048_S1x256x2048_0_0_0).toLoadRect (harg9.unread x5) = x5 := (View.readAt_full _ _ _).trans (harg9.read_unread x5)
    have e6 : View.readAt (Elt F) arg10.view (Rect.unit ![0, 0, 0] S1x1x2048.size inb_S1x1x2048_S1x1x2048_0_0_0).toLoadRect (harg10.unread x6) = x6 := (View.readAt_full _ _ _).trans (harg10.read_unread x6)
    by_cases h2 : k0_cond2 (rowsAt c xt1 i) = 1#1
    · by_cases h4 : k0_cond4 (rowsAt c xt1 i) = 1#1
      · rw [dif_pos h2, dif_pos h4, if_pos h2, if_pos h4]
        unfold run_A.sl.r_2 run_A.sl.v54_1 run_A.sl.H7_2 run_A.sl.r_1 run_A.sl.v54 run_A.sl.H7_1
        simp only [e1, e2, e3, e4, e5, e6, View.readCov, readAt_window, harg4.read_unread, read_whole]
        rw [View.read_writes_cons_put arg11.view (harg11.unread xo7) _ _ _ rfl, View.read_writes_cons_put arg11.view (harg11.unread xo7) _ _ _ rfl, View.read_writes_cons_put arg11.view arg11.view.junk _ _ _ rfl, read_whole, read_whole, window_bot]
        rfl
      · rw [dif_pos h2, dif_neg h4, if_pos h2, if_neg h4]
        unfold run_A.sl.H7_2 run_A.sl.r_1 run_A.sl.v54 run_A.sl.H7_1
        simp only [e1, e2, e3, e4, e5, e6, View.readCov, readAt_window, harg4.read_unread, read_whole]
        rw [View.read_writes_cons_put arg11.view (harg11.unread xo7) _ _ _ rfl, read_whole]
        rfl
    · rw [dif_neg h2, if_neg h2]
      unfold run_A.sl.H7_1
      rw [View.read_writes_full, View.readAt_full, harg10.read_unread]
  isplitl [HT0]; · iexact HT0
  iexact HT1

set_option maxHeartbeats 1000000 in
/-- At a later point of an item's eight the body adds the chunk's product to the regions the row count reaches, over what it finds in the block; a count of zero leaves the block alone. -/
theorem run_B (c : Dev nD) (i : grid0.Coords) (arg4 : Memref sig .tc .vmem S1088x2048 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x1x256 .f32) (harg7 : arg7.IsWhole) (arg8 : Memref sig .tc .vmem S1x1x256 .f32) (harg8 : arg8.IsWhole)
    (arg9 : Memref sig .tc .vmem S1x256x2048 .f32) (harg9 : arg9.IsWhole) (arg10 : Memref sig .tc .vmem S1x1x2048 .f32) (harg10 : arg10.IsWhole) (arg11 : Memref sig .tc .vmem S1088x2048 .f32) (harg11 : arg11.IsWhole)
    (hc0 : ¬k0_cond1 i = 1#1) (x0 : Vec F S1088x2048 .f32) (x1 x2 : Vec F S1x2048x256 .f32) (x3 x4 : Vec F S1x1x256 .f32) (x5 : Vec F S1x256x2048 .f32) (x6 : Vec F S1x1x2048 .f32) (xt0 : TbBuf c tabE) (xt1 : TbBuf c tabR) (xo7 : Vec F S1088x2048 .f32)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare xo7 ∗ tbPt c tabE xt0 ∗ tbPt c tabR xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (accum (rowsAt c xt1 i) x0 x1 x2 x3 x4 x5 (xo7)) ∗ tbPt c tabE xt0 ∗ tbPt c tabR xt1) -∗ K ⟨⟩))
      ⊢ wp frame (wpE (defs₀ (F := F)) Variants.none c none) E (cc0_moe_experts i tabE (Memref.isWhole_whole _) tabR (Memref.isWhole_whole _) arg4 harg4 arg5 harg5 arg6 harg6 arg7 harg7 arg8 harg8 arg9 harg9 arg10 harg10 arg11 harg11) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
  sl_exec (disch := first | sl_exact hc0)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold accum
    have hw : run_B.sl.r c i xt1 = rowsAt c xt1 i := rfl
    rw [hw]
    have e1 : View.readAt (Elt F) arg5.view (Rect.unit ![0, 0, 0] S1x2048x256.size inb_S1x2048x256_S1x2048x256_0_0_0).toLoadRect (harg5.unread x1) = x1 := (View.readAt_full _ _ _).trans (harg5.read_unread x1)
    have e2 : View.readAt (Elt F) arg6.view (Rect.unit ![0, 0, 0] S1x2048x256.size inb_S1x2048x256_S1x2048x256_0_0_0).toLoadRect (harg6.unread x2) = x2 := (View.readAt_full _ _ _).trans (harg6.read_unread x2)
    have e3 : View.readAt (Elt F) arg7.view (Rect.unit ![0, 0, 0] S1x1x256.size inb_S1x1x256_S1x1x256_0_0_0).toLoadRect (harg7.unread x3) = x3 := (View.readAt_full _ _ _).trans (harg7.read_unread x3)
    have e4 : View.readAt (Elt F) arg8.view (Rect.unit ![0, 0, 0] S1x1x256.size inb_S1x1x256_S1x1x256_0_0_0).toLoadRect (harg8.unread x4) = x4 := (View.readAt_full _ _ _).trans (harg8.read_unread x4)
    have e5 : View.readAt (Elt F) arg9.view (Rect.unit ![0, 0, 0] S1x256x2048.size inb_S1x256x2048_S1x256x2048_0_0_0).toLoadRect (harg9.unread x5) = x5 := (View.readAt_full _ _ _).trans (harg9.read_unread x5)
    have e6 : View.readAt (Elt F) arg10.view (Rect.unit ![0, 0, 0] S1x1x2048.size inb_S1x1x2048_S1x1x2048_0_0_0).toLoadRect (harg10.unread x6) = x6 := (View.readAt_full _ _ _).trans (harg10.read_unread x6)
    by_cases h2 : k0_cond2 (rowsAt c xt1 i) = 1#1
    · by_cases h4 : k0_cond4 (rowsAt c xt1 i) = 1#1
      · rw [dif_pos h2, dif_pos h4, if_pos h2, if_pos h4]
        unfold run_B.sl.r_2 run_B.sl.v54 run_B.sl.H7_1 run_B.sl.r_1
        simp only [e1, e2, e3, e4, e5, View.readCov, readAt_window, harg4.read_unread, harg11.read_unread]
        rw [View.read_writes_cons_put _ _ _ _ _ rfl, View.read_writes_cons_put _ _ _ _ _ rfl, View.writes_nil, harg11.read_unread]
        rfl
      · rw [dif_pos h2, dif_neg h4, if_pos h2, if_neg h4]
        unfold run_B.sl.H7_1 run_B.sl.r_1
        simp only [e1, e2, e3, e4, e5, View.readCov, readAt_window, harg4.read_unread, harg11.read_unread]
        rw [View.read_writes_cons_put _ _ _ _ _ rfl, View.writes_nil, harg11.read_unread]
        rfl
    · rw [dif_neg h2, if_neg h2]
      exact harg11.read_unread xo7
  isplitl [HT0]; · iexact HT0
  iexact HT1

end Cert.ExpertsIdeal.Hand

end
-- ==== Proof.ExpertsIdealFrame.lean ====
module

public import proofs.«01_k».proof.Proof.ExpertsIdealRun

@[expose] public section

set_option maxRecDepth 16384

noncomputable section

namespace Cert.ExpertsIdeal.Hand

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline finds -/

/-- Core `c`'s buffers after the reshapes that come before the pipeline. -/
abbrev V (c : Dev nD) (b : Ref sig .tc) : Buf (Elt F) ((c : Thread nD τ).loc b) := StableHlo.after hostOps0 (fun b => m (c, b)) b

/-- The reshapes need no buffer of their own. -/
theorem hostOps0_fresh : (hostOps0 : List (HloOp τ sig (Elt F))).Forall fun op => op.fresh = ∅ := by
  simp only [List.Forall]; repeat' constructor

set_option maxHeartbeats 800000 in
/-- The program is the reshapes and then the pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshapes leave argument 0 alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- The reshapes leave argument 1 alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- The reshapes leave argument 2 alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- The reshapes leave argument 3 alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- The reshapes leave argument 4 alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The reshapes leave argument 5 alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- The reshapes leave argument 6 alone. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-- The two tables' contents when the pipeline starts. -/
def tbl : pre0.Contents (Elt F) := fun j => V m (0 : Dev nD) (pre0.ref j)
/-- They are the same on every core, there being one. -/
theorem V_pre (c : Dev nD) (j : Fin 2) : V m c (pre0.ref j) = tbl m j := by
  obtain rfl : c = 0 := Subsingleton.elim _ _; rfl
/-- Every block that the tables' numbers name lies inside its array. -/
abbrev Ok : Prop := ok0 (F := F) (tbl m)
/-- The tables' contents, with the fact that they name blocks inside the arrays. -/
abbrev adm (hO : Ok m) : (pcfg0 (F := F)).Adm := ⟨tbl m, hO⟩
/-- The pipeline at these contents. -/
abbrev cfgM (hO : Ok m) : Pipeline.Cfg sig Λ₀ := cfg0 (adm m hO)

/-- The halves of the tables the body is lent, one by one. -/
theorem PhiT0_eq (c : Dev nD) : (Pipeline.ΦT pre0 (tbl m) c : sProp 𝕄) = iprop(tbPt c tabE (tbl m 0) ∗ tbPt c tabR (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the pipeline finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The body finds input window 0 at its block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The body finds input window 1 at its block. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body finds input window 2 at its block. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body finds input window 3 at its block. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The body finds input window 4 at its block. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The body finds input window 5 at its block. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body finds input window 6 at its block. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The schedule -/

/-- The first condition holds at the first of an item's eight points. -/
theorem hcond1 : ∀ t : Fin grid0.N, k0_cond1 (grid0.coords t) = 1#1 ↔ t.val % 8 = 0 := fun t => by
  have ht : t.val < 744 := Nat.lt_of_lt_of_eq t.isLt N_0
  have e1 : (grid0.coords t 1).val = t.val / 1 % 8 := Pipeline.Grid.coords_val t 1 (by decide) rfl
  simp only [k0_cond1, e1]
  word_cmp

/-- The result's block is written back after the last of an item's eight points. -/
theorem flush7 (a : (pcfg0 (F := F)).Adm) : ∀ t : Fin (cfg0 a).N, ((cfg0 a).win 7).flush t = true ↔ t.val % 8 = 7 :=
  (fun t => Pipeline.Window.flushOf_reads cc0_transform_7 reads0_7 hreads0_7 0 (by decide) (by decide) (Pipeline.Window.sep_of_coord cc0_transform_7 0 0 (fun _ => rfl) (by decide)) (P := 8) (m := 7) (by decide) rfl t : ∀ t : Fin grid0.N, Pipeline.Window.flushOf grid0 true cc0_transform_7 t = true ↔ t.val % 8 = 7)

/-- The row count as the schedule reads it is the row count as the body reads it. -/
theorem atD_rows (c : Dev nD) (i : grid0.Coords) : (tbl m).atD 1 (k0_off1 i) = rowsAt c (tbl m 1) i := by
  have h : ∀ a, k0_off1 i a + 1 ≤ (pre0.ref 1).ty.shape.size a := fun a => by
    obtain rfl : a = (0 : Fin 1) := Subsingleton.elim (α := Fin 1) _ _
    exact k0_off1_inb i 0
  unfold Pipeline.Prefetch.Contents.atD
  refine (dif_pos h).trans ?_
  unfold rowsAt View.readAt
  exact congrArg (tbl m 1) (funext fun a => Fin.ext (by
    obtain rfl : a = (0 : Fin 1) := Subsingleton.elim (α := Fin 1) _ _
    show k0_off1 i 0 = k0_off1 i 0 + 1 * 0
    omega))

/-- The result's window is left alone exactly at a later point of an item whose row count is not positive. -/
theorem idle7 (hO : Ok m) (c : Dev nD) (t : Fin (cfgM m hO).N) :
    (cfgM m hO).idle 7 (grid0.coords t) = true ↔ ¬t.val % 8 = 0 ∧ ¬k0_cond2 (rowsAt c (tbl m 1) (grid0.coords t)) = 1#1 := by
  have hc := hcond1 t
  rw [← atD_rows m c (grid0.coords t), ← hc]
  generalize hw : (tbl m).atD 1 (k0_off1 (grid0.coords t)) = w
  have h23 : k0_cond3 w = k0_cond2 w := rfl
  show (!(k0_cond1 (grid0.coords t) == 1#1) && !(k0_cond2 ((tbl m).atD 1 (k0_off1 (grid0.coords t))) == 1#1 && k0_cond3 ((tbl m).atD 1 (k0_off1 (grid0.coords t))) == 1#1) && !(k0_cond2 ((tbl m).atD 1 (k0_off1 (grid0.coords t))) == 1#1 && k0_cond4 ((tbl m).atD 1 (k0_off1 (grid0.coords t))) == 1#1)) = true ↔ _
  rw [hw, h23]
  by_cases h1 : k0_cond1 (grid0.coords t) = 1#1 <;> by_cases h2 : k0_cond2 w = 1#1 <;> simp [h1, h2]

/-- The kernel body at point `t`. -/
abbrev bodyAt (a : (pcfg0 (F := F)).Adm) (t : Fin (cfg0 a).N) : Prog (TpuEff nD τ sig (Elt F) Λ₀ .tc) PUnit :=
  cc0_moe_experts (grid0.coords t) tabE (Memref.isWhole_whole _) tabR (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-! ## What the result's block holds -/

/-- The result's block after point `n`: the bias and then, over what the point before left, the chunk's product where the row count reaches. -/
def outsAt (hO : Ok m) (c : Dev nD) : (n : ℕ) → n < (cfgM m hO).N → Vec F S1088x2048 .f32
  | 0, hn => accum (rowsAt c (tbl m 1) (grid0.coords ⟨0, hn⟩)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (k0_pay1 (iblk m hO c 6 ⟨0, hn⟩))
  | n + 1, hn =>
    if (n + 1) % 8 = 0 then accum (rowsAt c (tbl m 1) (grid0.coords ⟨n + 1, hn⟩)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (k0_pay1 (iblk m hO c 6 ⟨n + 1, hn⟩))
    else accum (rowsAt c (tbl m 1) (grid0.coords ⟨n + 1, hn⟩)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (outsAt hO c n (Nat.lt_of_succ_lt hn))

/-- At an item's first point. -/
theorem outsAt_A (hO : Ok m) (c : Dev nD) (t : Fin (cfgM m hO).N) (h0 : t.val % 8 = 0) :
    outsAt m hO c t.val t.isLt = accum (rowsAt c (tbl m 1) (grid0.coords t)) (iblk m hO c 0 t) (iblk m hO c 1 t) (iblk m hO c 2 t) (iblk m hO c 3 t) (iblk m hO c 4 t) (iblk m hO c 5 t) (k0_pay1 (iblk m hO c 6 t)) := by
  obtain ⟨n, hn⟩ := t
  cases n with
  | zero => exact rfl
  | succ n => exact (if_pos h0).trans rfl

/-- At an item's later points. -/
theorem outsAt_B (hO : Ok m) (c : Dev nD) (t : Fin (cfgM m hO).N) (h0 : ¬t.val % 8 = 0) :
    outsAt m hO c t.val t.isLt = accum (rowsAt c (tbl m 1) (grid0.coords t)) (iblk m hO c 0 t) (iblk m hO c 1 t) (iblk m hO c 2 t) (iblk m hO c 3 t) (iblk m hO c 4 t) (iblk m hO c 5 t) (outsAt m hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- A row count that is not positive leaves the block as it was. -/
theorem outsAt_idle (hO : Ok m) (c : Dev nD) (t : Fin (cfgM m hO).N) (h0 : ¬t.val % 8 = 0) (h2 : ¬k0_cond2 (rowsAt c (tbl m 1) (grid0.coords t)) = 1#1) :
    outsAt m hO c t.val t.isLt = outsAt m hO c (t.val - 1) (Nat.lt_of_le_of_lt (Nat.sub_le _ _) t.isLt) := by
  rw [outsAt_B m hO c t h0]; unfold accum; rw [if_neg h2]

/-! ## The pipeline's proof data -/

/-- The arrays as the pipeline finds them; after a point each input's buffer at its block and the result's at `outsAt`; an
    array that two windows read is shared between them. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outsAt m hO c t.val t.isLt
  Φ _ := iprop(Pipeline.ΦA spec0 c ∗ Pipeline.ΦT pre0 (tbl m) c)
  q w := Pipeline.shareOf spec0 w
  owed _ := 0

/-- The arrays of the proof data are those the pipeline finds. -/
theorem A_eq (hO : Ok m) (c : Dev nD) (w : Fin (cfgM m hO).W) : (dats m hO 0 c).A w = V m c (Pipeline.arrRef spec0 w) := by
  dsimp only [dats]

/-- After a point input window 0 holds its block. -/
theorem after0_0 (hO : Ok m) (c : Dev nD) (t : Fin (cfgM m hO).N) : (dats m hO 0 c).after 0 t = iblk m hO c 0 t := by dsimp only [dats]; try rfl
/-- Before a point input window 0 holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-- After a point input window 1 holds its block. -/
theorem after0_1 (hO : Ok m) (c : Dev nD) (t : Fin (cfgM m hO).N) : (dats m hO 0 c).after 1 t = iblk m hO c 1 t := by dsimp only [dats]; try rfl
/-- Before a point input window 1 holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- After a point input window 2 holds its block. -/
theorem after0_2 (hO : Ok m) (c : Dev nD) (t : Fin (cfgM m hO).N) : (dats m hO 0 c).after 2 t = iblk m hO c 2 t := by dsimp only [dats]; try rfl
/-- Before a point input window 2 holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-- After a point input window 3 holds its block. -/
theorem after0_3 (hO : Ok m) (c : Dev nD) (t : Fin (cfgM m hO).N) : (dats m hO 0 c).after 3 t = iblk m hO c 3 t := by dsimp only [dats]; try rfl
/-- Before a point input window 3 holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- After a point input window 4 holds its block. -/
theorem after0_4 (hO : Ok m) (c : Dev nD) (t : Fin (cfgM m hO).N) : (dats m hO 0 c).after 4 t = iblk m hO c 4 t := by dsimp only [dats]; try rfl
/-- Before a point input window 4 holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- After a point input window 5 holds its block. -/
theorem after0_5 (hO : Ok m) (c : Dev nD) (t : Fin (cfgM m hO).N) : (dats m hO 0 c).after 5 t = iblk m hO c 5 t := by dsimp only [dats]; try rfl
/-- Before a point input window 5 holds its block. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-- After a point input window 6 holds its block. -/
theorem after0_6 (hO : Ok m) (c : Dev nD) (t : Fin (cfgM m hO).N) : (dats m hO 0 c).after 6 t = iblk m hO c 6 t := by dsimp only [dats]; try rfl
/-- Before a point input window 6 holds its block. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- After a point the result's window holds `outsAt`. -/
theorem after0_7 (hO : Ok m) (c : Dev nD) (t : Fin (cfgM m hO).N) : (dats m hO 0 c).after 7 t = outsAt m hO c t.val t.isLt := by dsimp only [dats]; try rfl

/-- The result's buffer holds nothing of an item's before the item's first point. -/
theorem fresh7 (hO : Ok m) (c : Dev nD) (n : ℕ) (hn : n ≤ (cfgM m hO).N) : (cfgM m hO).fresh 7 n = decide (n % 8 = 0) := by
  refine (cfgM m hO).fresh_tab 7 (fun n => decide (n % 8 = 0)) rfl (fun t => ?_) n hn
  have hf := flush7 (adm m hO) t
  have hi := idle7 m hO c t
  by_cases h7 : t.val % 8 = 7
  · rw [hf.mpr h7, Bool.true_or]
    exact decide_eq_true (by omega)
  · rw [Bool.eq_false_iff.mpr fun h => h7 (hf.mp h), Bool.false_or]
    by_cases h0 : t.val % 8 = 0
    · rw [show (cfgM m hO).idle 7 ((cfgM m hO).grid.coords t) = false from Bool.eq_false_iff.mpr fun h => (hi.mp h).1 h0, Bool.false_and]
      exact decide_eq_false (by omega)
    · rw [show decide (t.val % 8 = 0) = false from decide_eq_false h0, Bool.and_false]
      exact decide_eq_false (by omega)

/-- At an item's later points the body finds in the result's buffer what the point before left. -/
theorem before0_7 (hO : Ok m) (c : Dev nD) (t : Fin (cfgM m hO).N) (h0 : ¬t.val % 8 = 0) (d) :
    (dats m hO 0 c).before 7 t d = outsAt m hO c (t.val - 1) (Nat.lt_of_le_of_lt (Nat.sub_le _ _) t.isLt) := by
  rw [Dat.before_out_traj _ 7 rfl (fun _ _ => rfl) (fun t ht hi hfr => ?_) t.val t rfl d, fresh7 m hO c _ (le_of_lt t.isLt), if_neg (by simpa using h0)]
  · exact after0_7 m hO c _
  · rw [after0_7, after0_7]
    obtain ⟨h1, h2⟩ := (idle7 m hO c t).mp hi
    exact outsAt_idle m hO c t h1 h2

/-- Window 0's buffer at point `t`. -/
abbrev ms0 (hO : Ok m) (t : Fin (cfgM m hO).N) : Memref sig .tc .vmem S1088x2048 .f32 := spec0_0.stage ((cfgM m hO).slots t 0)

/-- Window 1's buffer at point `t`. -/
abbrev ms1 (hO : Ok m) (t : Fin (cfgM m hO).N) : Memref sig .tc .vmem S1x2048x256 .f32 := spec0_1.stage ((cfgM m hO).slots t 1)

/-- Window 2's buffer at point `t`. -/
abbrev ms2 (hO : Ok m) (t : Fin (cfgM m hO).N) : Memref sig .tc .vmem S1x2048x256 .f32 := spec0_2.stage ((cfgM m hO).slots t 2)

/-- Window 3's buffer at point `t`. -/
abbrev ms3 (hO : Ok m) (t : Fin (cfgM m hO).N) : Memref sig .tc .vmem S1x1x256 .f32 := spec0_3.stage ((cfgM m hO).slots t 3)

/-- Window 4's buffer at point `t`. -/
abbrev ms4 (hO : Ok m) (t : Fin (cfgM m hO).N) : Memref sig .tc .vmem S1x1x256 .f32 := spec0_4.stage ((cfgM m hO).slots t 4)

/-- Window 5's buffer at point `t`. -/
abbrev ms5 (hO : Ok m) (t : Fin (cfgM m hO).N) : Memref sig .tc .vmem S1x256x2048 .f32 := spec0_5.stage ((cfgM m hO).slots t 5)

/-- Window 6's buffer at point `t`. -/
abbrev ms6 (hO : Ok m) (t : Fin (cfgM m hO).N) : Memref sig .tc .vmem S1x1x2048 .f32 := spec0_6.stage ((cfgM m hO).slots t 6)

/-- Window 7's buffer at point `t`. -/
abbrev ms7 (hO : Ok m) (t : Fin (cfgM m hO).N) : Memref sig .tc .vmem S1088x2048 .f32 := spec0_7.stage ((cfgM m hO).slots t 7)

/-- What the pipeline asks of the result's buffer after point `t`. -/
def post7 (hO : Ok m) (c : Dev nD) (t : Fin (cfgM m hO).N) : sProp 𝕄 :=
  (match (cfgM m hO).idle 7 ((cfgM m hO).grid.coords t) with
      | true =>
        match ((cfgM m hO).win 7).flush t with
        | false => iprop(∃ d, owns (c : Thread nD τ) (ms7 m hO t) fullShare ((dats m hO 0 c).before 7 t d))
        | true => owns (c : Thread nD τ) (ms7 m hO t) fullShare ((dats m hO 0 c).after 7 t)
      | false => owns (c : Thread nD τ) (ms7 m hO t) fullShare ((dats m hO 0 c).after 7 t))

/-- What the body leaves in the result's buffer is what the pipeline asks of it. -/
theorem leaves7 (hO : Ok m) (c : Dev nD) (t : Fin (cfgM m hO).N) :
    (owns (c : Thread nD τ) (ms7 m hO t) fullShare (outsAt m hO c t.val t.isLt) : sProp 𝕄) ⊢ post7 m hO c t := by
  unfold post7
  split
  · rename_i hi
    split
    · obtain ⟨h1, h2⟩ := (idle7 m hO c t).mp hi
      simp only [before0_7 m hO c t h1]
      rw [outsAt_idle m hO c t h1 h2]
      iintro H
      iexists (outsAt m hO c t.val t.isLt)
      iexact H
    · rw [after0_7]
  · rw [after0_7]

/-- What the body is called with at point `t`. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d))
    ∗ (∃ d, owns (c : Thread nD τ) (ms7 m hO t) fullShare ((dats m hO 0 c).before 7 t d)))

/-- What the body returns at point `t`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t)
    ∗ post7 m hO c t)

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  have hL := leaves7 m hO c t
  by_cases h0 : t.val % 8 = 0
  · rw [outsAt_A m hO c t h0] at hL
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ ((hcond1 t).mpr h0) (iblk m hO c 0 t) (iblk m hO c 1 t) (iblk m hO c 2 t) (iblk m hO c 3 t) (iblk m hO c 4 t) (iblk m hO c 5 t) (iblk m hO c 6 t) (tbl m 0) (tbl m 1) ((dats m hO 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hL; iexact H7
  · rw [outsAt_B m hO c t h0] at hL
    simp only [before0_7 m hO c t h0]
    iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid0.coords t) _ _ _ _ _ _ _ _ _ _ _ _ _ _ _ _ (fun h => h0 ((hcond1 t).mp h)) (iblk m hO c 0 t) (iblk m hO c 1 t) (iblk m hO c 2 t) (iblk m hO c 3 t) (iblk m hO c 4 t) (iblk m hO c 5 t) (iblk m hO c 6 t) (tbl m 0) (tbl m 1) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HT0]; · iexact HT0
    isplitl [HT1]; · iexact HT1
    iintro ⟨H0, H1, H2, H3, H4, H5, H6, H7, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply hL; iexact H7

/-- The body table's row is the body. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- What the pipeline asks of the body, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- The program runs: it ends with every array of the pipeline at what the proof data say, every other buffer as the
    pipeline found it, and every semaphore at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The arguments end as they began, and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (by decide : main_arg0 ∈ Pipeline.restRefs sig spec0) |>.trans (V_main_arg0 m c),
      ((h.1 c).2 main_arg1 (by decide : main_arg1 ∈ Pipeline.restRefs sig spec0)).trans (V_main_arg1 m c),
      ((h.1 c).1 0).trans (((dats m hO 0 c).arrAt_in 0 rfl _).trans ((A_eq m hO c 0).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩) (run_quiescent m ρ hO)

end Cert.ExpertsIdeal.Hand

end
-- ==== Proof.ExpertsIdealPre.lean ====
module

public import proofs.«01_k».proof.Defs
public import proofs.«01_k».proof.Proof.ExpertsIdealFrame
public import Idealize.ShloMosaic.Lib.ReduceAll

@[expose] public section

set_option maxRecDepth 16384

noncomputable section

/-! # The blocks the tables' numbers name lie inside their arrays -/

namespace Cert.ExpertsIdeal.Hand

open Cert.ExpertsIdeal.Gen
open Idealize.ShloMosaic Idealize.ShloMosaic.TcCoe Idealize.SL.Sem

variable {F : FTy → Type} [FloatOps F]

/-- The chunk that a point works on: its second coordinate, or the last chunk where the row count is not positive. -/
def chunkOf (w : BitVec 32) (i : grid0.Coords) : BitVec 32 :=
  Scalar.select (Scalar.cmpi .sgt w 0#32) (BitVec.ofNat 32 (i 1).val) 7#32

/-- There are eight chunks. -/
theorem chunkOf_lt (w : BitVec 32) (i : grid0.Coords) : (chunkOf w i).toNat < 8 := by
  have h1 : (i 1).val < 8 := (i 1).isLt
  unfold chunkOf Scalar.select
  split
  · rw [BitVec.toNat_ofNat]; omega
  · decide

/-- Eight more than a chunk's number. -/
theorem chunkOf_add (w : BitVec 32) (i : grid0.Coords) : (Scalar.addi 8#32 (chunkOf w i)).toNat = 8 + (chunkOf w i).toNat := by
  have h1 := chunkOf_lt w i
  show (8#32 + chunkOf w i).toNat = _
  rw [BitVec.toNat_add, BitVec.toNat_ofNat]
  omega

/-- The expert number that a point's item names in the tables. -/
def expertAt (pf : pre0.Contents (Elt F)) (i : grid0.Coords) : BitVec 32 := pf.at 0 (Rect.unit (s := S93) (k0_off1 i) S1.size (k0_off1_inb i)) numel1_S1
/-- The row count that a point's item names in the tables. -/
def countAt (pf : pre0.Contents (Elt F)) (i : grid0.Coords) : BitVec 32 := pf.at 1 (Rect.unit (s := S93) (k0_off1 i) S1.size (k0_off1_inb i)) numel1_S1

/-- The block of the first weights' first half. -/
theorem tr1 (pf : pre0.Contents (Elt F)) (i : grid0.Coords) : cc0_transform_1 k0_off1_inb numel1_S1 pf i = ![(expertAt pf i).toNat, 0, (chunkOf (countAt pf i) i).toNat] := rfl
/-- The block of the first weights' second half. -/
theorem tr2 (pf : pre0.Contents (Elt F)) (i : grid0.Coords) : cc0_transform_2 k0_off1_inb numel1_S1 pf i = ![(expertAt pf i).toNat, 0, 8 + (chunkOf (countAt pf i) i).toNat] := by
  rw [← chunkOf_add]; rfl
/-- The block of the first bias's first half. -/
theorem tr3 (pf : pre0.Contents (Elt F)) (i : grid0.Coords) : cc0_transform_3 k0_off1_inb numel1_S1 pf i = ![(expertAt pf i).toNat, 0, (chunkOf (countAt pf i) i).toNat] := rfl
/-- The block of the first bias's second half. -/
theorem tr4 (pf : pre0.Contents (Elt F)) (i : grid0.Coords) : cc0_transform_4 k0_off1_inb numel1_S1 pf i = ![(expertAt pf i).toNat, 0, 8 + (chunkOf (countAt pf i) i).toNat] := by
  rw [← chunkOf_add]; rfl
/-- The block of the second weights. -/
theorem tr5 (pf : pre0.Contents (Elt F)) (i : grid0.Coords) : cc0_transform_5 k0_off1_inb numel1_S1 pf i = ![(expertAt pf i).toNat, (chunkOf (countAt pf i) i).toNat, 0] := rfl
/-- The block of the second bias. -/
theorem tr6 (pf : pre0.Contents (Elt F)) (i : grid0.Coords) : cc0_transform_6 k0_off1_inb numel1_S1 pf i = ![(expertAt pf i).toNat, 0, 0] := rfl

/-- Three bounds, one for each axis. -/
theorem bound3 {k s d : Fin 3 → ℕ} (h0 : (k 0 + 1) * s 0 ≤ d 0) (h1 : (k 1 + 1) * s 1 ≤ d 1) (h2 : (k 2 + 1) * s 2 ≤ d 2) : ∀ a, (k a + 1) * s a ≤ d a :=
  fun a => match a with
    | ⟨0, _⟩ => h0
    | ⟨1, _⟩ => h1
    | ⟨2, _⟩ => h2
    | ⟨_ + 3, h⟩ => absurd h (Nat.not_lt.2 (Nat.le_add_left _ _))

/-- If every expert number is below 32, every block the tables name lies inside its array. -/
theorem ok_of (m : (ℓ : Loc nD τ sig) → Buf (Elt F) ℓ) (hE : ∀ idx : S93.Idx, (BitVec.toNat (w := 32) (tbl m 0 idx)) < 32) : Ok m := by
  have e : ∀ i, (expertAt (tbl m) i).toNat < 32 := fun i => hE _
  have h : ∀ i, (chunkOf (countAt (tbl m) i) i).toNat < 8 := fun i => chunkOf_lt _ i
  refine ⟨fun i => ⟨?_, .inl rfl⟩, fun i => ⟨?_, .inl rfl⟩, fun i => ⟨?_, .inl rfl⟩, fun i => ⟨?_, .inl rfl⟩, fun i => ⟨?_, .inl rfl⟩, fun i => ⟨?_, .inl rfl⟩⟩
  · rw [tr1]
    have e := e i
    have h := h i
    refine bound3 ?_ ?_ ?_
    · show ((expertAt (tbl m) i).toNat + 1) * 1 ≤ 32; omega
    · show (0 + 1) * 2048 ≤ 2048; omega
    · show ((chunkOf (countAt (tbl m) i) i).toNat + 1) * 256 ≤ 4096; omega
  · rw [tr2]
    have e := e i
    have h := h i
    refine bound3 ?_ ?_ ?_
    · show ((expertAt (tbl m) i).toNat + 1) * 1 ≤ 32; omega
    · show (0 + 1) * 2048 ≤ 2048; omega
    · show (8 + (chunkOf (countAt (tbl m) i) i).toNat + 1) * 256 ≤ 4096; omega
  · rw [tr3]
    have e := e i
    have h := h i
    refine bound3 ?_ ?_ ?_
    · show ((expertAt (tbl m) i).toNat + 1) * 1 ≤ 32; omega
    · show (0 + 1) * 1 ≤ 1; omega
    · show ((chunkOf (countAt (tbl m) i) i).toNat + 1) * 256 ≤ 4096; omega
  · rw [tr4]
    have e := e i
    have h := h i
    refine bound3 ?_ ?_ ?_
    · show ((expertAt (tbl m) i).toNat + 1) * 1 ≤ 32; omega
    · show (0 + 1) * 1 ≤ 1; omega
    · show (8 + (chunkOf (countAt (tbl m) i) i).toNat + 1) * 256 ≤ 4096; omega
  · rw [tr5]
    have e := e i
    have h := h i
    refine bound3 ?_ ?_ ?_
    · show ((expertAt (tbl m) i).toNat + 1) * 1 ≤ 32; omega
    · show ((chunkOf (countAt (tbl m) i) i).toNat + 1) * 256 ≤ 2048; omega
    · show (0 + 1) * 2048 ≤ 2048; omega
  · rw [tr6]
    have e := e i
    have h := h i
    refine bound3 ?_ ?_ ?_
    · show ((expertAt (tbl m) i).toNat + 1) * 1 ≤ 32; omega
    · show (0 + 1) * 1 ≤ 1; omega
    · show (0 + 1) * 2048 ≤ 2048; omega

/-- A word that is at least 0 and below 32, both signed, is below 32 unsigned. -/
theorem word_lt (x : BitVec 32) (h0 : IntOp.cmpi .sge x 0#32 = 1#1) (h1 : IntOp.cmpi .slt x 32#32 = 1#1) : x.toNat < 32 := by
  have e0 : (0#32).sle x = true := by
    by_contra hc
    have h := h0
    simp only [IntOp.cmpi] at h
    rw [Bool.eq_false_iff.mpr hc] at h
    exact absurd h (by decide)
  have e1 : x.slt 32#32 = true := by
    by_contra hc
    have h := h1
    simp only [IntOp.cmpi] at h
    rw [Bool.eq_false_iff.mpr hc] at h
    exact absurd h (by decide)
  simp only [BitVec.sle, BitVec.slt, decide_eq_true_eq, BitVec.toInt, BitVec.toNat_ofNat] at e0 e1
  have := x.isLt
  split_ifs at e0 e1 <;> omega

/-- Two conditions that hold together hold each. -/
theorem both (a b : BitVec 1) (h : IntOp.andi a b = 1#1) : a = 1#1 ∧ b = 1#1 := by
  revert a b; unfold IntOp.andi; decide

/-- The precondition's function, one at its only index, bounds every expert number. -/
theorem numbers_lt [Cert.Pre_expert_numbers.Facts] (x0 x1 : IVec Cert.Pre_expert_numbers.S93 32) (x2 : FVec F Cert.Pre_expert_numbers.S101184x2048 .f32)
    (x3 : FVec F Cert.Pre_expert_numbers.S1x32x2048x4096 .f32) (x4 : FVec F Cert.Pre_expert_numbers.S1x32x4096 .f32) (x5 : FVec F Cert.Pre_expert_numbers.S1x32x2048x2048 .f32) (x6 : FVec F Cert.Pre_expert_numbers.S1x32x2048 .f32)
    (h : Cert.Pre_expert_numbers.fn (F := F) x0 x1 x2 x3 x4 x5 x6 = fun _ => 1#1) (idx : Cert.Pre_expert_numbers.S93.Idx) : (x0 idx).toNat < 32 := by
  haveI : Subsingleton Cert.Pre_expert_numbers.S_.Idx := ⟨fun a b => funext fun i => i.elim0⟩
  have h' := congrFun h (fun i => i.elim0)
  simp only [Cert.Pre_expert_numbers.fn] at h'
  have e := Host.reduce_andi_all _ _ _ _ _ h' idx
  simp only [andi, cmpi, constantI, broadcastInDim] at e
  exact word_lt _ (both _ _ e).1 (both _ _ e).2

/-- Every expert number is below 32. -/
theorem numbers_of_pre [Cert.Pre_expert_numbers.Facts] (m : (ℓ : Loc nD τ sig) → Buf (Elt Ideal) ℓ) (h : Cert.Pre_ExpertsIdeal m) (idx : S93.Idx) :
    (BitVec.toNat (w := 32) (m (((0 : Dev nD) : Thread nD τ).loc main_arg0) idx)) < 32 :=
  numbers_lt _ _ _ _ _ _ _ (h 0) idx

/-- Under the precondition every block the tables name lies inside its array. -/
theorem ok_of_pre [Cert.Pre_expert_numbers.Facts] (m : (ℓ : Loc nD τ sig) → Buf (Elt Ideal) ℓ) (h : Cert.Pre_ExpertsIdeal m) : Ok m :=
  ok_of m fun idx => by
    have e : tbl m 0 = m (((0 : Dev nD) : Thread nD τ).loc main_arg0) := V_main_arg0 m 0
    rw [e]; exact numbers_of_pre m h idx

end Cert.ExpertsIdeal.Hand

end
-- ==== Proof.ExpertsPay.lean ====
/- The values the experts' body stores, entry by entry. -/
module

public import proofs.«01_k».proof.Proof.ExpertsIdealRun
public import Idealize.ShloMosaic.Lib.Pipeline.ValueKit
public import Idealize.ShloMosaic.Lib.Pointwise

@[expose] public section

set_option maxRecDepth 16384

noncomputable section

namespace Cert.ExpertsIdeal.Norm

open Cert.ExpertsIdeal Cert.ExpertsIdeal.Gen Cert.ExpertsIdeal.Hand Idealize.ShloMosaic Idealize.ShloMosaic.TcCoe Idealize.SL.Sem

/-- The gated activation of one hidden feature, of the two halves' sums `p` and `g`. -/
def gate (p g : EReal) : EReal :=
  (min (Ideal.ofBits .f32 0x40E00000#32) (max (Ideal.ofBits .f32 0xC0E00000#32) g) + Ideal.ofBits .f32 0x3F800000#32)
      * min p (Ideal.ofBits .f32 0x40E00000#32)
    * Ideal.div (Ideal.ofBits .f32 0x3F800000#32) (Ideal.ofBits .f32 0x3F800000#32
      + Ideal.exp (-(Ideal.ofBits .f32 0x3FD9DB23#32 * min p (Ideal.ofBits .f32 0x40E00000#32))))

/-- The activation of one hidden feature of a row `x`, by the feature's two columns and two biases. -/
def act (x wp wg : Fin 2048 → EReal) (bp bg : EReal) : EReal :=
  gate ((∑ l : Fin 2048, x l * wp l) + bp) ((∑ l : Fin 2048, x l * wg l) + bg)

/-- The bias copied into every row. -/
theorem pay1_at (v : Vec Ideal S1x1x2048 .f32) (r : Fin 1088) (d : Fin 2048) : k0_pay1 (F := Ideal) v (ix2 r d) = v (ix3 0 0 d) := by
  pointwise [k0_pay1]

set_option maxHeartbeats 1000000 in
/-- The first 544 rows with the chunk's product added. -/
theorem pay5_at (x1 x2 : Vec Ideal S1x2048x256 .f32) (x5 : Vec Ideal S1x256x2048 .f32) (u : Vec Ideal S544x2048 .f32) (x3 x4 : Vec Ideal S1x1x256 .f32) (b : Vec Ideal S544x2048 .f32)
    (r : Fin 544) (d : Fin 2048) :
    k0_pay5 (F := Ideal) (k0_pay2 x1) (k0_pay3 x2) (k0_pay4 x5) u x3 x4 b (ix2 r d) = b (ix2 r d)
      + ∑ f : Fin 256, act (fun l => u (ix2 r l)) (fun l => x1 (ix3 0 l f)) (fun l => x2 (ix3 0 l f)) (x3 (ix3 0 0 f)) (x4 (ix3 0 0 f)) * x5 (ix3 0 f d) := by
  pointwise [k0_pay5, k0_pay2, k0_pay3, k0_pay4, act, gate]
  simp only [zero_sub]

set_option maxHeartbeats 1000000 in
/-- The last 544 rows with the chunk's product added. -/
theorem pay6_at (x1 x2 : Vec Ideal S1x2048x256 .f32) (x5 : Vec Ideal S1x256x2048 .f32) (u : Vec Ideal S544x2048 .f32) (x3 x4 : Vec Ideal S1x1x256 .f32) (b : Vec Ideal S544x2048 .f32)
    (r : Fin 544) (d : Fin 2048) :
    k0_pay6 (F := Ideal) (k0_pay2 x1) (k0_pay3 x2) (k0_pay4 x5) u x3 x4 b (ix2 r d) = b (ix2 r d)
      + ∑ f : Fin 256, act (fun l => u (ix2 r l)) (fun l => x1 (ix3 0 l f)) (fun l => x2 (ix3 0 l f)) (x3 (ix3 0 0 f)) (x4 (ix3 0 0 f)) * x5 (ix3 0 f d) := by
  pointwise [k0_pay6, k0_pay2, k0_pay3, k0_pay4, act, gate]
  simp only [zero_sub]

/-- A count that is above a row's number is a positive one. -/
theorem cond2_of (w : BitVec 32) (h : 0 < w.toInt) : k0_cond2 w = 1#1 := by
  unfold k0_cond2
  have e : Scalar.cmpi .sgt w 0#32 = 1#1 := by
    show BitVec.ofBool (BitVec.slt 0#32 w) = 1#1
    rw [BitVec.slt, decide_eq_true (by simpa using h)]; rfl
  dsimp only
  rw [e]; decide

/-- A count that is above 544 reaches the last rows. -/
theorem cond4_of (w : BitVec 32) (h : 544 < w.toInt) : k0_cond4 w = 1#1 := by
  unfold k0_cond4
  have e : Scalar.cmpi .sgt w 544#32 = 1#1 := by
    show BitVec.ofBool (BitVec.slt 544#32 w) = 1#1
    rw [BitVec.slt, decide_eq_true (by simpa using h)]; rfl
  dsimp only
  rw [e]; decide

/-- At a row below the row count, a point adds its chunk's product. -/
theorem accum_at (w : BitVec 32) (x0 : Vec Ideal S1088x2048 .f32) (x1 x2 : Vec Ideal S1x2048x256 .f32) (x3 x4 : Vec Ideal S1x1x256 .f32) (x5 : Vec Ideal S1x256x2048 .f32) (b : Vec Ideal S1088x2048 .f32)
    (r : Fin 1088) (d : Fin 2048) (hr : (r.val : ℤ) < w.toInt) :
    accum (F := Ideal) w x0 x1 x2 x3 x4 x5 b (ix2 r d) = b (ix2 r d)
      + ∑ f : Fin 256, act (fun l => x0 (ix2 r l)) (fun l => x1 (ix3 0 l f)) (fun l => x2 (ix3 0 l f)) (x3 (ix3 0 0 f)) (x4 (ix3 0 0 f)) * x5 (ix3 0 f d) := by
  have h2 := cond2_of w (by omega)
  have top : ∀ (r' : Fin 544) (q : Fin 1088), q.val = r'.val → ∀ (x : Vec Ideal S1088x2048 .f32) (l : Fin 2048),
      VecWindow.window x ![0, 0] S544x2048.size inb_S1088x2048_S544x2048_0_0 (ix2 r' l) = x (ix2 q l) := fun r' q hq x l => by
    show x _ = x _
    congr 1
    funext a
    refine Fin.ext ?_
    match a with
    | ⟨0, _⟩ => show 0 + 1 * r'.val = q.val; omega
    | ⟨1, _⟩ => show 0 + 1 * l.val = l.val; omega
  have bot : ∀ (r' : Fin 544) (q : Fin 1088), q.val = 544 + r'.val → ∀ (x : Vec Ideal S1088x2048 .f32) (l : Fin 2048),
      VecWindow.window x ![544, 0] S544x2048.size inb_S1088x2048_S544x2048_544_0 (ix2 r' l) = x (ix2 q l) := fun r' q hq x l => by
    show x _ = x _
    congr 1
    funext a
    refine Fin.ext ?_
    match a with
    | ⟨0, _⟩ => show 544 + 1 * r'.val = q.val; omega
    | ⟨1, _⟩ => show 0 + 1 * l.val = l.val; omega
  unfold accum
  rw [if_pos h2]
  by_cases hlt : r.val < 544
  · have e : VecWindow.put b ![0, 0] S544x2048.size (topRows x0 x1 x2 x3 x4 x5 b) (ix2 r d) = topRows x0 x1 x2 x3 x4 x5 b (ix2 ⟨r.val, hlt⟩ d) := by
      unfold VecWindow.put
      rw [dif_pos (fun a => by
        match a with
        | ⟨0, _⟩ => exact ⟨Nat.zero_le _, by show r.val < 0 + 544; omega⟩
        | ⟨1, _⟩ => exact ⟨Nat.zero_le _, by show d.val < 0 + 2048; omega⟩)]
      congr 1
      funext a
      refine Fin.ext ?_
      match a with
      | ⟨0, _⟩ => show r.val - 0 = r.val; omega
      | ⟨1, _⟩ => show d.val - 0 = d.val; omega
    have e' : topRows x0 x1 x2 x3 x4 x5 b (ix2 ⟨r.val, hlt⟩ d) = b (ix2 r d)
        + ∑ f : Fin 256, act (fun l => x0 (ix2 r l)) (fun l => x1 (ix3 0 l f)) (fun l => x2 (ix3 0 l f)) (x3 (ix3 0 0 f)) (x4 (ix3 0 0 f)) * x5 (ix3 0 f d) := by
      unfold topRows
      rw [pay5_at, top ⟨r.val, hlt⟩ r rfl]
      simp only [top ⟨r.val, hlt⟩ r rfl]
    split
    · rw [← e', ← e]
      unfold VecWindow.put
      rw [dif_neg (fun h => by have := (h ⟨0, by decide⟩).1; have : 544 ≤ r.val := this; omega)]
    · rw [e, e']
  · have hr' : r.val - 544 < 544 := by omega
    have h4 := cond4_of w (by omega)
    rw [if_pos h4]
    have e : VecWindow.put (VecWindow.put b ![0, 0] S544x2048.size (topRows x0 x1 x2 x3 x4 x5 b)) ![544, 0] S544x2048.size (botRows x0 x1 x2 x3 x4 x5 b) (ix2 r d)
        = botRows x0 x1 x2 x3 x4 x5 b (ix2 ⟨r.val - 544, hr'⟩ d) := by
      conv_lhs => unfold VecWindow.put
      rw [dif_pos (fun a => by
        match a with
        | ⟨0, _⟩ => exact ⟨by show 544 ≤ r.val; omega, by show r.val < 544 + 544; omega⟩
        | ⟨1, _⟩ => exact ⟨Nat.zero_le _, by show d.val < 0 + 2048; omega⟩)]
      congr 1
      funext a
      refine Fin.ext ?_
      match a with
      | ⟨0, _⟩ => show r.val - 544 = r.val - 544; omega
      | ⟨1, _⟩ => show d.val - 0 = d.val; omega
    rw [e]
    unfold botRows
    have hq : r.val = 544 + (⟨r.val - 544, hr'⟩ : Fin 544).val := by show r.val = 544 + (r.val - 544); omega
    rw [pay6_at, bot ⟨r.val - 544, hr'⟩ r hq]
    simp only [bot ⟨r.val - 544, hr'⟩ r hq]

end Cert.ExpertsIdeal.Norm

end
-- ==== Proof.ExpertsRef.lean ====
/- The experts' reference, entry by entry. -/
module

public import proofs.«01_k».proof.Proof.Gen.ExpertsRefIdeal.Read
public import proofs.«01_k».proof.Proof.ExpertsPay
public import Idealize.ShloMosaic.Lib.ValueIdx

@[expose] public section

set_option maxRecDepth 16384

noncomputable section

namespace Cert.ExpertsIdeal.Norm

open Cert.ExpertsRefIdeal Cert.ExpertsRefIdeal.Gen Cert.ExpertsRefIdeal.Read Idealize.ShloMosaic Idealize.ShloMosaic.TcCoe Idealize.SL.Sem

/-- The dimension numbers of picking matrices of a stack by number. -/
abbrev stackDims (P Q : ℕ) (wf : GatherDims.WF ⟨3, ![32, P, Q]⟩ ⟨2, ![93, 1]⟩ ⟨3, ![93, P, Q]⟩ [1, 2] [0] [] [0] [] 1 ![1, P, Q]) :
    GatherDims ⟨3, ![32, P, Q]⟩ ⟨2, ![93, 1]⟩ ⟨3, ![93, P, Q]⟩ where
  offsetDims := [1, 2]
  collapsedSliceDims := [0]
  operandBatchingDims := []
  startIndicesBatchingDims := []
  startIndexMap := [0]
  indexVectorDim := 1
  sliceSizes := ![1, P, Q]
  wf := wf

/-- The dimension numbers of picking rows of a matrix by number. -/
abbrev rowDims (P : ℕ) (wf : GatherDims.WF ⟨2, ![32, P]⟩ ⟨2, ![93, 1]⟩ ⟨2, ![93, P]⟩ [1] [0] [] [0] [] 1 ![1, P]) :
    GatherDims ⟨2, ![32, P]⟩ ⟨2, ![93, 1]⟩ ⟨2, ![93, P]⟩ where
  offsetDims := [1]
  collapsedSliceDims := [0]
  operandBatchingDims := []
  startIndicesBatchingDims := []
  startIndexMap := [0]
  indexVectorDim := 1
  sliceSizes := ![1, P]
  wf := wf

/-- A number below 32 read signed and bounded by 31 is itself. -/
theorem bounded (w : BitVec 32) (e : Fin 32) (h : w.toNat = e.val) : min w.toInt.toNat 31 = e.val := by
  have := e.isLt
  have : w.toInt = (w.toNat : ℤ) := by
    rw [BitVec.toInt]; split_ifs <;> omega
  omega

/-- A matrix picked from a stack. -/
theorem stack_at {α : Type} (P Q : ℕ) (wf : GatherDims.WF ⟨3, ![32, P, Q]⟩ ⟨2, ![93, 1]⟩ ⟨3, ![93, P, Q]⟩ [1, 2] [0] [] [0] [] 1 ![1, P, Q])
    (x : (⟨3, ![32, P, Q]⟩ : Shape).Idx → α) (idx : IVec ⟨2, ![93, 1]⟩ 32) (i : Fin 93) (p : Fin P) (q : Fin Q) (e : Fin 32) (h : (idx (ix2 i 0)).toNat = e.val) :
    Host.gather (stackDims P Q wf) x idx (ix3 i p q) = x (ix3 e p q) := by
  unfold Host.gather
  congr 1
  funext a
  refine Fin.ext ?_
  show (stackDims P Q wf).start (ix3 i p q) idx a + (stackDims P Q wf).batchCoord (ix3 i p q) a + (stackDims P Q wf).offCoord (ix3 i p q) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    refine (dif_pos (show (0 : Fin 3) ∈ (stackDims P Q wf).startIndexMap from List.mem_singleton.mpr rfl)).trans ?_
    have hsi : (stackDims P Q wf).siIdx (ix3 i p q) ⟨List.idxOf (0 : Fin 3) (stackDims P Q wf).startIndexMap,
        List.idxOf_lt_length_iff.2 (List.mem_singleton.mpr rfl)⟩ = ix2 i 0 := by
      funext b; refine Fin.ext ?_
      match b with
      | ⟨0, _⟩ => rfl
      | ⟨1, _⟩ => rfl
    exact (congrArg (fun z => min (idx z).toInt.toNat 31) hsi).trans (bounded _ e h)
  | ⟨1, _⟩ =>
    have h0 : (stackDims P Q wf).start (ix3 i p q) idx (1 : Fin 3) = 0 := dif_neg (fun h => (by decide : ¬((1 : Fin 3) = 0)) (List.mem_singleton.mp h))
    show (stackDims P Q wf).start (ix3 i p q) idx (1 : Fin 3) + 0 + p.val = p.val
    rw [h0]
    omega
  | ⟨2, _⟩ =>
    have h0 : (stackDims P Q wf).start (ix3 i p q) idx (2 : Fin 3) = 0 := dif_neg (fun h => (by decide : ¬((2 : Fin 3) = 0)) (List.mem_singleton.mp h))
    show (stackDims P Q wf).start (ix3 i p q) idx (2 : Fin 3) + 0 + q.val = q.val
    rw [h0]
    omega

/-- A row picked from a matrix. -/
theorem row_at {α : Type} (P : ℕ) (wf : GatherDims.WF ⟨2, ![32, P]⟩ ⟨2, ![93, 1]⟩ ⟨2, ![93, P]⟩ [1] [0] [] [0] [] 1 ![1, P])
    (x : (⟨2, ![32, P]⟩ : Shape).Idx → α) (idx : IVec ⟨2, ![93, 1]⟩ 32) (i : Fin 93) (p : Fin P) (e : Fin 32) (h : (idx (ix2 i 0)).toNat = e.val) :
    Host.gather (rowDims P wf) x idx (ix2 i p) = x (ix2 e p) := by
  unfold Host.gather
  congr 1
  funext a
  refine Fin.ext ?_
  show (rowDims P wf).start (ix2 i p) idx a + (rowDims P wf).batchCoord (ix2 i p) a + (rowDims P wf).offCoord (ix2 i p) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    refine (dif_pos (show (0 : Fin 2) ∈ (rowDims P wf).startIndexMap from List.mem_singleton.mpr rfl)).trans ?_
    have hsi : (rowDims P wf).siIdx (ix2 i p) ⟨List.idxOf (0 : Fin 2) (rowDims P wf).startIndexMap,
        List.idxOf_lt_length_iff.2 (List.mem_singleton.mpr rfl)⟩ = ix2 i 0 := by
      funext b; refine Fin.ext ?_
      match b with
      | ⟨0, _⟩ => rfl
      | ⟨1, _⟩ => rfl
    exact (congrArg (fun z => min (idx z).toInt.toNat 31) hsi).trans (bounded _ e h)
  | ⟨1, _⟩ =>
    have h0 : (rowDims P wf).start (ix2 i p) idx (1 : Fin 2) = 0 := dif_neg (fun h => (by decide : ¬((1 : Fin 2) = 0)) (List.mem_singleton.mp h))
    show (rowDims P wf).start (ix2 i p) idx (1 : Fin 2) + 0 + p.val = p.val
    rw [h0]
    omega

variable (x0 : Vec Ideal S93 .i32) (x2 : Vec Ideal S101184x2048 .f32) (x3 : Vec Ideal S1x32x2048x4096 .f32) (x4 : Vec Ideal S1x32x4096 .f32) (x5 : Vec Ideal S1x32x2048x2048 .f32) (x6 : Vec Ideal S1x32x2048 .f32)

/-- A number below 32 is not negative. -/
theorem not_neg (w : BitVec 32) (h : w.toNat < 32) : IntOp.cmpi .slt w 0#32 = 0#1 := by
  have : w.slt 0#32 = false := by
    rw [BitVec.slt]
    refine decide_eq_false ?_
    have : w.toInt = (w.toNat : ℤ) := by
      rw [BitVec.toInt]; split_ifs <;> omega
    rw [this]
    simp
  simp only [IntOp.cmpi, this]; rfl

/-- The numbers of experts that the gathers pick by are those given. -/
theorem picks (i : Fin 93) (h : (x0 (ix1 i)).toNat < 32) :
    val_main_v10 (F := Ideal) x0 (ix2 i 0) = x0 (ix1 i) ∧ val_main_v18 (F := Ideal) x0 (ix2 i 0) = x0 (ix1 i)
      ∧ val_main_v45 (F := Ideal) x0 (ix2 i 0) = x0 (ix1 i) ∧ val_main_v53 (F := Ideal) x0 (ix2 i 0) = x0 (ix1 i) := by
  have hn := not_neg (x0 (ix1 i)) h
  have e10 : idx_main_v10 (ix2 i 0) = ix1 i := funext fun a => by obtain rfl : a = 0 := Subsingleton.elim (α := Fin 1) _ _; rfl
  have e18 : idx_main_v18 (ix2 i 0) = ix1 i := funext fun a => by obtain rfl : a = 0 := Subsingleton.elim (α := Fin 1) _ _; rfl
  have e45 : idx_main_v45 (ix2 i 0) = ix1 i := funext fun a => by obtain rfl : a = 0 := Subsingleton.elim (α := Fin 1) _ _; rfl
  have e53 : idx_main_v53 (ix2 i 0) = ix1 i := funext fun a => by obtain rfl : a = 0 := Subsingleton.elim (α := Fin 1) _ _; rfl
  refine ⟨?_, ?_, ?_, ?_⟩
  · rw [val_main_v10_apply, e10, val_main_v9_apply, val_main_v6_apply, val_main_v5_apply, val_main_c_apply, hn]; rfl
  · rw [val_main_v18_apply, e18, val_main_v17_apply, val_main_v14_apply, val_main_v13_apply, val_main_c_1_apply, hn]; rfl
  · rw [val_main_v45_apply, e45, val_main_v44_apply, val_main_v41_apply, val_main_v40_apply, val_main_c_9_apply, hn]; rfl
  · rw [val_main_v53_apply, e53, val_main_v52_apply, val_main_v49_apply, val_main_v48_apply, val_main_c_11_apply, hn]; rfl

/-- The picked first weights. -/
theorem v11_at (i : Fin 93) (l : Fin 2048) (f : Fin 4096) (e : Fin 32) (h : (x0 (ix1 i)).toNat = e.val) :
    val_main_v11 (F := Ideal) x0 x3 (ix3 i l f) = x3 (ix4 0 e l f) := by
  unfold val_main_v11
  refine (stack_at 2048 4096 gather_S32x2048x4096_S93x1_S93x2048x4096_12_0_n_n_0_1_120484096.wf (val_main_v0 (F := Ideal) x3) (val_main_v10 (F := Ideal) x0) i l f e (by rw [(picks x0 i (h ▸ e.isLt)).1, h])).trans ?_
  unfold val_main_v0
  pointwise []

/-- The picked first biases. -/
theorem v19_at (i : Fin 93) (f : Fin 4096) (e : Fin 32) (h : (x0 (ix1 i)).toNat = e.val) :
    val_main_v19 (F := Ideal) x0 x4 (ix2 i f) = x4 (ix3 0 e f) := by
  unfold val_main_v19
  refine (row_at 4096 gather_S32x4096_S93x1_S93x4096_1_0_n_n_0_1_14096.wf (val_main_v1 (F := Ideal) x4) (val_main_v18 (F := Ideal) x0) i f e (by rw [(picks x0 i (h ▸ e.isLt)).2.1, h])).trans ?_
  unfold val_main_v1
  pointwise []

/-- The picked second weights. -/
theorem v46_at (i : Fin 93) (f : Fin 2048) (d : Fin 2048) (e : Fin 32) (h : (x0 (ix1 i)).toNat = e.val) :
    val_main_v46 (F := Ideal) x0 x5 (ix3 i f d) = x5 (ix4 0 e f d) := by
  unfold val_main_v46
  refine (stack_at 2048 2048 gather_S32x2048x2048_S93x1_S93x2048x2048_12_0_n_n_0_1_120482048.wf (val_main_v2 (F := Ideal) x5) (val_main_v45 (F := Ideal) x0) i f d e (by rw [(picks x0 i (h ▸ e.isLt)).2.2.1, h])).trans ?_
  unfold val_main_v2
  pointwise []

/-- The picked second biases. -/
theorem v54_at (i : Fin 93) (d : Fin 2048) (e : Fin 32) (h : (x0 (ix1 i)).toNat = e.val) :
    val_main_v54 (F := Ideal) x0 x6 (ix2 i d) = x6 (ix3 0 e d) := by
  unfold val_main_v54
  refine (row_at 2048 gather_S32x2048_S93x1_S93x2048_1_0_n_n_0_1_12048.wf (val_main_v3 (F := Ideal) x6) (val_main_v53 (F := Ideal) x0) i d e (by rw [(picks x0 i (h ▸ e.isLt)).2.2.2, h])).trans ?_
  unfold val_main_v3
  pointwise []

/-- The rows, item by item. -/
theorem v4_at (i : Fin 93) (r : Fin 1088) (l : Fin 2048) (q : Fin 101184) (hq : q.val = i.val * 1088 + r.val) :
    val_main_v4 (F := Ideal) x2 (ix3 i r l) = x2 (ix2 q l) := by
  rw [val_main_v4_apply]
  congr 1
  funext a
  refine Fin.ext ?_
  match a with
  | ⟨0, _⟩ => show ((i.val * 1088 + r.val) * 2048 + l.val) / 2048 = q.val; omega
  | ⟨1, _⟩ => show ((i.val * 1088 + r.val) * 2048 + l.val) % 2048 = l.val; omega

/-- The hidden features before the gate: a dot product of the row and a column of the item's expert, and the bias. -/
theorem v22_at (i : Fin 93) (r : Fin 1088) (f : Fin 4096) (q : Fin 101184) (e : Fin 32) (hq : q.val = i.val * 1088 + r.val) (h : (x0 (ix1 i)).toNat = e.val) :
    val_main_v22 (F := Ideal) x0 x2 x3 x4 (ix3 i r f) = (∑ l : Fin 2048, x2 (ix2 q l) * x3 (ix4 0 e l f)) + x4 (ix3 0 e f) := by
  have hs : val_main_v12 (F := Ideal) x0 x2 x3 (ix3 i r f) = ∑ l : Fin 2048, x2 (ix2 q l) * x3 (ix4 0 e l f) := by
    rw [val_main_v12_apply]
    refine Finset.sum_congr rfl fun l _ => ?_
    have hl : lidx_main_v12 (ix3 i r f) l = ix3 i r l := funext fun a => match a with
      | ⟨0, _⟩ => rfl
      | ⟨1, _⟩ => rfl
      | ⟨2, _⟩ => rfl
    have hr : ridx_main_v12 (ix3 i r f) l = ix3 i l f := funext fun a => match a with
      | ⟨0, _⟩ => rfl
      | ⟨1, _⟩ => rfl
      | ⟨2, _⟩ => rfl
    rw [hl, hr, v4_at x2 i r l q hq, v11_at x0 x3 i l f e h]
  have hb : val_main_v21 (F := Ideal) x0 x4 (ix3 i r f) = x4 (ix3 0 e f) := by
    rw [val_main_v21_apply, val_main_v20_apply]
    have hi : idx_main_v20 (idx_main_v21 (ix3 i r f)) = ix2 i f := funext fun a => match a with
      | ⟨0, _⟩ => rfl
      | ⟨1, _⟩ => rfl
    rw [hi, v19_at x0 x4 i f e h]
  rw [val_main_v22_apply, hs, hb]
  rfl

/-- One hidden feature of a row, gated. -/
theorem v39_at (i : Fin 93) (r : Fin 1088) (f : Fin 2048) (q : Fin 101184) (e : Fin 32) (hq : q.val = i.val * 1088 + r.val) (h : (x0 (ix1 i)).toNat = e.val) :
    val_main_v39 (F := Ideal) x0 x2 x3 x4 (ix3 i r f)
      = act (fun l => x2 (ix2 q l)) (fun l => x3 (ix4 0 e l ⟨f.val, by omega⟩)) (fun l => x3 (ix4 0 e l ⟨f.val + 2048, by omega⟩))
          (x4 (ix3 0 e ⟨f.val, by omega⟩)) (x4 (ix3 0 e ⟨f.val + 2048, by omega⟩)) := by
  have hp : val_main_v23 (F := Ideal) x0 x2 x3 x4 (ix3 i r f) = (∑ l : Fin 2048, x2 (ix2 q l) * x3 (ix4 0 e l ⟨f.val, by omega⟩)) + x4 (ix3 0 e ⟨f.val, by omega⟩) := by
    rw [val_main_v23_apply]
    have hi : idx_main_v23 (ix3 i r f) = ix3 i r ⟨f.val, by omega⟩ := funext fun a => match a with
      | ⟨0, _⟩ => Fin.ext (by first | rfl | exact Nat.zero_add _)
      | ⟨1, _⟩ => Fin.ext (by first | rfl | exact Nat.zero_add _)
      | ⟨2, _⟩ => Fin.ext (by first | rfl | exact Nat.zero_add _)
    rw [hi, v22_at x0 x2 x3 x4 i r _ q e hq h]
  have hg : val_main_v26 (F := Ideal) x0 x2 x3 x4 (ix3 i r f) = (∑ l : Fin 2048, x2 (ix2 q l) * x3 (ix4 0 e l ⟨f.val + 2048, by omega⟩)) + x4 (ix3 0 e ⟨f.val + 2048, by omega⟩) := by
    rw [val_main_v26_apply]
    have hi : idx_main_v26 (ix3 i r f) = ix3 i r ⟨f.val + 2048, by omega⟩ := funext fun a => match a with
      | ⟨0, _⟩ => Fin.ext (by first | rfl | exact Nat.zero_add _)
      | ⟨1, _⟩ => Fin.ext (by first | rfl | exact Nat.zero_add _)
      | ⟨2, _⟩ => Fin.ext (by first | rfl | exact Nat.add_comm _ _)
    rw [hi, v22_at x0 x2 x3 x4 i r _ q e hq h]
  unfold act
  rw [← hp, ← hg]
  rw [val_main_v39_apply, val_main_v38_apply, val_main_v36_apply, val_main_v34_apply, val_main_v33_apply, val_main_v32_apply, val_main_v30_apply,
    val_main_v29_apply, val_main_v27_apply, val_main_call0_v2_apply, val_main_v25_apply]
  rfl

/-- One hidden feature's contribution to an entry; nothing past the last feature. -/
def term (x2 : Vec Ideal S101184x2048 .f32) (x3 : Vec Ideal S1x32x2048x4096 .f32) (x4 : Vec Ideal S1x32x4096 .f32) (x5 : Vec Ideal S1x32x2048x2048 .f32)
    (q : Fin 101184) (e : Fin 32) (d : Fin 2048) (f : ℕ) : EReal :=
  if h : f < 2048 then
    act (fun l => x2 (ix2 q l)) (fun l => x3 (ix4 0 e l ⟨f, by omega⟩)) (fun l => x3 (ix4 0 e l ⟨f + 2048, by omega⟩))
      (x4 (ix3 0 e ⟨f, by omega⟩)) (x4 (ix3 0 e ⟨f + 2048, by omega⟩)) * x5 (ix4 0 e ⟨f, h⟩ d)
  else 0

/-- An entry of the reference. -/
theorem ref_at (i : Fin 93) (r : Fin 1088) (d : Fin 2048) (q : Fin 101184) (e : Fin 32) (hq : q.val = i.val * 1088 + r.val) (h : (x0 (ix1 i)).toNat = e.val) :
    val_main_v58 (F := Ideal) x0 x2 x3 x4 x5 x6 (ix2 q d) = (∑ f ∈ Finset.range 2048, term x2 x3 x4 x5 q e d f) + x6 (ix3 0 e d) := by
  have h58 : idx_main_v58 (ix2 q d) = ix3 i r d := by
    have h0 := i.isLt
    have h1 := r.isLt
    have h2 := d.isLt
    refine funext fun a => match a with
      | ⟨0, _⟩ => Fin.ext ?_
      | ⟨1, _⟩ => Fin.ext ?_
      | ⟨2, _⟩ => Fin.ext ?_
    · show (q.val * 2048 + d.val) / 2228224 = i.val; omega
    · show (q.val * 2048 + d.val) / 2048 % 1088 = r.val; omega
    · show (q.val * 2048 + d.val) % 2048 = d.val; omega
  have hs : val_main_v47 (F := Ideal) x0 x2 x3 x4 x5 (ix3 i r d) = ∑ f ∈ Finset.range 2048, term x2 x3 x4 x5 q e d f := by
    rw [val_main_v47_apply, Finset.sum_range]
    refine Finset.sum_congr rfl fun f _ => ?_
    have hl : lidx_main_v47 (ix3 i r d) f = ix3 i r f := funext fun a => match a with
      | ⟨0, _⟩ => rfl
      | ⟨1, _⟩ => rfl
      | ⟨2, _⟩ => rfl
    have hr : ridx_main_v47 (ix3 i r d) f = ix3 i f d := funext fun a => match a with
      | ⟨0, _⟩ => rfl
      | ⟨1, _⟩ => rfl
      | ⟨2, _⟩ => rfl
    rw [hl, hr, v39_at x0 x2 x3 x4 i r f q e hq h, v46_at x0 x5 i f d e h]
    unfold term
    rw [dif_pos f.isLt]
  have hb : val_main_v56 (F := Ideal) x0 x6 (ix3 i r d) = x6 (ix3 0 e d) := by
    rw [val_main_v56_apply, val_main_v55_apply]
    have hi : idx_main_v55 (idx_main_v56 (ix3 i r d)) = ix2 i d := funext fun a => match a with
      | ⟨0, _⟩ => rfl
      | ⟨1, _⟩ => rfl
    rw [hi, v54_at x0 x6 i d e h]
  rw [val_main_v58_apply, h58, val_main_v57_apply, hs, hb]
  rfl

end Cert.ExpertsIdeal.Norm

end
-- ==== Proof.ExpertsValue.lean ====
/- The value of the experts' call: what the pipelined kernel leaves in its result array, entry by entry. -/
module

public import proofs.«01_k».proof.Proof.ExpertsIdealPre
public import proofs.«01_k».proof.Proof.ExpertsRef
public import Idealize.ShloMosaic.Lib.Pipeline.ValueKit
public import Idealize.ShloMosaic.Lib.Pointwise

@[expose] public section

set_option maxRecDepth 16384

noncomputable section

namespace Cert.ExpertsIdeal.Norm

open Cert.ExpertsIdeal Cert.ExpertsIdeal.Gen Cert.ExpertsIdeal.Hand Idealize.ShloMosaic Idealize.ShloMosaic.TcCoe Idealize.SL.Sem
open Idealize.ShloMosaic.Pipeline (Dat)

variable (m : (ℓ : Loc nD τ sig) → Buf (Elt Ideal) ℓ)

/-! ## What the pipeline finds -/

/-- The first weights without their leading axis. -/
theorem V_w1 (c : Dev nD) : V m c main_v0 = shapeCast S32x2048x4096 (m ((c : Thread nD τ).loc main_arg3)) shapeCasts_S1x32x2048x4096_S32x2048x4096 := by
  unfold V
  simp only [hostOps0, StableHlo.TRef.binary, StableHlo.TRef.unary, StableHlo.TRef.toBuf, StableHlo.TRef.ofBuf, cast_eq]
  after_results <;> rfl

/-- The first biases, one row for each expert. -/
theorem V_b1 (c : Dev nD) : V m c main_v4 = shapeCast S32x1x4096 (shapeCast S32x4096 (m ((c : Thread nD τ).loc main_arg4)) shapeCasts_S1x32x4096_S32x4096) shapeCasts_S32x4096_S32x1x4096 := by
  unfold V
  simp only [hostOps0, StableHlo.TRef.binary, StableHlo.TRef.unary, StableHlo.TRef.toBuf, StableHlo.TRef.ofBuf, cast_eq]
  after_results <;> rfl

/-- The second weights without their leading axis. -/
theorem V_w2 (c : Dev nD) : V m c main_v2 = shapeCast S32x2048x2048 (m ((c : Thread nD τ).loc main_arg5)) shapeCasts_S1x32x2048x2048_S32x2048x2048 := by
  unfold V
  simp only [hostOps0, StableHlo.TRef.binary, StableHlo.TRef.unary, StableHlo.TRef.toBuf, StableHlo.TRef.ofBuf, cast_eq]
  after_results <;> rfl

/-- The second biases, one row for each expert. -/
theorem V_b2 (c : Dev nD) : V m c main_v5 = shapeCast S32x1x2048 (shapeCast S32x2048 (m ((c : Thread nD τ).loc main_arg6)) shapeCasts_S1x32x2048_S32x2048) shapeCasts_S32x2048_S32x1x2048 := by
  unfold V
  simp only [hostOps0, StableHlo.TRef.binary, StableHlo.TRef.unary, StableHlo.TRef.toBuf, StableHlo.TRef.ofBuf, cast_eq]
  after_results <;> rfl

/-- Entries of the first weights. -/
theorem w1_at (x : Vec Ideal S1x32x2048x4096 .f32) (e : Fin 32) (l : Fin 2048) (f : Fin 4096) :
    shapeCast S32x2048x4096 x shapeCasts_S1x32x2048x4096_S32x2048x4096 (ix3 e l f) = x (ix4 0 e l f) := by
  pointwise []

/-- Entries of the first biases. -/
theorem b1_at (x : Vec Ideal S1x32x4096 .f32) (e : Fin 32) (f : Fin 4096) :
    shapeCast S32x1x4096 (shapeCast S32x4096 x shapeCasts_S1x32x4096_S32x4096) shapeCasts_S32x4096_S32x1x4096 (ix3 e 0 f) = x (ix3 0 e f) := by
  pointwise []

/-- Entries of the second weights. -/
theorem w2_at (x : Vec Ideal S1x32x2048x2048 .f32) (e : Fin 32) (l : Fin 2048) (f : Fin 2048) :
    shapeCast S32x2048x2048 x shapeCasts_S1x32x2048x2048_S32x2048x2048 (ix3 e l f) = x (ix4 0 e l f) := by
  pointwise []

/-- Entries of the second biases. -/
theorem b2_at (x : Vec Ideal S1x32x2048 .f32) (e : Fin 32) (f : Fin 2048) :
    shapeCast S32x1x2048 (shapeCast S32x2048 x shapeCasts_S1x32x2048_S32x2048) shapeCasts_S32x2048_S32x1x2048 (ix3 e 0 f) = x (ix3 0 e f) := by
  pointwise []

/-! ## A point's item and its blocks -/

/-- A point's item. -/
theorem item_val (t : Fin grid0.N) : (grid0.coords t 0).val = t.val / 8 := by
  have ht : t.val < 744 := Nat.lt_of_lt_of_eq t.isLt N_0
  have e : (grid0.coords t 0).val = t.val / 8 % 93 := Pipeline.Grid.coords_val t 0 (by decide) rfl
  rw [e]; omega

/-- A point's chunk. -/
theorem chunk_val (t : Fin grid0.N) : (grid0.coords t 1).val = t.val % 8 := by
  have e : (grid0.coords t 1).val = t.val / 1 % 8 := Pipeline.Grid.coords_val t 1 (by decide) rfl
  rw [e, Nat.div_one]

/-- Where a point's item stands in the tables. -/
theorem off_val (t : Fin grid0.N) : k0_off1 (grid0.coords t) 0 = t.val / 8 := by
  have ht : t.val < 744 := Nat.lt_of_lt_of_eq t.isLt N_0
  rw [← item_val t]
  have h0 : (grid0.coords t 0).val < 93 := (grid0.coords t 0).isLt
  show (BitVec.ofNat 32 (grid0.coords t 0).val).toNat = _
  rw [BitVec.toNat_ofNat]; omega

/-- The expert number of a point's item. -/
theorem expert_at (t : Fin grid0.N) (i : Fin 93) (hi : i.val = t.val / 8) :
    expertAt (tbl m) (grid0.coords t) = m (((0 : Dev nD) : Thread nD τ).loc main_arg0) (ix1 i) := by
  rw [← V_main_arg0 m 0]
  refine congrArg (V m 0 main_arg0) (funext fun a => Fin.ext ?_)
  obtain rfl : a = (0 : Fin 1) := Subsingleton.elim (α := Fin 1) _ _
  show k0_off1 (grid0.coords t) 0 + 1 * 0 = i.val
  rw [off_val]; omega

/-- The row count of a point's item. -/
theorem count_at (t : Fin grid0.N) (i : Fin 93) (hi : i.val = t.val / 8) :
    countAt (tbl m) (grid0.coords t) = m (((0 : Dev nD) : Thread nD τ).loc main_arg1) (ix1 i) := by
  rw [← V_main_arg1 m 0]
  refine congrArg (V m 0 main_arg1) (funext fun a => Fin.ext ?_)
  obtain rfl : a = (0 : Fin 1) := Subsingleton.elim (α := Fin 1) _ _
  show k0_off1 (grid0.coords t) 0 + 1 * 0 = i.val
  rw [off_val]; omega

/-- The row count as the body reads it. -/
theorem rows_at (c : Dev nD) (t : Fin grid0.N) (i : Fin 93) (hi : i.val = t.val / 8) :
    rowsAt c (tbl m 1) (grid0.coords t) = m (((0 : Dev nD) : Thread nD τ).loc main_arg1) (ix1 i) := by
  rw [← V_main_arg1 m 0]
  refine congrArg (V m 0 main_arg1) (funext fun a => Fin.ext ?_)
  obtain rfl : a = (0 : Fin 1) := Subsingleton.elim (α := Fin 1) _ _
  show k0_off1 (grid0.coords t) 0 + 1 * 0 = i.val
  rw [off_val]; omega

/-- Where the row count is positive, the chunk worked on is the point's own. -/
theorem chunk_pos (w : BitVec 32) (hw : 0 < w.toInt) (t : Fin grid0.N) : (chunkOf w (grid0.coords t)).toNat = t.val % 8 := by
  have h : Scalar.cmpi .sgt w 0#32 = 1#1 := by
    show BitVec.ofBool (BitVec.slt 0#32 w) = 1#1
    have : BitVec.slt 0#32 w = true := by
      rw [BitVec.slt]; exact decide_eq_true (by simpa using hw)
    rw [this]; rfl
  unfold chunkOf Scalar.select
  refine (congrArg BitVec.toNat (if_pos h)).trans ?_
  rw [chunk_val, BitVec.toNat_ofNat]
  omega

variable (hO : Ok m)

/-- The number of a point's item, as a word. -/
theorem item_word (t : Fin grid0.N) : (BitVec.ofNat 32 (grid0.coords t 0).val).toNat = t.val / 8 := by
  have ht : t.val < 744 := Nat.lt_of_lt_of_eq t.isLt N_0
  rw [item_val t, BitVec.toNat_ofNat]; omega

/-- An index of a block, placed in the array: the block's place times its size, and the index. -/
theorem place {G : Pipeline.Grid} (w : Pipeline.Window sig G) (t : Fin G.N) (y : (w.xblock (G.coords t)).Idx) (a : Fin w.shape.rank) (hk : w.kind = .blocked)
    (k s v n : ℕ) (hi : w.index t a = k) (hs : w.size a = s) (hy : (y a : ℕ) = v) (h : k * s + v = n) : (((w.rect t).emb y a : Fin _) : ℕ) = n := by
  rw [Pipeline.Window.rect_emb_val w t y a hk, hi, hs, hy, h]

/-- A row of the item's rows. -/
theorem x_at (c : Dev nD) (t : Fin (cfgM m hO).N) (r : Fin 1088) (l : Fin 2048) (q : Fin 101184) (hq : q.val = t.val / 8 * 1088 + r.val) :
    iblk m hO c 0 t (ix2 r l) = m ((c : Thread nD τ).loc main_arg2) (ix2 q l) := by
  have h : (((cfgM m hO).win 0).blk t).view.emb (ix2 r l) = ix2 q l := funext fun a => Fin.ext (by
    match a with
    | ⟨0, h0⟩ => exact place ((cfgM m hO).win 0) t (ix2 r l) ⟨0, h0⟩ rfl (t.val / 8) 1088 (r.val) (q.val) (item_word t) rfl rfl (by omega)
    | ⟨1, h1⟩ => exact place ((cfgM m hO).win 0) t (ix2 r l) ⟨1, h1⟩ rfl (0) 2048 (l.val) (l.val) (rfl) rfl rfl (by omega))
  exact (congrArg (V m c main_arg2) h).trans (congrFun (V_main_arg2 m c) _)

/-- A column of the first half of the expert's first weights. -/
theorem w1p_at (c : Dev nD) (t : Fin (cfgM m hO).N) (l : Fin 2048) (f : Fin 256) (e : Fin 32) (he : e.val = (expertAt (tbl m) (grid0.coords t)).toNat) (g : Fin 4096) (hg : g.val = t.val % 8 * 256 + f.val) (hc : (chunkOf (countAt (tbl m) (grid0.coords t)) (grid0.coords t)).toNat = t.val % 8) :
    iblk m hO c 1 t (ix3 0 l f) = m ((c : Thread nD τ).loc main_arg3) (ix4 0 e l g) := by
  have hi : ((cfgM m hO).win 1).index t = ![e.val, 0, t.val % 8] := (tr1 (tbl m) (grid0.coords t)).trans (by rw [hc, ← he])
  have h : (((cfgM m hO).win 1).blk t).view.emb (ix3 0 l f) = ix3 e l g := funext fun a => Fin.ext (by
    match a with
    | ⟨0, h0⟩ => exact place ((cfgM m hO).win 1) t (ix3 0 l f) ⟨0, h0⟩ rfl _ 1 (0) (e.val) (congrFun hi ⟨0, h0⟩) rfl rfl (by show (e.val) * 1 + 0 = e.val; omega)
    | ⟨1, h1⟩ => exact place ((cfgM m hO).win 1) t (ix3 0 l f) ⟨1, h1⟩ rfl _ 2048 (l.val) (l.val) (congrFun hi ⟨1, h1⟩) rfl rfl (by show (0) * 2048 + l.val = l.val; omega)
    | ⟨2, h2⟩ => exact place ((cfgM m hO).win 1) t (ix3 0 l f) ⟨2, h2⟩ rfl _ 256 (f.val) (g.val) (congrFun hi ⟨2, h2⟩) rfl rfl (by show (t.val % 8) * 256 + f.val = g.val; omega))
  exact (congrArg (V m c main_v0) h).trans ((congrFun (V_w1 m c) _).trans (w1_at _ e l g))

/-- A column of the second half of the expert's first weights. -/
theorem w1g_at (c : Dev nD) (t : Fin (cfgM m hO).N) (l : Fin 2048) (f : Fin 256) (e : Fin 32) (he : e.val = (expertAt (tbl m) (grid0.coords t)).toNat) (g : Fin 4096) (hg : g.val = 2048 + t.val % 8 * 256 + f.val) (hc : (chunkOf (countAt (tbl m) (grid0.coords t)) (grid0.coords t)).toNat = t.val % 8) :
    iblk m hO c 2 t (ix3 0 l f) = m ((c : Thread nD τ).loc main_arg3) (ix4 0 e l g) := by
  have hi : ((cfgM m hO).win 2).index t = ![e.val, 0, 8 + t.val % 8] := (tr2 (tbl m) (grid0.coords t)).trans (by rw [hc, ← he])
  have h : (((cfgM m hO).win 2).blk t).view.emb (ix3 0 l f) = ix3 e l g := funext fun a => Fin.ext (by
    match a with
    | ⟨0, h0⟩ => exact place ((cfgM m hO).win 2) t (ix3 0 l f) ⟨0, h0⟩ rfl _ 1 (0) (e.val) (congrFun hi ⟨0, h0⟩) rfl rfl (by show (e.val) * 1 + 0 = e.val; omega)
    | ⟨1, h1⟩ => exact place ((cfgM m hO).win 2) t (ix3 0 l f) ⟨1, h1⟩ rfl _ 2048 (l.val) (l.val) (congrFun hi ⟨1, h1⟩) rfl rfl (by show (0) * 2048 + l.val = l.val; omega)
    | ⟨2, h2⟩ => exact place ((cfgM m hO).win 2) t (ix3 0 l f) ⟨2, h2⟩ rfl _ 256 (f.val) (g.val) (congrFun hi ⟨2, h2⟩) rfl rfl (by show (8 + t.val % 8) * 256 + f.val = g.val; omega))
  exact (congrArg (V m c main_v0) h).trans ((congrFun (V_w1 m c) _).trans (w1_at _ e l g))

/-- An entry of the first half of the expert's first bias. -/
theorem b1p_at (c : Dev nD) (t : Fin (cfgM m hO).N) (f : Fin 256) (e : Fin 32) (he : e.val = (expertAt (tbl m) (grid0.coords t)).toNat) (g : Fin 4096) (hg : g.val = t.val % 8 * 256 + f.val) (hc : (chunkOf (countAt (tbl m) (grid0.coords t)) (grid0.coords t)).toNat = t.val % 8) :
    iblk m hO c 3 t (ix3 0 0 f) = m ((c : Thread nD τ).loc main_arg4) (ix3 0 e g) := by
  have hi : ((cfgM m hO).win 3).index t = ![e.val, 0, t.val % 8] := (tr3 (tbl m) (grid0.coords t)).trans (by rw [hc, ← he])
  have h : (((cfgM m hO).win 3).blk t).view.emb (ix3 0 0 f) = ix3 e 0 g := funext fun a => Fin.ext (by
    match a with
    | ⟨0, h0⟩ => exact place ((cfgM m hO).win 3) t (ix3 0 0 f) ⟨0, h0⟩ rfl _ 1 (0) (e.val) (congrFun hi ⟨0, h0⟩) rfl rfl (by show (e.val) * 1 + 0 = e.val; omega)
    | ⟨1, h1⟩ => exact place ((cfgM m hO).win 3) t (ix3 0 0 f) ⟨1, h1⟩ rfl _ 1 (0) (0) (congrFun hi ⟨1, h1⟩) rfl rfl (by show (0) * 1 + 0 = 0; omega)
    | ⟨2, h2⟩ => exact place ((cfgM m hO).win 3) t (ix3 0 0 f) ⟨2, h2⟩ rfl _ 256 (f.val) (g.val) (congrFun hi ⟨2, h2⟩) rfl rfl (by show (t.val % 8) * 256 + f.val = g.val; omega))
  exact (congrArg (V m c main_v4) h).trans ((congrFun (V_b1 m c) _).trans (b1_at _ e g))

/-- An entry of the second half of the expert's first bias. -/
theorem b1g_at (c : Dev nD) (t : Fin (cfgM m hO).N) (f : Fin 256) (e : Fin 32) (he : e.val = (expertAt (tbl m) (grid0.coords t)).toNat) (g : Fin 4096) (hg : g.val = 2048 + t.val % 8 * 256 + f.val) (hc : (chunkOf (countAt (tbl m) (grid0.coords t)) (grid0.coords t)).toNat = t.val % 8) :
    iblk m hO c 4 t (ix3 0 0 f) = m ((c : Thread nD τ).loc main_arg4) (ix3 0 e g) := by
  have hi : ((cfgM m hO).win 4).index t = ![e.val, 0, 8 + t.val % 8] := (tr4 (tbl m) (grid0.coords t)).trans (by rw [hc, ← he])
  have h : (((cfgM m hO).win 4).blk t).view.emb (ix3 0 0 f) = ix3 e 0 g := funext fun a => Fin.ext (by
    match a with
    | ⟨0, h0⟩ => exact place ((cfgM m hO).win 4) t (ix3 0 0 f) ⟨0, h0⟩ rfl _ 1 (0) (e.val) (congrFun hi ⟨0, h0⟩) rfl rfl (by show (e.val) * 1 + 0 = e.val; omega)
    | ⟨1, h1⟩ => exact place ((cfgM m hO).win 4) t (ix3 0 0 f) ⟨1, h1⟩ rfl _ 1 (0) (0) (congrFun hi ⟨1, h1⟩) rfl rfl (by show (0) * 1 + 0 = 0; omega)
    | ⟨2, h2⟩ => exact place ((cfgM m hO).win 4) t (ix3 0 0 f) ⟨2, h2⟩ rfl _ 256 (f.val) (g.val) (congrFun hi ⟨2, h2⟩) rfl rfl (by show (8 + t.val % 8) * 256 + f.val = g.val; omega))
  exact (congrArg (V m c main_v4) h).trans ((congrFun (V_b1 m c) _).trans (b1_at _ e g))

/-- A row of the expert's second weights. -/
theorem w2b_at (c : Dev nD) (t : Fin (cfgM m hO).N) (f : Fin 256) (d : Fin 2048) (e : Fin 32) (he : e.val = (expertAt (tbl m) (grid0.coords t)).toNat) (g : Fin 2048) (hg : g.val = t.val % 8 * 256 + f.val) (hc : (chunkOf (countAt (tbl m) (grid0.coords t)) (grid0.coords t)).toNat = t.val % 8) :
    iblk m hO c 5 t (ix3 0 f d) = m ((c : Thread nD τ).loc main_arg5) (ix4 0 e g d) := by
  have hi : ((cfgM m hO).win 5).index t = ![e.val, t.val % 8, 0] := (tr5 (tbl m) (grid0.coords t)).trans (by rw [hc, ← he])
  have h : (((cfgM m hO).win 5).blk t).view.emb (ix3 0 f d) = ix3 e g d := funext fun a => Fin.ext (by
    match a with
    | ⟨0, h0⟩ => exact place ((cfgM m hO).win 5) t (ix3 0 f d) ⟨0, h0⟩ rfl _ 1 (0) (e.val) (congrFun hi ⟨0, h0⟩) rfl rfl (by show (e.val) * 1 + 0 = e.val; omega)
    | ⟨1, h1⟩ => exact place ((cfgM m hO).win 5) t (ix3 0 f d) ⟨1, h1⟩ rfl _ 256 (f.val) (g.val) (congrFun hi ⟨1, h1⟩) rfl rfl (by show (t.val % 8) * 256 + f.val = g.val; omega)
    | ⟨2, h2⟩ => exact place ((cfgM m hO).win 5) t (ix3 0 f d) ⟨2, h2⟩ rfl _ 2048 (d.val) (d.val) (congrFun hi ⟨2, h2⟩) rfl rfl (by show (0) * 2048 + d.val = d.val; omega))
  exact (congrArg (V m c main_v2) h).trans ((congrFun (V_w2 m c) _).trans (w2_at _ e g d))

/-- An entry of the expert's second bias. -/
theorem b2b_at (c : Dev nD) (t : Fin (cfgM m hO).N) (d : Fin 2048) (e : Fin 32) (he : e.val = (expertAt (tbl m) (grid0.coords t)).toNat) :
    iblk m hO c 6 t (ix3 0 0 d) = m ((c : Thread nD τ).loc main_arg6) (ix3 0 e d) := by
  have hi : ((cfgM m hO).win 6).index t = ![e.val, 0, 0] := (tr6 (tbl m) (grid0.coords t)).trans (by rw [← he])
  have h : (((cfgM m hO).win 6).blk t).view.emb (ix3 0 0 d) = ix3 e 0 d := funext fun a => Fin.ext (by
    match a with
    | ⟨0, h0⟩ => exact place ((cfgM m hO).win 6) t (ix3 0 0 d) ⟨0, h0⟩ rfl _ 1 (0) (e.val) (congrFun hi ⟨0, h0⟩) rfl rfl (by show (e.val) * 1 + 0 = e.val; omega)
    | ⟨1, h1⟩ => exact place ((cfgM m hO).win 6) t (ix3 0 0 d) ⟨1, h1⟩ rfl _ 1 (0) (0) (congrFun hi ⟨1, h1⟩) rfl rfl (by show (0) * 1 + 0 = 0; omega)
    | ⟨2, h2⟩ => exact place ((cfgM m hO).win 6) t (ix3 0 0 d) ⟨2, h2⟩ rfl _ 2048 (d.val) (d.val) (congrFun hi ⟨2, h2⟩) rfl rfl (by show (0) * 2048 + d.val = d.val; omega))
  exact (congrArg (V m c main_v5) h).trans ((congrFun (V_b2 m c) _).trans (b2_at _ e d))

/-- The second biases. -/
abbrev secondBias (c : Dev nD) : Vec Ideal S1x32x2048 .f32 := m ((c : Thread nD τ).loc main_arg6)

/-! ## The result's block -/

/-- What a point adds to an entry of a row that its item's count reaches: the contributions of the chunk's features. -/
theorem step_at (c : Dev nD) (t : Fin (cfgM m hO).N) (i : Fin 93) (hi : i.val = t.val / 8) (r : Fin 1088) (d : Fin 2048) (q : Fin 101184) (hq : q.val = i.val * 1088 + r.val)
    (e : Fin 32) (he : (m (((0 : Dev nD) : Thread nD τ).loc main_arg0) (ix1 i) : BitVec 32).toNat = e.val)
    (hr : (r.val : ℤ) < (m (((0 : Dev nD) : Thread nD τ).loc main_arg1) (ix1 i) : BitVec 32).toInt) (b : Vec Ideal S1088x2048 .f32) :
    accum (rowsAt c (tbl m 1) (grid0.coords t)) (iblk m hO c 0 t) (iblk m hO c 1 t) (iblk m hO c 2 t) (iblk m hO c 3 t) (iblk m hO c 4 t) (iblk m hO c 5 t) b (ix2 r d)
      = b (ix2 r d) + ∑ f ∈ Finset.range 256, term (m ((c : Thread nD τ).loc main_arg2)) (m ((c : Thread nD τ).loc main_arg3)) (m ((c : Thread nD τ).loc main_arg4)) (m ((c : Thread nD τ).loc main_arg5)) q e d (t.val % 8 * 256 + f) := by
  have hE : e.val = (expertAt (tbl m) (grid0.coords t)).toNat := by rw [expert_at m t i hi]; exact he.symm
  have hc : (chunkOf (countAt (tbl m) (grid0.coords t)) (grid0.coords t)).toNat = t.val % 8 :=
    chunk_pos _ (by rw [count_at m t i hi]; exact lt_of_le_of_lt (Int.natCast_nonneg r.val) hr) t
  have hw : (r.val : ℤ) < (rowsAt c (tbl m 1) (grid0.coords t) : BitVec 32).toInt := by rw [rows_at m c t i hi]; exact hr
  have h8 : t.val % 8 < 8 := Nat.mod_lt _ (by decide)
  refine (accum_at _ _ _ _ _ _ _ b r d hw).trans (congrArg (b (ix2 r d) + ·) ?_)
  rw [Finset.sum_range]
  refine Finset.sum_congr rfl fun f _ => ?_
  have hf := f.isLt
  have hlt : t.val % 8 * 256 + f.val < 2048 := by omega
  unfold term
  rw [dif_pos hlt]
  refine congrArg₂ (· * ·) ?_ (w2b_at m hO c t f d e hE ⟨t.val % 8 * 256 + f.val, hlt⟩ rfl hc)
  unfold act
  refine congrArg₂ gate (congrArg₂ (· + ·) (Finset.sum_congr rfl fun l _ => congrArg₂ (· * ·) ?_ ?_) ?_) (congrArg₂ (· + ·) (Finset.sum_congr rfl fun l _ => congrArg₂ (· * ·) ?_ ?_) ?_)
  · exact x_at m hO c t r l q (by omega)
  · exact w1p_at m hO c t l f e hE _ rfl hc
  · exact b1p_at m hO c t f e hE _ rfl hc
  · exact x_at m hO c t r l q (by omega)
  · exact w1g_at m hO c t l f e hE _ (by show t.val % 8 * 256 + f.val + 2048 = _; omega) hc
  · exact b1g_at m hO c t f e hE _ (by show t.val % 8 * 256 + f.val + 2048 = _; omega) hc

/-- After a point, an entry of a row that the item's count reaches: the second bias and the contributions of the features so far. -/
theorem outs_at (c : Dev nD) (i : Fin 93) (r : Fin 1088) (d : Fin 2048) (q : Fin 101184) (hq : q.val = i.val * 1088 + r.val)
    (e : Fin 32) (he : (m (((0 : Dev nD) : Thread nD τ).loc main_arg0) (ix1 i) : BitVec 32).toNat = e.val)
    (hr : (r.val : ℤ) < (m (((0 : Dev nD) : Thread nD τ).loc main_arg1) (ix1 i) : BitVec 32).toInt) :
    ∀ (n : ℕ) (hn : n < (cfgM m hO).N), i.val = n / 8 →
      outsAt m hO c n hn (ix2 r d) = secondBias m c (ix3 0 e d)
        + ∑ f ∈ Finset.range (256 * (n % 8) + 256), term (m ((c : Thread nD τ).loc main_arg2)) (m ((c : Thread nD τ).loc main_arg3)) (m ((c : Thread nD τ).loc main_arg4)) (m ((c : Thread nD τ).loc main_arg5)) q e d f := by
  intro n
  induction n using Nat.strong_induction_on with
  | _ n ih =>
    intro hn hi
    by_cases h0 : n % 8 = 0
    · have hE : e.val = (expertAt (tbl m) (grid0.coords ⟨n, hn⟩)).toNat := by rw [expert_at m ⟨n, hn⟩ i hi]; exact he.symm
      rw [outsAt_A m hO c ⟨n, hn⟩ h0]
      refine (step_at m hO c ⟨n, hn⟩ i hi r d q hq e he hr _).trans ?_
      refine congrArg₂ (· + ·) ((pay1_at _ r d).trans (b2b_at m hO c ⟨n, hn⟩ d e hE)) ?_
      show ∑ f ∈ Finset.range 256, term _ _ _ _ q e d (n % 8 * 256 + f) = _
      rw [h0]
      refine Finset.sum_congr rfl fun f _ => ?_
      rw [Nat.zero_mul, Nat.zero_add]
    · rw [outsAt_B m hO c ⟨n, hn⟩ h0]
      refine (step_at m hO c ⟨n, hn⟩ i hi r d q hq e he hr _).trans ?_
      have hp := ih (n - 1) (by omega) (Nat.lt_of_le_of_lt (Nat.sub_le _ _) hn) (by omega)
      refine (congrArg (· + _) hp).trans ?_
      have e1 : 256 * ((n - 1) % 8) + 256 = n % 8 * 256 := by omega
      have e2 : 256 * (n % 8) + 256 = n % 8 * 256 + 256 := by omega
      rw [e1, e2, Finset.sum_range_add, add_assoc]

/-! ## The result's array -/

/-- An item's last point. -/
def lastPt (q : Fin 101184) : Fin (cfgM m hO).N := ⟨q.val / 1088 * 8 + 7, by
  have h := q.isLt
  have : q.val / 1088 * 8 + 7 < 744 := by omega
  exact Nat.lt_of_lt_of_eq this N_0.symm⟩

/-- The array that the blocks at the items' last points make up. -/
def whole (c : Dev nD) : Vec Ideal S101184x2048 .f32 := fun j =>
  outsAt m hO c (lastPt m hO (j 0)).val (lastPt m hO (j 0)).isLt (ix2 ⟨(j 0).val % 1088, Nat.mod_lt _ (by decide)⟩ (j 1))

/-- Where the result's block lies. -/
theorem out_place (t : Fin (cfgM m hO).N) (r : Fin 1088) (d : Fin 2048) (q : Fin 101184) (hq : q.val = t.val / 8 * 1088 + r.val) :
    (((cfgM m hO).win 7).blk t).view.emb (ix2 r d) = ix2 q d := funext fun a => Fin.ext (by
    match a with
    | ⟨0, h0⟩ => exact place ((cfgM m hO).win 7) t (ix2 r d) ⟨0, h0⟩ rfl (t.val / 8) 1088 (r.val) (q.val) (item_word t) rfl rfl (by omega)
    | ⟨1, h1⟩ => exact place ((cfgM m hO).win 7) t (ix2 r d) ⟨1, h1⟩ rfl (0) 2048 (d.val) (d.val) (rfl) rfl rfl (by omega))

/-- An index of a matrix by its two coordinates. -/
theorem two {a b : ℕ} (y : (⟨2, ![a, b]⟩ : Shape).Idx) : ∃ (r : Fin a) (d : Fin b), y = ix2 r d := ⟨y 0, y 1, funext fun k => match k with
  | ⟨0, _⟩ => rfl
  | ⟨1, _⟩ => rfl⟩

/-- The result's array after the run. -/
theorem arr_eq (c : Dev nD) : (dats m hO 0 c).arrAt 7 (cfgM m hO).N = whole m hO c := by
  refine (dats m hO 0 c).arrAt_eq_of_emb 7 _ (fun t hf y => ?_) (fun i => ?_)
  · have h7 := (flush7 (adm m hO) t).mp hf
    have ht : t.val < 744 := Nat.lt_of_lt_of_eq t.isLt N_0
    obtain ⟨r, d, rfl⟩ : ∃ (r : Fin 1088) (d : Fin 2048), y = ix2 r d := two y
    have hr := r.isLt
    rw [out_place m hO t r d ⟨t.val / 8 * 1088 + r.val, by omega⟩ rfl]
    refine Eq.trans (b := outsAt m hO c t.val t.isLt (ix2 r d)) ?_ ?_
    · rw [after0_7]; rfl
    · unfold whole
      have e1 : lastPt m hO ⟨t.val / 8 * 1088 + r.val, by omega⟩ = t := Fin.ext (by
        show (t.val / 8 * 1088 + r.val) / 1088 * 8 + 7 = t.val; omega)
      have e2 : (⟨(t.val / 8 * 1088 + r.val) % 1088, Nat.mod_lt _ (by decide)⟩ : Fin 1088) = r := Fin.ext (by
        show (t.val / 8 * 1088 + r.val) % 1088 = r.val; omega)
      show outsAt m hO c t.val t.isLt (ix2 r d) = outsAt m hO c (lastPt m hO ⟨t.val / 8 * 1088 + r.val, by omega⟩).val (lastPt m hO ⟨t.val / 8 * 1088 + r.val, by omega⟩).isLt (ix2 ⟨(t.val / 8 * 1088 + r.val) % 1088, Nat.mod_lt _ (by decide)⟩ d)
      rw [e1, e2]
  · obtain ⟨q, d, rfl⟩ : ∃ (q : Fin 101184) (d : Fin 2048), i = ix2 q d := two i
    refine ⟨lastPt m hO q, (flush7 (adm m hO) _).mpr (by show (q.val / 1088 * 8 + 7) % 8 = 7; omega), ?_⟩
    rw [← out_place m hO (lastPt m hO q) ⟨q.val % 1088, Nat.mod_lt _ (by decide)⟩ d q (by show q.val = (q.val / 1088 * 8 + 7) / 8 * 1088 + q.val % 1088; omega)]
    exact View.emb_mem_set _ _

/-- An entry of the result that the item's count reaches. -/
theorem whole_at (c : Dev nD) (i : Fin 93) (r : Fin 1088) (d : Fin 2048) (q : Fin 101184) (hq : q.val = i.val * 1088 + r.val)
    (e : Fin 32) (he : (m (((0 : Dev nD) : Thread nD τ).loc main_arg0) (ix1 i) : BitVec 32).toNat = e.val)
    (hr : (r.val : ℤ) < (m (((0 : Dev nD) : Thread nD τ).loc main_arg1) (ix1 i) : BitVec 32).toInt) :
    whole m hO c (ix2 q d) = (∑ f ∈ Finset.range 2048, term (m ((c : Thread nD τ).loc main_arg2)) (m ((c : Thread nD τ).loc main_arg3)) (m ((c : Thread nD τ).loc main_arg4)) (m ((c : Thread nD τ).loc main_arg5)) q e d f)
      + secondBias m c (ix3 0 e d) := by
  have hr' := r.isLt
  have e2 : (⟨q.val % 1088, Nat.mod_lt _ (by decide)⟩ : Fin 1088) = r := Fin.ext (by show q.val % 1088 = r.val; omega)
  show outsAt m hO c (lastPt m hO q).val (lastPt m hO q).isLt (ix2 ⟨q.val % 1088, Nat.mod_lt _ (by decide)⟩ d) = _
  rw [e2]
  refine (outs_at m hO c i r d q hq e he hr _ _ (by show i.val = (q.val / 1088 * 8 + 7) / 8; omega)).trans ?_
  rw [show 256 * ((lastPt m hO q).val % 8) + 256 = 2048 from by show 256 * ((q.val / 1088 * 8 + 7) % 8) + 256 = 2048; omega]
  exact add_comm _ _

end Cert.ExpertsIdeal.Norm

end
-- ==== Proof.ExpertsClaims.lean ====
module

public import proofs.«01_k».proof.Defs
public import proofs.«01_k».proof.Proof.ExpertsPre
public import proofs.«01_k».proof.Proof.ExpertsIdealPre
public import proofs.«01_k».proof.Proof.ExpertsValue
public import proofs.«01_k».proof.Proof.Gen.ExpertsRefIdeal.Run
public import proofs.«01_k».proof.Proof.Gen.ExpertsRefIdeal.Read
public import proofs.«01_k».proof.Proof.Gen.Pre_expert_numbers
public import proofs.«01_k».proof.Proof.Gen.On_rows_used
public import Idealize.ShloMosaic.Adequacy
public import Idealize.ShloMosaic.Init
public import Idealize.ShloMosaic.Lib.Claim

@[expose] public section

set_option maxRecDepth 16384

noncomputable section

/-! # The experts' claims -/

namespace Cert.ExpertsClaims

open Idealize.ShloMosaic Idealize.SL.Sem

/-- The kernel as written runs, and leaves its arguments and every counter as they were. -/
theorem frame_p : Cert.quiescent_Experts := fun m ρ h => Cert.Experts.Hand.frame m ρ (Cert.Experts.Hand.ok_of_pre m h)

/-- The kernel over the extended reals runs, and leaves its arguments and every counter as they were. -/
theorem frame_pi : Cert.quiescent_ExpertsIdeal := fun m ρ h => Cert.ExpertsIdeal.Hand.frame m ρ (Cert.ExpertsIdeal.Hand.ok_of_pre m h)

/-- The reference runs, and leaves its arguments and every counter as they were. -/
theorem frame_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The reference's run again, under the claim's precondition. -/
theorem frame_ri_pre : Cert.quiescent_ExpertsRefIdeal_pre_expert_numbers := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- An entry of the mask of rows in use: whether the row's number within its item is below the item's count. -/
theorem mask_at (x0 x1 : IVec Cert.On_rows_used.S93 32) (x2 : FVec Ideal Cert.On_rows_used.S101184x2048 .f32) (x3 : FVec Ideal Cert.On_rows_used.S1x32x2048x4096 .f32)
    (x4 : FVec Ideal Cert.On_rows_used.S1x32x4096 .f32) (x5 : FVec Ideal Cert.On_rows_used.S1x32x2048x2048 .f32) (x6 : FVec Ideal Cert.On_rows_used.S1x32x2048 .f32)
    (q : Fin 101184) (d : Fin 2048) :
    Cert.On_rows_used.fn (F := Ideal) x0 x1 x2 x3 x4 x5 x6 (ix2 q d) = IntOp.cmpi .slt (BitVec.ofNat 32 (q.val % 1088)) (x1 (ix1 ⟨q.val / 1088, by omega⟩)) := by
  simp only [Cert.On_rows_used.fn]
  pointwise []

/-- A row in use has a number below its item's count. -/
theorem row_lt (w : BitVec 32) (r : Fin 1088) (h : IntOp.cmpi .slt (BitVec.ofNat 32 r.val) w = 1#1) : (r.val : ℤ) < w.toInt := by
  have hr := r.isLt
  have e1 : (BitVec.ofNat 32 r.val).slt w = true := by
    by_contra hc
    have h' := h
    simp only [IntOp.cmpi] at h'
    rw [Bool.eq_false_iff.mpr hc] at h'
    exact absurd h' (by decide)
  have e2 : (BitVec.ofNat 32 r.val).toInt = (r.val : ℤ) := by
    rw [BitVec.toInt, BitVec.toNat_ofNat]
    have : r.val % 2 ^ 32 = r.val := Nat.mod_eq_of_lt (by omega)
    rw [this, if_pos (by omega)]
  simp only [BitVec.slt, decide_eq_true_eq, e2] at e1
  exact e1

/-- The kernel's run: the result's array, and the arguments. -/
theorem kernel_run (m : (ℓ : Loc Cert.ExpertsIdeal.nD Cert.ExpertsIdeal.τ Cert.ExpertsIdeal.sig) → Buf (Elt Ideal) ℓ) (g : Dev Cert.ExpertsIdeal.nD → PrngReg) (hO : Cert.ExpertsIdeal.Hand.Ok m) :
    θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
      r.2.mem ((c.tc : Thread Cert.ExpertsIdeal.nD Cert.ExpertsIdeal.τ).loc Cert.ExpertsIdeal.main_v6) = Cert.ExpertsIdeal.Norm.whole m hO c
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)) :=
  (θ_run Cert.ExpertsIdeal.defs _ _).mono (fun _ h c => ⟨((h.1 c).1 7).trans (Cert.ExpertsIdeal.Norm.arr_eq m hO c),
      ((h.1 c).2 Cert.ExpertsIdeal.main_arg0 (by decide : Cert.ExpertsIdeal.main_arg0 ∈ Pipeline.restRefs Cert.ExpertsIdeal.sig Cert.ExpertsIdeal.spec0)).trans (Cert.ExpertsIdeal.Hand.V_main_arg0 m c),
      ((h.1 c).2 Cert.ExpertsIdeal.main_arg1 (by decide : Cert.ExpertsIdeal.main_arg1 ∈ Pipeline.restRefs Cert.ExpertsIdeal.sig Cert.ExpertsIdeal.spec0)).trans (Cert.ExpertsIdeal.Hand.V_main_arg1 m c),
      ((h.1 c).1 0).trans (((Cert.ExpertsIdeal.Hand.dats m hO 0 c).arrAt_in 0 rfl _).trans ((Cert.ExpertsIdeal.Hand.A_eq m hO c 0).trans (Cert.ExpertsIdeal.Hand.V_main_arg2 m c))),
      ((h.1 c).2 Cert.ExpertsIdeal.main_arg3 (by decide : Cert.ExpertsIdeal.main_arg3 ∈ Pipeline.restRefs Cert.ExpertsIdeal.sig Cert.ExpertsIdeal.spec0)).trans (Cert.ExpertsIdeal.Hand.V_main_arg3 m c),
      ((h.1 c).2 Cert.ExpertsIdeal.main_arg4 (by decide : Cert.ExpertsIdeal.main_arg4 ∈ Pipeline.restRefs Cert.ExpertsIdeal.sig Cert.ExpertsIdeal.spec0)).trans (Cert.ExpertsIdeal.Hand.V_main_arg4 m c),
      ((h.1 c).2 Cert.ExpertsIdeal.main_arg5 (by decide : Cert.ExpertsIdeal.main_arg5 ∈ Pipeline.restRefs Cert.ExpertsIdeal.sig Cert.ExpertsIdeal.spec0)).trans (Cert.ExpertsIdeal.Hand.V_main_arg5 m c),
      ((h.1 c).2 Cert.ExpertsIdeal.main_arg6 (by decide : Cert.ExpertsIdeal.main_arg6 ∈ Pipeline.restRefs Cert.ExpertsIdeal.sig Cert.ExpertsIdeal.spec0)).trans (Cert.ExpertsIdeal.Hand.V_main_arg6 m c)⟩)
    (Cert.ExpertsIdeal.Hand.run_quiescent m g hO)

/-- On the rows in use the reference's output, from its own memory, is the kernel's array. -/
theorem out_eq (m : (ℓ : Loc Cert.ExpertsIdeal.nD Cert.ExpertsIdeal.τ Cert.ExpertsIdeal.sig) → Buf (Elt Ideal) ℓ)
    (m' : (ℓ : Loc Cert.ExpertsRefIdeal.nD Cert.ExpertsRefIdeal.τ Cert.ExpertsRefIdeal.sig) → Buf (Elt Ideal) ℓ)
    (c : Dev Cert.ExpertsRefIdeal.nD) (hpre : Cert.Pre_ExpertsIdeal m) (hO : Cert.ExpertsIdeal.Hand.Ok m)
    (h0 : m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0))
    (h2 : m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2))
    (h3 : m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3))
    (h4 : m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4))
    (h5 : m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5))
    (h6 : m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6))
    (j : (⟨2, ![101184, 2048]⟩ : Shape).Idx)
    (hm : Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) j = 1#1) :
    Cert.ExpertsRefIdeal.Value.res_main_v58 m' c j = Cert.ExpertsIdeal.Norm.whole m hO c j := by
  obtain rfl : c = 0 := Subsingleton.elim _ _
  obtain ⟨q, d, rfl⟩ := Cert.ExpertsIdeal.Norm.two j
  have hq := q.isLt
  rw [mask_at] at hm
  have hr := row_lt _ ⟨q.val % 1088, Nat.mod_lt _ (by decide)⟩ hm
  have he := Cert.ExpertsIdeal.Hand.numbers_of_pre m hpre (ix1 ⟨q.val / 1088, by omega⟩)
  rw [Cert.ExpertsRefIdeal.Read.val_main_v58_eq, h0, h2, h3, h4, h5, h6]
  refine (Cert.ExpertsIdeal.Norm.ref_at _ _ _ _ _ _ ⟨q.val / 1088, by omega⟩ ⟨q.val % 1088, Nat.mod_lt _ (by decide)⟩ d q ⟨_, he⟩ (by show q.val = q.val / 1088 * 1088 + q.val % 1088; omega) rfl).trans ?_
  exact (Cert.ExpertsIdeal.Norm.whole_at m hO 0 ⟨q.val / 1088, by omega⟩ ⟨q.val % 1088, Nat.mod_lt _ (by decide)⟩ d q (by show q.val = q.val / 1088 * 1088 + q.val % 1088; omega) ⟨_, he⟩ rfl hr).symm

/-- Over the extended reals the kernel and the reference end with the same rows, on the rows in use. -/
theorem algebraic : Cert.algebraic_ExpertsIdeal_ExpertsRefIdeal_on_rows_used := by
  intro m g m' g' hpre hagree
  have hO := Cert.ExpertsIdeal.Hand.ok_of_pre m hpre
  refine ⟨fun c => Cert.ExpertsIdeal.Norm.whole m hO c, ?_, ?_⟩
  · exact (θ_run Cert.ExpertsIdeal.defs _ _).mono (fun r h c => ⟨fun i _ => congrFun (h c).1 i, (h c).2⟩) (kernel_run m g hO)
  · refine (θ_run Cert.ExpertsRefIdeal.defs _ _).mono (fun r h c => ?_) (Cert.ExpertsRefIdeal.Value.run (F := Ideal) m' g')
    obtain ⟨h0, h1, h2, h3, h4, h5, h6⟩ := hagree c
    exact ⟨fun i hi => (congrFun (h c).1 i).trans (out_eq m m' c hpre hO h0 h2 h3 h4 h5 h6 i hi), (h c).2⟩

end Cert.ExpertsClaims
end
-- ==== Proof.OutProjValue.lean ====
/- The value of the output projection: what the pipelined kernel leaves in its two arrays, the residual rows and their
   norm, is the reference's term, index by index. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise

@[expose] public section

set_option maxRecDepth 16384

noncomputable section

namespace Cert.OutProjIdeal.Norm

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The blocks' places over the grid. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_7.index t = ![t.val, 0] ∧ win0_8.index t = ![t.val, 0] :=
  (by decide +kernel : ∀ t : Fin grid0.N, _)

/-- The reciprocal root mean square of a row whose entries are `x`. -/
def scale (x : Fin 2048 → EReal) : EReal :=
  Ideal.rsqrt (Ideal.div (∑ k : Fin 2048, x k * x k) (Ideal.ofBits .f32 0x45000000#32) + Ideal.ofBits .f32 0x3727C5AC#32)

/-- One entry of the residual: the input, and the two mixers' rows times their halves of the weights. -/
def mix (x : Vec Ideal S8x2048x2048 .f32) (a b : Vec Ideal S16384x1024 .f32) (w : Vec Ideal S1x2048x2048 .f32) (p : Fin 16384) (k : Fin 2048) : EReal :=
  x (ix3 ⟨p.val / 2048, by omega⟩ ⟨p.val % 2048, by omega⟩ k) + (∑ l : Fin 1024, a (ix2 p l) * w (ix3 0 ⟨l.val, by omega⟩ k))
    + ∑ l : Fin 1024, b (ix2 p l) * w (ix3 0 ⟨1024 + l.val, by omega⟩ k)

/-- The stored residual block at one entry. -/
theorem pay2_at (x : Vec Ideal S256x2048 .f32) (a : Vec Ideal S256x1024 .f32) (u : Vec Ideal S1024x2048 .bf16) (b : Vec Ideal S256x1024 .f32)
    (v : Vec Ideal S1024x2048 .bf16) (r : Fin 256) (k : Fin 2048) :
    k0_pay2 (F := Ideal) x a u b v (ix2 r k) = x (ix2 r k) + (∑ l : Fin 1024, a (ix2 r l) * u (ix2 l k)) + ∑ l : Fin 1024, b (ix2 r l) * v (ix2 l k) := by
  pointwise [k0_pay2]

/-- The stored norm block at one entry. -/
theorem pay3_at (x : Vec Ideal S256x2048 .f32) (a : Vec Ideal S256x1024 .f32) (u : Vec Ideal S1024x2048 .bf16) (b : Vec Ideal S256x1024 .f32)
    (v : Vec Ideal S1024x2048 .bf16) (g : Vec Ideal S1x2048 .f32) (r : Fin 256) (k : Fin 2048) :
    k0_pay3 (F := Ideal) x a u b v g (ix2 r k) = k0_pay2 (F := Ideal) x a u b v (ix2 r k)
      * scale (fun l => k0_pay2 (F := Ideal) x a u b v (ix2 r l)) * g (ix2 0 k) := by
  simp only [k0_pay3]
  generalize k0_pay2 (F := Ideal) x a u b v = y
  pointwise [scale]

/-- The region finds the prompt's rows flattened. -/
theorem V_x (c : Dev nD) : V m c main_v8 = shapeCast S16384x2048 (m ((c : Thread nD τ).loc main_arg0)) shapeCasts_S8x2048x2048_S16384x2048 := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results <;> rfl

/-- The region finds the gain as one row. -/
theorem V_g (c : Dev nD) : V m c main_v10 = shapeCast S1x2048 (shapeCast S2048 (m ((c : Thread nD τ).loc main_arg4)) shapeCasts_S1x2048_S2048) shapeCasts_S2048_S1x2048 := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results <;> rfl

/-- The region finds the weights without their leading axis. -/
theorem V_w (c : Dev nD) : V m c main_v1 = truncf (F := Ideal) .bf16 (shapeCast S2048x2048 (m ((c : Thread nD τ).loc main_arg3)) shapeCasts_S1x2048x2048_S2048x2048) bitsLt_bf16_f32 := by
  unfold V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results <;> rfl

/-- Entries of the flattened rows. -/
theorem flat_at (x : Vec Ideal S8x2048x2048 .f32) (r : Fin 16384) (k : Fin 2048) :
    shapeCast S16384x2048 x shapeCasts_S8x2048x2048_S16384x2048 (ix2 r k) = x (ix3 ⟨r.val / 2048, by omega⟩ ⟨r.val % 2048, by omega⟩ k) := by
  pointwise []

/-- Entries of the gain as one row. -/
theorem row_at (g : Vec Ideal S1x2048 .f32) (k : Fin 2048) :
    shapeCast S1x2048 (shapeCast S2048 g shapeCasts_S1x2048_S2048) shapeCasts_S2048_S1x2048 (ix2 0 k) = g (ix2 0 k) := by
  pointwise []

/-- Entries of the weights without their leading axis. -/
theorem flat_w (w : Vec Ideal S1x2048x2048 .f32) (l k : Fin 2048) :
    truncf (F := Ideal) .bf16 (shapeCast S2048x2048 w shapeCasts_S1x2048x2048_S2048x2048) bitsLt_bf16_f32 (ix2 l k) = w (ix3 0 l k) := by
  pointwise []

/-- A row of the flattened input block is a row of the prompt's input. -/
theorem x_at (c : Dev nD) (t : Fin cfg0.N) (r : Fin 256) (k : Fin 2048) (q : Fin 16384) (hq : q.val = t.val * 256 + r.val)
    (x : Vec Ideal S8x2048x2048 .f32) (hx : m ((c : Thread nD τ).loc main_arg0) = x) :
    iblk m c 0 t (ix2 r k) = x (ix3 ⟨q.val / 2048, by omega⟩ ⟨q.val % 2048, by omega⟩ k) := by
  rw [← flat_at x q k, ← hx, ← V_x]
  show V m c main_v8 (((cfg0.win 0).blk t).view.emb (ix2 r k)) = V m c main_v8 _
  congr 1
  blk_ext [idx t]

/-- A row of the recurrence's block. -/
theorem a_at (c : Dev nD) (t : Fin cfg0.N) (r : Fin 256) (k : Fin 1024) (q : Fin 16384) (hq : q.val = t.val * 256 + r.val)
    (a : Vec Ideal S16384x1024 .f32) (ha : m ((c : Thread nD τ).loc main_arg1) = a) : iblk m c 1 t (ix2 r k) = a (ix2 q k) := by
  rw [← ha, ← V_main_arg1 m c]
  show V m c main_arg1 (((cfg0.win 1).blk t).view.emb (ix2 r k)) = V m c main_arg1 _
  congr 1
  blk_ext [idx t]

/-- A row of the attention's block. -/
theorem b_at (c : Dev nD) (t : Fin cfg0.N) (r : Fin 256) (k : Fin 1024) (q : Fin 16384) (hq : q.val = t.val * 256 + r.val)
    (b : Vec Ideal S16384x1024 .f32) (hb : m ((c : Thread nD τ).loc main_arg2) = b) : iblk m c 2 t (ix2 r k) = b (ix2 q k) := by
  rw [← hb, ← V_main_arg2 m c]
  show V m c main_arg2 (((cfg0.win 2).blk t).view.emb (ix2 r k)) = V m c main_arg2 _
  congr 1
  blk_ext [idx t]

/-- The weights' block is the weights. -/
theorem w_at (c : Dev nD) (t : Fin cfg0.N) (l k : Fin 2048) (w : Vec Ideal S1x2048x2048 .f32) (hw : m ((c : Thread nD τ).loc main_arg3) = w) :
    iblk m c 3 t (ix2 l k) = w (ix3 0 l k) := by
  rw [← flat_w w l k, ← hw, ← V_w]
  show V m c main_v1 (((cfg0.win 3).blk t).view.emb (ix2 l k)) = V m c main_v1 _
  congr 1
  blk_ext [idx t]

/-- The gain's block is the gain. -/
theorem g_at (c : Dev nD) (t : Fin cfg0.N) (k : Fin 2048) (g : Vec Ideal S1x2048 .f32) (hg : m ((c : Thread nD τ).loc main_arg4) = g) :
    iblk m c 4 t (ix2 0 k) = g (ix2 0 k) := by
  rw [← row_at g k, ← hg, ← V_g]
  show V m c main_v10 (((cfg0.win 4).blk t).view.emb (ix2 0 k)) = V m c main_v10 _
  congr 1
  blk_ext [idx t]

/-- The first half of the weights' rows, as the body loads them. -/
theorem upper (w : Vec Ideal S2048x2048 .bf16) (l : Fin 1024) (k : Fin 2048) : View.ld w r0_2 (ix2 l k) = w (ix2 ⟨l.val, by omega⟩ k) := by
  show w (r0_2.idx (ix2 l k)) = _
  exact congrArg w (funext fun a => Fin.ext (match a with
    | ⟨0, _⟩ => by show 0 + 1 * l.val = l.val; omega
    | ⟨1, _⟩ => by show 0 + 1 * k.val = k.val; omega))

/-- The second half of the weights' rows, as the body loads them. -/
theorem lower (w : Vec Ideal S2048x2048 .bf16) (l : Fin 1024) (k : Fin 2048) : View.ld w r0_3 (ix2 l k) = w (ix2 ⟨1024 + l.val, by omega⟩ k) := by
  show w (r0_3.idx (ix2 l k)) = _
  exact congrArg w (funext fun a => Fin.ext (match a with
    | ⟨0, _⟩ => by show 1024 + 1 * l.val = 1024 + l.val; omega
    | ⟨1, _⟩ => by show 0 + 1 * k.val = k.val; omega))

/-- One entry of the residual block a point stores. -/
theorem block_at (c : Dev nD) (t : Fin cfg0.N) (r : Fin 256) (k : Fin 2048) (q : Fin 16384) (hq : q.val = t.val * 256 + r.val)
    (x : Vec Ideal S8x2048x2048 .f32) (hx : m ((c : Thread nD τ).loc main_arg0) = x)
    (a : Vec Ideal S16384x1024 .f32) (ha : m ((c : Thread nD τ).loc main_arg1) = a)
    (b : Vec Ideal S16384x1024 .f32) (hb : m ((c : Thread nD τ).loc main_arg2) = b)
    (w : Vec Ideal S1x2048x2048 .f32) (hw : m ((c : Thread nD τ).loc main_arg3) = w) :
    k0_pay2 (F := Ideal) (iblk m c 0 t) (iblk m c 1 t) (View.ld (iblk m c 3 t) r0_2) (iblk m c 2 t) (View.ld (iblk m c 3 t) r0_3) (ix2 r k) = mix x a b w q k := by
  refine (pay2_at _ _ _ _ _ r k).trans ?_
  exact congrArg₂ (· + ·) (congrArg₂ (· + ·) (x_at m c t r k q hq x hx)
    (Finset.sum_congr rfl fun l _ => congrArg₂ (· * ·) (a_at m c t r l q hq a ha) ((upper _ l k).trans (w_at m c t _ k w hw))))
    (Finset.sum_congr rfl fun l _ => congrArg₂ (· * ·) (b_at m c t r l q hq b hb) ((lower _ l k).trans (w_at m c t _ k w hw)))

/-- A sum over a joined axis is the sum over the first half and the sum over the second. -/
theorem sum_joined (a b n : ℕ) (hn : n = a + b) (f : Fin n → EReal) :
    ∑ l : Fin n, f l = (∑ l : Fin a, f ⟨l.val, by omega⟩) + ∑ l : Fin b, f ⟨a + l.val, by omega⟩ := by
  subst hn
  exact Fin.sum_univ_add f

/-- The recurrence's rows, by sequence and position. -/
theorem split_a (a : Vec Ideal S16384x1024 .f32) (p : Fin 8) (s : Fin 2048) (l : Fin 1024) :
    Cert.OutProjRefIdeal.Read.val_main_v0 (F := Ideal) a (ix3 p s l) = a (ix2 ⟨p.val * 2048 + s.val, by omega⟩ l) := by
  have hl := l.isLt
  exact (Cert.OutProjRefIdeal.Read.val_main_v0_apply a (ix3 p s l)).trans (congrArg a (funext fun k => Fin.ext (match k with
    | ⟨0, _⟩ => by show ((p.val * 2048 + s.val) * 1024 + l.val) / 1024 = p.val * 2048 + s.val; omega
    | ⟨1, _⟩ => by show ((p.val * 2048 + s.val) * 1024 + l.val) % 1024 = l.val; omega)))

/-- The attention's rows, by sequence and position. -/
theorem split_b (b : Vec Ideal S16384x1024 .f32) (p : Fin 8) (s : Fin 2048) (l : Fin 1024) :
    Cert.OutProjRefIdeal.Read.val_main_v1 (F := Ideal) b (ix3 p s l) = b (ix2 ⟨p.val * 2048 + s.val, by omega⟩ l) := by
  have hl := l.isLt
  exact (Cert.OutProjRefIdeal.Read.val_main_v1_apply b (ix3 p s l)).trans (congrArg b (funext fun k => Fin.ext (match k with
    | ⟨0, _⟩ => by show ((p.val * 2048 + s.val) * 1024 + l.val) / 1024 = p.val * 2048 + s.val; omega
    | ⟨1, _⟩ => by show ((p.val * 2048 + s.val) * 1024 + l.val) % 1024 = l.val; omega)))

/-- The mixers' joined rows at an entry of the first half. -/
theorem join_left (a b : Vec Ideal S16384x1024 .f32) (p : Fin 8) (s : Fin 2048) (l : Fin 1024) :
    Cert.OutProjRefIdeal.Read.val_main_v2 (F := Ideal) a b (ix3 p s ⟨l.val, by omega⟩) = a (ix2 ⟨p.val * 2048 + s.val, by omega⟩ l) :=
  (concatenate_pair_apply_left (t := Cert.OutProjRefIdeal.S8x2048x2048) (s₁ := Cert.OutProjRefIdeal.S8x2048x1024) (s₂ := Cert.OutProjRefIdeal.S8x2048x1024)
    2 (Cert.OutProjRefIdeal.Read.val_main_v0 (F := Ideal) a) (Cert.OutProjRefIdeal.Read.val_main_v1 (F := Ideal) b)
    Cert.OutProjRefIdeal.Gen.concatenates_S8x2048x1024_S8x2048x1024_S8x2048x2048_d2 (ix3 p s ⟨l.val, by omega⟩) rfl (ix3 p s l) (fun k => match k with
    | ⟨0, _⟩ => rfl
    | ⟨1, _⟩ => rfl
    | ⟨2, _⟩ => rfl)).trans (split_a a p s l)

/-- The mixers' joined rows at an entry of the second half. -/
theorem join_right (a b : Vec Ideal S16384x1024 .f32) (p : Fin 8) (s : Fin 2048) (l : Fin 1024) :
    Cert.OutProjRefIdeal.Read.val_main_v2 (F := Ideal) a b (ix3 p s ⟨1024 + l.val, by omega⟩) = b (ix2 ⟨p.val * 2048 + s.val, by omega⟩ l) :=
  (concatenate_pair_apply_right (t := Cert.OutProjRefIdeal.S8x2048x2048) (s₁ := Cert.OutProjRefIdeal.S8x2048x1024) (s₂ := Cert.OutProjRefIdeal.S8x2048x1024)
    2 (Cert.OutProjRefIdeal.Read.val_main_v0 (F := Ideal) a) (Cert.OutProjRefIdeal.Read.val_main_v1 (F := Ideal) b)
    Cert.OutProjRefIdeal.Gen.concatenates_S8x2048x1024_S8x2048x1024_S8x2048x2048_d2 (ix3 p s ⟨1024 + l.val, by omega⟩) rfl rfl (ix3 p s l) (fun k => match k with
    | ⟨0, _⟩ => fun _ => rfl
    | ⟨1, _⟩ => fun _ => rfl
    | ⟨2, _⟩ => fun hk => absurd rfl hk) (by show l.val + 1024 = 1024 + l.val; omega)).trans (split_b b p s l)

/-- The reference's residual at one entry, before the rows are flattened. -/
theorem ref5_at (x : Vec Ideal S8x2048x2048 .f32) (a b : Vec Ideal S16384x1024 .f32) (w : Vec Ideal S1x2048x2048 .f32) (p : Fin 8) (s k : Fin 2048) (q : Fin 16384) (hq : q.val = p.val * 2048 + s.val) :
    Cert.OutProjRefIdeal.Read.val_main_v5 (F := Ideal) x a b w (ix3 p s k) = mix x a b w q k := by
  have e1 : Cert.OutProjRefIdeal.Read.val_main_v4 (F := Ideal) a b w (ix3 p s k)
      = ∑ l : Fin 2048, Cert.OutProjRefIdeal.Read.val_main_v2 (F := Ideal) a b (ix3 p s l) * w (ix3 0 l k) := by
    pointwise [Cert.OutProjRefIdeal.Read.val_main_v4, Cert.OutProjRefIdeal.Read.val_main_v3]
  have hp : (⟨q.val / 2048, Nat.div_lt_of_lt_mul q.isLt⟩ : Fin 8) = p := Fin.ext (by show q.val / 2048 = p.val; omega)
  have hs : (⟨q.val % 2048, Nat.mod_lt _ (by decide)⟩ : Fin 2048) = s := Fin.ext (by show q.val % 2048 = s.val; omega)
  have hqq : (⟨p.val * 2048 + s.val, by omega⟩ : Fin 16384) = q := Fin.ext hq.symm
  show (x _ : EReal) + Cert.OutProjRefIdeal.Read.val_main_v4 (F := Ideal) a b w _ = _
  rw [e1, sum_joined 1024 1024 2048 rfl]
  unfold mix
  rw [← add_assoc, hp, hs]
  congr 1
  · congr 1
    exact Finset.sum_congr rfl fun l _ => by rw [join_left, hqq]
  · exact Finset.sum_congr rfl fun l _ => by rw [join_right, hqq]

/-- The reference's residual at one entry. -/
theorem ref6_at (x : Vec Ideal S8x2048x2048 .f32) (a b : Vec Ideal S16384x1024 .f32) (w : Vec Ideal S1x2048x2048 .f32) (q : Fin 16384) (k : Fin 2048) :
    Cert.OutProjRefIdeal.Read.val_main_v6 (F := Ideal) x a b w (ix2 q k) = mix x a b w q k := by
  rw [← ref5_at x a b w ⟨q.val / 2048, by omega⟩ ⟨q.val % 2048, by omega⟩ k q (by show q.val = q.val / 2048 * 2048 + q.val % 2048; omega)]
  unfold Cert.OutProjRefIdeal.Read.val_main_v6
  exact flat_at _ q k

/-- The reference's norm of the residual at one entry. -/
theorem ref21_at (x : Vec Ideal S8x2048x2048 .f32) (a b : Vec Ideal S16384x1024 .f32) (w : Vec Ideal S1x2048x2048 .f32) (g : Vec Ideal S1x2048 .f32) (q : Fin 16384) (k : Fin 2048) :
    Cert.OutProjRefIdeal.Read.val_main_v21 (F := Ideal) x a b w g (ix2 q k) = mix x a b w q k * scale (fun l => mix x a b w q l) * g (ix2 0 k) := by
  have e : ∀ l : Fin 2048, mix x a b w q l = Cert.OutProjRefIdeal.Read.val_main_v5 (F := Ideal) x a b w (ix3 ⟨q.val / 2048, by omega⟩ ⟨q.val % 2048, by omega⟩ l) := fun l =>
    (ref5_at x a b w ⟨q.val / 2048, by omega⟩ ⟨q.val % 2048, by omega⟩ l q (by show q.val = q.val / 2048 * 2048 + q.val % 2048; omega)).symm
  simp only [e]
  simp only [Cert.OutProjRefIdeal.Read.val_main_v21, Cert.OutProjRefIdeal.Read.val_main_v20, Cert.OutProjRefIdeal.Read.val_main_v19, Cert.OutProjRefIdeal.Read.val_main_v18,
    Cert.OutProjRefIdeal.Read.val_main_v17, Cert.OutProjRefIdeal.Read.val_main_v16, Cert.OutProjRefIdeal.Read.val_main_v15, Cert.OutProjRefIdeal.Read.val_main_v14,
    Cert.OutProjRefIdeal.Read.val_main_v13, Cert.OutProjRefIdeal.Read.val_main_v12, Cert.OutProjRefIdeal.Read.val_main_v11, Cert.OutProjRefIdeal.Read.val_main_v10,
    Cert.OutProjRefIdeal.Read.val_main_v9, Cert.OutProjRefIdeal.Read.val_main_v8, Cert.OutProjRefIdeal.Read.val_main_v7, Cert.OutProjRefIdeal.Read.val_main_cst,
    Cert.OutProjRefIdeal.Read.val_main_cst_0, Cert.OutProjRefIdeal.Read.val_main_cst_1]
  generalize Cert.OutProjRefIdeal.Read.val_main_v5 (F := Ideal) x a b w = y
  pointwise [scale]

/-- The residual's array is the reference's term. -/
theorem final7 (c : Dev nD) : (dats m 0 c).arrAt 7 cfg0.N = Cert.OutProjRefIdeal.Read.val_main_v6 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have ht : t.val < 64 := lt_of_lt_of_eq t.isLt N_0
  blk_simp
  rw [after0_7]
  unfold out0_7
  frame_out
  idx_vars y
  rw [show (win0_7.blk t).view.emb (ix2 y0 y1) = (ix2 ⟨t.val * 256 + y0.val, by omega⟩ y1 : S16384x2048.Idx) by
    blk_ext [idx t]]
  rw [ref6_at]
  exact block_at m c t y0 y1 _ rfl _ rfl _ rfl _ rfl _ rfl

/-- The norm's array is the reference's term. -/
theorem final8 (c : Dev nD) : (dats m 0 c).arrAt 8 cfg0.N = Cert.OutProjRefIdeal.Read.val_main_v21 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : t.val < 64 := lt_of_lt_of_eq t.isLt N_0
  blk_simp
  rw [after0_8]
  unfold out0_8
  frame_out
  idx_vars y
  rw [show (win0_8.blk t).view.emb (ix2 y0 y1) = (ix2 ⟨t.val * 256 + y0.val, by omega⟩ y1 : S16384x2048.Idx) by
    blk_ext [idx t]]
  rw [ref21_at, pay3_at, g_at m c t y1 _ rfl]
  have e := fun k => block_at m c t y0 k ⟨t.val * 256 + y0.val, by omega⟩ rfl _ rfl _ rfl _ rfl _ rfl
  exact congrArg₂ (· * ·) (congrArg₂ (· * ·) (e y1) (congrArg scale (funext e))) rfl

end Cert.OutProjIdeal.Norm
end
-- ==== Proof.OutProjClaims.lean ====
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjValue
public import Idealize.ShloMosaic.Adequacy
public import Idealize.ShloMosaic.Init
public import Idealize.ShloMosaic.Lib.Claim

@[expose] public section

set_option maxRecDepth 16384

noncomputable section

/-! # The output projection's claims -/

namespace Cert.OutProjClaims

open Idealize.ShloMosaic Idealize.SL.Sem

/-- The kernel as written runs, and leaves its arguments and every counter as they were. -/
theorem frame_p : Cert.quiescent_OutProj := fun m ρ _ => Cert.OutProj.Gen.frame m ρ

/-- The kernel over the extended reals runs, and leaves its arguments and every counter as they were. -/
theorem frame_pi : Cert.quiescent_OutProjIdeal := fun m ρ _ => Cert.OutProjIdeal.Gen.frame m ρ

/-- The reference runs, and leaves its arguments and every counter as they were. -/
theorem frame_ri : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- Over the extended reals the kernel and the reference end with the same results. -/
theorem algebraic : Cert.algebraic_OutProjIdeal_OutProjRefIdeal := by
  intro m g m' g' _ hagree
  refine ⟨fun c => (Cert.OutProjIdeal.Gen.dats m 0 c).arrAt 7 Cert.OutProjIdeal.cfg0.N, fun c => (Cert.OutProjIdeal.Gen.dats m 0 c).arrAt 8 Cert.OutProjIdeal.cfg0.N, ?_, ?_⟩
  · exact (θ_run Cert.OutProjIdeal.defs _ _).mono (fun r h c => ⟨(h c).1, (h c).2.1, (h c).2.2.2⟩) (Cert.OutProjIdeal.Value.run_blocks m g)
  · refine (θ_run Cert.OutProjRefIdeal.defs _ _).mono (fun r h c => ?_) (Cert.OutProjRefIdeal.Value.run (F := Ideal) m' g')
    obtain ⟨h0, h1, h2, h3, h4, h5, h6⟩ := hagree c
    refine ⟨(h c).1.trans ?_, (h c).2.1.trans ?_, (h c).2.2⟩
    · rw [Cert.OutProjRefIdeal.Read.val_main_v6_eq, h0, h1, h2, h3]
      exact (Cert.OutProjIdeal.Norm.final7 m c).symm
    · rw [Cert.OutProjRefIdeal.Read.val_main_v21_eq, h0, h1, h2, h3, h4]
      exact (Cert.OutProjIdeal.Norm.final8 m c).symm

end Cert.OutProjClaims
end
-- ==== Proof.CombineIdealKit.lean ====
module

public import proofs.«01_k».proof.Proof.Gen.CombineIdeal.Launch
public import proofs.«01_k».proof.Proof.Gen.CombineIdeal.Skeleton
public import proofs.«01_k».proof.Proof.Gen.CombineIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

/-! # What the frame of the gathering sum is stated over -/

namespace Cert.CombineIdeal.Hand

open Cert.CombineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- The buffers of core `c` when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations and then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of input 0 holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 1 holds its block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 2 holds its block at every point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input 3 holds its block at every point. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run: the arguments end as they were launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- A staging buffer of the result, through which its contents are stated. -/
abbrev VO0_4 : View sig .tc .vmem S128x2048 .f32 := (Memref.whole cc0_stg4_0 : Memref sig .tc .vmem S128x2048 .f32).view
/-- The staging buffers at point `t`. -/
abbrev ms0_0 (t : Fin cfg0.N) : Memref sig .tc .smem S512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
/-- The scratch array that the rows are gathered into. -/
abbrev scM0_0 : Memref sig .tc .vmem S4x128x2048 .f32 := Memref.whole cc0_scratch0
/-- The array of rows that the body copies from. -/
abbrev hbM0_0 : Memref sig .tc .hbm S101184x2048 .f32 := Memref.whole main_arg4
/-- The contents type of a buffer on core `c`, and the buffer held whole. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphore. -/
abbrev osem0 : Fin 1 → SemLoc sig := fun j => (![SemLoc.dma 9] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
/-- The array the body copies from is no window's array. -/
def H0 : Finset (Ref sig .tc) := {main_arg4}
theorem H0_sub : H0 ⊆ Pipeline.restRefs sig spec0 := by decide
/-- It is held at its launch contents. -/
theorem hbmPts0_eq (c : Dev nD) :
    (bigSep H0 (fun b => ((c : Thread nD τ).loc b) ↦{fullShare} V m c b) : sProp 𝕄) = iprop(hbPt0 c hbM0_0 (V m c main_arg4)) := by
  rw [BI.bigSep_eq_bigSepL_of_eq [main_arg4] (by decide) (by decide)]; rfl

/-- The invariant of the body, part by part: the scratch array, the register, the semaphore at zero and the array of rows. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 9) 0) ∗ iprop(hbPt0 c hbM0_0 (V m c main_arg4))) := by
  rw [Pipeline.ΦD_eq, scopedRest0_eq, ownSems00_eq, hbmPts0_eq]; simp only [scM0_0, owns_whole]; try rfl

end Cert.CombineIdeal.Hand

end
-- ==== Proof.CombineIdealRun.lean ====
module

public import proofs.«01_k».proof.Proof.CombineIdealKit
public import Idealize.ShloMosaic.Lib.Batch
public import Idealize.ShloMosaic.Lib.ViewIndex
public import Idealize.ShloMosaic.Lib.ValueIdxCore
public import Idealize.ShloMosaic.Lib.WholeRead

@[expose] public section

set_option maxRecDepth 16384

noncomputable section

/-! # The copies of the gathering sum: one copy's start, one copy's wait -/

namespace Cert.CombineIdeal.Hand

open Cert.CombineIdeal.Gen
open Idealize.ShloMosaic Idealize.ShloMosaic.TcCoe Idealize.ShloMosaic.Tactic
open Idealize.ShloMosaic.RefSig (tileCredit)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- Indices of a two-axis shape with equal coordinates are equal. -/
theorem two_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- The slot number of copy `n`. -/
def wd (x0 : Vec F S512 .i32) (n : Fin 512) : BitVec 32 := x0 (ix1 n)

/-- Every slot number of the block names a row. -/
def Inside (x0 : Vec F S512 .i32) : Prop := ∀ n : Fin 512, (wd x0 n).toNat < 101184

/-- The rows gathered: entry `(k, r, j)` is entry `j` of the row that slot `4r + k` names. -/
def gath (x0 : Vec F S512 .i32) (fh : S101184x2048.Idx → Elt F .f32) : S4x128x2048.Idx → Elt F .f32 := fun y =>
  fh (ix2 ⟨(wd x0 ⟨4 * (y 1).val + (y 0).val, by have h1 : (y 1).val < 128 := (y 1).isLt; have h0 : (y 0).val < 4 := (y 0).isLt; omega⟩).toNat % 101184, Nat.mod_lt _ (by decide)⟩ (y 2))

/-- The part of the scratch array that copy `n` fills. -/
def blkSet (n : Fin 512) : Finset S4x128x2048.Idx := Finset.univ.filter fun y => (y 0).val = n.val % 4 ∧ (y 1).val = n.val / 4

/-- The row that copy `n` reads. -/
def rowSet (x0 : Vec F S512 .i32) (n : Fin 512) : Finset S101184x2048.Idx := Finset.univ.filter fun y => (y 0).val = (wd x0 n).toNat

/-- An index among the places of a type's indices is the place of one of them. -/
theorem mem_emb {α β : Type} [Fintype α] (f : α ↪ β) {y : β} (h : y ∈ Finset.univ.map f) : ∃ x, f x = y := by
  obtain ⟨x, h⟩ := Finset.mem_map.mp h
  exact ⟨x, h.2⟩

/-- Membership of a copy's part of the scratch array. -/
theorem mem_blk {n : Fin 512} {y : S4x128x2048.Idx} : y ∈ blkSet n ↔ ((y 0).val = n.val % 4 ∧ (y 1).val = n.val / 4) :=
  Finset.mem_filter.trans ⟨fun h => h.2, fun h => ⟨Finset.mem_univ _, h⟩⟩

/-- Membership of a copy's row. -/
theorem mem_row {x0 : Vec F S512 .i32} {n : Fin 512} {y : S101184x2048.Idx} : y ∈ rowSet x0 n ↔ (y 0).val = (wd x0 n).toNat :=
  Finset.mem_filter.trans ⟨fun h => h.2, fun h => ⟨Finset.mem_univ _, h⟩⟩

/-- One copy's destination. -/
def winO (o : Fin 3 → ℕ) (inb : ∀ a, o a + S1x1x2048.size a ≤ S4x128x2048.size a) : Memref sig .tc .vmem S1x2048 .f32 :=
  (scM0_0.slice (Rect.unit (s := S4x128x2048) o S1x1x2048.size inb) (fun _ => rfl)).squeeze S1x2048 squeezes_S1x1x2048_S1x2048

/-- One copy's source. -/
def srcO (o : Fin 2 → ℕ) (inb : ∀ a, o a + S1x2048.size a ≤ S101184x2048.size a) : Memref sig .tc .hbm S1x2048 .f32 :=
  (Memref.whole main_arg4).slice (Rect.unit (s := S101184x2048) o S1x2048.size inb) (fun _ => rfl)

/-- The destination's entry `(0, j)`. -/
theorem winO_emb {o : Fin 3 → ℕ} {inb} (n : Fin 512) (ho : o = ![n.val % 4, n.val / 4, 0]) (x : S1x2048.Idx) :
    (winO o inb).view.emb x = (ix3 ⟨n.val % 4, by omega⟩ ⟨n.val / 4, by omega⟩ (x 1) : S4x128x2048.Idx) := by
  subst ho
  have hx : (x 0).val < 1 := (x 0).isLt
  show (Rect.unit (s := S4x128x2048) _ S1x1x2048.size inb).emb (Shape.reshapeEquiv _ x) = _
  rw [show Shape.reshapeEquiv (s := S1x1x2048) squeezes_S1x1x2048_S1x2048.numel_eq x = (Fin.cons ⟨0, Nat.one_pos⟩ x : S1x1x2048.Idx) from Shape.reshapeEquiv_cons_one _ _]
  refine Shape.idx3_ext ?_ ?_ ?_
  · show n.val % 4 + 1 * 0 = n.val % 4; omega
  · show n.val / 4 + 1 * (x 0).val = n.val / 4; omega
  · show 0 + 1 * (x 1).val = (x 1).val; omega

/-- The destination's set. -/
theorem winO_set {o : Fin 3 → ℕ} {inb} (n : Fin 512) (ho : o = ![n.val % 4, n.val / 4, 0]) : (winO o inb).view.set = blkSet n := by
  refine Finset.ext fun (y : S4x128x2048.Idx) => ?_
  refine Iff.trans ?_ mem_blk.symm
  constructor
  · intro h
    obtain ⟨x, e⟩ := mem_emb (α := S1x2048.Idx) (winO o inb).view.emb h
    rw [winO_emb n ho] at e
    subst e
    exact ⟨rfl, rfl⟩
  · rintro ⟨h0, h1⟩
    have e : (winO o inb).view.emb (ix2 0 (y 2)) = y := (winO_emb n ho (ix2 0 (y 2))).trans
      (show (ix3 ⟨n.val % 4, by omega⟩ ⟨n.val / 4, by omega⟩ (y 2) : S4x128x2048.Idx) = y from Shape.idx3_ext h0.symm h1.symm rfl)
    exact e ▸ View.emb_mem_set _ _

/-- The source's entry `(0, j)`. -/
theorem srcO_emb {o : Fin 2 → ℕ} {inb} (v : ℕ) (hv : v < 101184) (ho : o = ![v, 0]) (x : S1x2048.Idx) :
    (srcO o inb).view.emb x = (ix2 ⟨v, hv⟩ (x 1) : S101184x2048.Idx) := by
  subst ho
  have hx : (x 0).val < 1 := (x 0).isLt
  refine two_ext ?_ ?_
  · show v + 1 * (x 0).val = v; omega
  · show 0 + 1 * (x 1).val = (x 1).val; omega

/-- The source's set. -/
theorem srcO_set {o : Fin 2 → ℕ} {inb} (x0 : Vec F S512 .i32) (hin : Inside x0) (n : Fin 512) (ho : o = ![(wd x0 n).toNat, 0]) : (srcO o inb).view.set = rowSet x0 n := by
  refine Finset.ext fun (y : S101184x2048.Idx) => ?_
  refine Iff.trans ?_ mem_row.symm
  constructor
  · intro h
    obtain ⟨x, e⟩ := mem_emb (α := S1x2048.Idx) (srcO o inb).view.emb h
    rw [srcO_emb _ (hin n) ho] at e
    subst e
    rfl
  · intro h0
    have e : (srcO o inb).view.emb (ix2 0 (y 1)) = y := (srcO_emb _ (hin n) ho (ix2 0 (y 1))).trans
      (show (ix2 ⟨(wd x0 n).toNat, hin n⟩ (y 1) : S101184x2048.Idx) = y from two_ext h0.symm rfl)
    exact e ▸ View.emb_mem_set _ _

variable (c : Dev nD)

/-- The part of the scratch array that copy `n` fills, held. -/
def blkP (f : S4x128x2048.Idx → Elt F .f32) (n : Fin 512) : sProp 𝕄 := scM0_0.view.loc (c : Thread nD τ) ↦[blkSet n]{fullShare} f
/-- The row that copy `n` reads, under that copy's share. -/
def rowP (x0 : Vec F S512 .i32) (fh : S101184x2048.Idx → Elt F .f32) (n : Fin 512) : sProp 𝕄 :=
  hbM0_0.view.loc (c : Thread nD τ) ↦[rowSet x0 n]{Transfers.shareTokN fullShare n.val} fh
/-- What copy `n` delivers. -/
def dlv (x0 : Vec F S512 .i32) (fh : S101184x2048.Idx → Elt F .f32) (n : Fin 512) : sProp 𝕄 := iprop(blkP c (gath x0 fh) n ∗ rowP c x0 fh n)

instance dlv_storable (x0 : Vec F S512 .i32) (fh : S101184x2048.Idx → Elt F .f32) (n : Fin 512) : BI.Storable (upEmb : UEmb _ 𝕄) (dlv c x0 fh n) := by
  unfold dlv blkP rowP; infer_instance

/-- What one copy counts on its semaphore. -/
abbrev NN : ℕ := tileCredit S1x2048 .f32

/-- The copies on the semaphore, `j` of them started and `u` units waited for. -/
def bat (x0 : Vec F S512 .i32) (fh : S101184x2048.Idx → Elt F .f32) (j u : ℕ) : sProp 𝕄 :=
  Transfers.Batch (countersEmb (U := Pipeline.UD sig nD τ)) (c : Thread nD τ) (.dma cc0_scratch1.sem) () NN (dlv c x0 fh) j u

/-- What a copy lands is the gathered row. -/
theorem landed (x0 : Vec F S512 .i32) (hin : Inside x0) (fh : S101184x2048.Idx → Elt F .f32) (f : S4x128x2048.Idx → Elt F .f32) (n : Fin 512)
    {o : Fin 3 → ℕ} {inb} (ho : o = ![n.val % 4, n.val / 4, 0]) {o' : Fin 2 → ℕ} {inb'} (ho' : o' = ![(wd x0 n).toNat, 0]) (i : S4x128x2048.Idx) (hi : i ∈ blkSet n) :
    (winO o inb).view.write (Elt F) f (ReadAs.same.apply ((srcO o' inb').view.read (Elt F) fh)) Finset.univ i = gath x0 fh i := by
  rw [← winO_set (inb := inb) n ho] at hi
  obtain ⟨x, rfl⟩ := mem_emb (α := S1x2048.Idx) (winO o inb).view.emb hi
  refine (View.write_emb_of_mem (Val := Elt F) (v := (winO o inb).view) f _ (Finset.mem_univ x)).trans ?_
  rw [winO_emb n ho]
  show fh ((srcO o' inb').view.emb x) = _
  rw [srcO_emb _ (hin n) ho']
  unfold gath
  congr 1
  refine two_ext ?_ rfl
  have e : (⟨4 * (n.val / 4) + n.val % 4, by omega⟩ : Fin 512) = n := Fin.ext (by show 4 * (n.val / 4) + n.val % 4 = n.val; omega)
  show (wd x0 n).toNat = (wd x0 ⟨4 * (n.val / 4) + n.val % 4, _⟩).toNat % 101184
  rw [e, Nat.mod_eq_of_lt (hin n)]

/-- One copy started: the next of the copies on the semaphore. -/
theorem enq (x0 : Vec F S512 .i32) (hin : Inside x0) (fh : S101184x2048.Idx → Elt F .f32) (f : S4x128x2048.Idx → Elt F .f32) (n : Fin 512)
    {o : Fin 3 → ℕ} {inb} (ho : o = ![n.val % 4, n.val / 4, 0]) {o' : Fin 2 → ℕ} {inb'} (ho' : o' = ![(wd x0 n).toNat, 0])
    (hsrc : (srcO o' inb').view.WordExact) (hdst : (winO o inb).view.WordExact) (hsem : DmaTarget.Typed (nD := nD) .hbm (.dma cc0_scratch1.sem) (.here (winO o inb) : DmaTarget nD τ sig (Proc.tc (τ := τ)) .vmem S1x2048 .f32))
    (k : PUnit → Prog (TpuEff nD τ sig (Elt F) Λ₀ .tc) Unit) (Q : Unit → sProp 𝕄) :
    iprop(rowP c x0 fh n ∗ blkP c f n ∗ bat c x0 fh n.val 0)
      ⊢ iprop((bat c x0 fh (n.val + 1) 0 -∗ wp frame (wpE (defs₀ (F := F)) Variants.none (c : Thread nD τ) none) Set.univ (k ⟨⟩) Q)
          -∗ wp frame (wpE (defs₀ (F := F)) Variants.none (c : Thread nD τ) none) Set.univ
              (.op (.enqueueDmaAs (srcO o' inb') (.here (winO o inb)) ReadAs.same (.dma cc0_scratch1.sem) hsrc hdst hsem) k) Q) := by
  have h := Transfers.wp_dmaBatch (countersEmb (U := Pipeline.UD sig nD τ)) (defs := defs₀ (F := F)) Variants.none (c : Thread nD τ) none
    (src := srcO o' inb') (dst := winO o inb) (via := ReadAs.same) (sm := .dma cc0_scratch1.sem) (hsrc := hsrc) (hdst := hdst) (hsem := hsem) (k := k) (Q := Q)
    (q := Transfers.shareTokN fullShare n.val) (fs := fh) (Sd := blkSet n) (fd := f) (D := dlv c x0 fh) (j := n.val) (u := 0)
    () NN rfl (winO_set n ho).le n.isLt (Nat.zero_le _) (by
      unfold dlv blkP rowP
      rw [srcO_set x0 hin n ho']
      refine sep_mono (Entails.of_eq ?_) .rfl
      exact pointsTo_congr fun i hi => landed x0 hin fh f n ho ho' i hi)
  rw [srcO_set x0 hin n ho'] at h
  exact h

/-- The program of one copy's start: the slot number read, its row checked to lie inside, and the copy started. -/
def copyProg (arg1 : Memref sig .tc .smem S512 .i32) (o1 : Fin 1 → ℕ) (inb1 : ∀ a, o1 a + S1.size a ≤ S512.size a)
    (chk : BitVec 32 → Prop) (dec : ∀ v, Decidable (chk v)) (o3 : BitVec 32 → Fin 2 → ℕ) (inb3 : ∀ v, chk v → ∀ a, o3 v a + S1x2048.size a ≤ S101184x2048.size a)
    (o : Fin 3 → ℕ) (inb : ∀ a, o a + S1x1x2048.size a ≤ S4x128x2048.size a) (kont : Prog (TpuEff nD τ sig (Elt F) Λ₀ .tc) Unit) :
    Prog (TpuEff nD τ sig (Elt F) Λ₀ .tc) Unit := do
  let v : Elt F .i32 ← smemLoad arg1 (Rect.unit (s := S512) o1 S1.size inb1) numel1_S1 rfl
  have h : chk v := (← Prog.lift (TpuEff.assume (chk v) (dec v))).down
  Prog.lift (.enqueueDma (srcO (o3 v) (inb3 v h)) (.here (winO o inb)) (.dma cc0_scratch1.sem) (View.wordExact_bits rfl) ((View.wordExact_bits rfl).reshape _ _) ⟨Or.inl rfl, trivial⟩)
  kont

/-- The program of one copy's wait. -/
def waitProg (arg1 : Memref sig .tc .smem S512 .i32) (o1 : Fin 1 → ℕ) (inb1 : ∀ a, o1 a + S1.size a ≤ S512.size a)
    (chk : BitVec 32 → Prop) (dec : ∀ v, Decidable (chk v)) (o3 : BitVec 32 → Fin 2 → ℕ) (inb3 : ∀ v, chk v → ∀ a, o3 v a + S1x2048.size a ≤ S101184x2048.size a)
    (o : Fin 3 → ℕ) (inb : ∀ a, o a + S1x1x2048.size a ≤ S4x128x2048.size a) (kont : Prog (TpuEff nD τ sig (Elt F) Λ₀ .tc) Unit) :
    Prog (TpuEff nD τ sig (Elt F) Λ₀ .tc) Unit := do
  let v : Elt F .i32 ← smemLoad arg1 (Rect.unit (s := S512) o1 S1.size inb1) numel1_S1 rfl
  have h : chk v := (← Prog.lift (TpuEff.assume (chk v) (dec v))).down
  Prog.lift (.waitDma2 cc0_scratch1.sem (srcO (o3 v) (inb3 v h)) (winO o inb) (View.wordExact_bits rfl) ((View.wordExact_bits rfl).reshape _ _))
  kont

/-- The number a copy reads from the block of slots. -/
theorem load_eq (arg1 : Memref sig .tc .smem S512 .i32) (harg1 : arg1.IsWhole) (x0 : Vec F S512 .i32) (n : Fin 512) {o1 : Fin 1 → ℕ} {inb1} (ho1 : o1 = ![n.val])
    (h : 0 < (Rect.unit (s := S512) o1 S1.size inb1).shape.numel) :
    View.readAt (Elt F) arg1.view (Rect.unit (s := S512) o1 S1.size inb1).toLoadRect (harg1.unread x0) (Shape.Idx.first h) = wd x0 n := by
  subst ho1
  rw [harg1.readAt_unread]
  unfold wd
  congr 1
  refine Shape.idx1_ext ?_
  show n.val + 1 * 0 = n.val
  omega

/-- One copy's start, the slot numbers held. -/
theorem copy_step (arg1 : Memref sig .tc .smem S512 .i32) (harg1 : arg1.IsWhole) (x0 : Vec F S512 .i32) (hin : Inside x0) (fh : S101184x2048.Idx → Elt F .f32) (f : S4x128x2048.Idx → Elt F .f32) (n : Fin 512)
    {o1 : Fin 1 → ℕ} {inb1} (ho1 : o1 = ![n.val]) {chk : BitVec 32 → Prop} {dec : ∀ v, Decidable (chk v)} (hchk : ∀ v, v.toNat < 101184 → chk v)
    {o3 : BitVec 32 → Fin 2 → ℕ} {inb3} (ho3 : ∀ v, o3 v = ![v.toNat, 0]) {o : Fin 3 → ℕ} {inb} (ho : o = ![n.val % 4, n.val / 4, 0])
    (kont : Prog (TpuEff nD τ sig (Elt F) Λ₀ .tc) Unit) (Q : Unit → sProp 𝕄) :
    iprop((arg1.view.loc (c : Thread nD τ) ↦[arg1.view.set]{fullShare} harg1.unread x0) ∗ rowP c x0 fh n ∗ blkP c f n ∗ bat c x0 fh n.val 0
      ∗ (iprop((arg1.view.loc (c : Thread nD τ) ↦[arg1.view.set]{fullShare} harg1.unread x0) ∗ bat c x0 fh (n.val + 1) 0)
          -∗ wp frame (wpE (defs₀ (F := F)) Variants.none (c : Thread nD τ) none) Set.univ kont Q))
    ⊢ wp frame (wpE (defs₀ (F := F)) Variants.none (c : Thread nD τ) none) Set.univ (copyProg arg1 o1 inb1 chk dec o3 inb3 o inb kont) Q := by
  iintro ⟨H0, HR, HB, HT, Hk⟩
  sl_unfold [copyProg]
  sl_exec
  have hv : @copy_step.sl.r F arg1 harg1 x0 o1 inb1 = wd x0 n := load_eq arg1 harg1 x0 n ho1 _
  generalize @copy_step.sl.r F arg1 harg1 x0 o1 inb1 = v at hv ⊢
  subst hv
  iapply (wp_assume Variants.none (c : Thread nD τ) none Set.univ (hchk _ (hin n)))
  iapply (enq c x0 hin fh f n (o := o) (inb := inb) ho (o' := o3 (wd x0 n)) (ho3 _) _ _ _ (fun _ => kont) Q) $$ [HR HB HT]
  · isplitl [HR]; · iexact HR
    isplitl [HB] <;> iassumption
  iintro HT
  iapply Hk
  isplitl [H0] <;> iassumption

/-- One copy's wait, the slot numbers held. -/
theorem wait_step (arg1 : Memref sig .tc .smem S512 .i32) (harg1 : arg1.IsWhole) (x0 : Vec F S512 .i32) (hin : Inside x0) (fh : S101184x2048.Idx → Elt F .f32) (n : Fin 512)
    {o1 : Fin 1 → ℕ} {inb1} (ho1 : o1 = ![n.val]) {chk : BitVec 32 → Prop} {dec : ∀ v, Decidable (chk v)} (hchk : ∀ v, v.toNat < 101184 → chk v)
    {o3 : BitVec 32 → Fin 2 → ℕ} {inb3} {o : Fin 3 → ℕ} {inb}
    (kont : Prog (TpuEff nD τ sig (Elt F) Λ₀ .tc) Unit) (Q : Unit → sProp 𝕄) :
    iprop((arg1.view.loc (c : Thread nD τ) ↦[arg1.view.set]{fullShare} harg1.unread x0) ∗ bat c x0 fh 512 (n.val * NN) ∗ (∃ W, owes (c : Thread nD τ) 0 W)
      ∗ (iprop((arg1.view.loc (c : Thread nD τ) ↦[arg1.view.set]{fullShare} harg1.unread x0) ∗ bat c x0 fh 512 ((n.val + 1) * NN) ∗ (∃ W, owes (c : Thread nD τ) 0 W))
          -∗ wp frame (wpE (defs₀ (F := F)) Variants.none (c : Thread nD τ) none) Set.univ kont Q))
    ⊢ wp frame (wpE (defs₀ (F := F)) Variants.none (c : Thread nD τ) none) Set.univ (waitProg arg1 o1 inb1 chk dec o3 inb3 o inb kont) Q := by
  iintro ⟨H0, HT, ⟨%W, HO⟩, Hk⟩
  sl_unfold [waitProg]
  sl_exec
  have hv : @wait_step.sl.r F arg1 harg1 x0 o1 inb1 = wd x0 n := load_eq arg1 harg1 x0 n ho1 _
  generalize @wait_step.sl.r F arg1 harg1 x0 o1 inb1 = v at hv ⊢
  subst hv
  iapply (wp_assume Variants.none (c : Thread nD τ) none Set.univ (hchk _ (hin n)))
  iapply (Transfers.wp_waitBatchMul (countersEmb (U := Pipeline.UD sig nD τ)) (defs := defs₀ (F := F)) Variants.none (c : Thread nD τ) none
    (sem := cc0_scratch1.sem) (srcw := srcO (o3 (wd x0 n)) (inb3 _ (hchk _ (hin n)))) (dstw := winO o inb) (k := fun _ => kont) (Q := Q) (D := dlv c x0 fh) (j := 512) (u := n.val * NN) (N := NN) (W := W)
    () 1 (Nat.one_mul NN).symm (by rw [← Nat.add_mul, Nat.mul_comm NN]; exact Nat.mul_le_mul_right _ n.isLt)) $$ [HT HO]
  · isplitl [HT]; · unfold bat; iexact HT
    iexact HO
  iintro ⟨HT, HO⟩
  iapply Hk
  isplitl [H0]; · iexact H0
  isplitl [HT]
  · unfold bat
    rw [Nat.add_mul]
    iexact HT
  · iexists _; iexact HO

end Cert.CombineIdeal.Hand
end
-- ==== Proof.CombineIdealBody.lean ====
module

public import proofs.«01_k».proof.Proof.CombineIdealRun
public import Idealize.ShloMosaic.Lib.Ring

@[expose] public section

set_option maxRecDepth 16384

noncomputable section

/-! # The gathering sum's body: the loop that starts the copies and the loop that waits for them -/

namespace Cert.CombineIdeal.Hand

open Cert.CombineIdeal.Gen
open Idealize.ShloMosaic Idealize.ShloMosaic.TcCoe Idealize.ShloMosaic.Tactic
open Idealize.ShloMosaic.RefSig (tileCredit)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- A row number below the number of rows names a row inside. -/
theorem chk_of (v : BitVec 32) (h : v.toNat < 101184) : k0_chk1 v := by
  intro a; fin_cases a
  · show v.toNat + 1 ≤ 101184; omega
  · show 0 + 2048 ≤ 2048; omega

/-- The first copy's slot number of a trip, starting. -/
theorem off1_eq : ∀ t : Fin k0_t1_loop.trips, k0_off1 t = ![4 * t.val] := by decide +kernel
/-- The second copy's. -/
theorem off4_eq : ∀ t : Fin k0_t1_loop.trips, k0_off4 t = ![4 * t.val + 1] := by decide +kernel
/-- The third copy's. -/
theorem off7_eq : ∀ t : Fin k0_t1_loop.trips, k0_off7 t = ![4 * t.val + 2] := by decide +kernel
/-- The fourth copy's. -/
theorem off10_eq : ∀ t : Fin k0_t1_loop.trips, k0_off10 t = ![4 * t.val + 3] := by decide +kernel
/-- The first copy's place in the scratch array. -/
theorem off2_eq : ∀ t : Fin k0_t1_loop.trips, k0_off2 t = ![(4 * t.val) % 4, (4 * t.val) / 4, 0] := by decide +kernel
/-- The second copy's. -/
theorem off5_eq : ∀ t : Fin k0_t1_loop.trips, k0_off5 t = ![(4 * t.val + 1) % 4, (4 * t.val + 1) / 4, 0] := by decide +kernel
/-- The third copy's. -/
theorem off8_eq : ∀ t : Fin k0_t1_loop.trips, k0_off8 t = ![(4 * t.val + 2) % 4, (4 * t.val + 2) / 4, 0] := by decide +kernel
/-- The fourth copy's. -/
theorem off11_eq : ∀ t : Fin k0_t1_loop.trips, k0_off11 t = ![(4 * t.val + 3) % 4, (4 * t.val + 3) / 4, 0] := by decide +kernel
/-- The first copy's slot number of a trip, waiting. -/
theorem off13_eq : ∀ t : Fin k0_t2_loop.trips, k0_off13 t = ![4 * t.val] := by decide +kernel
/-- The second copy's. -/
theorem off16_eq : ∀ t : Fin k0_t2_loop.trips, k0_off16 t = ![4 * t.val + 1] := by decide +kernel
/-- The third copy's. -/
theorem off19_eq : ∀ t : Fin k0_t2_loop.trips, k0_off19 t = ![4 * t.val + 2] := by decide +kernel
/-- The fourth copy's. -/
theorem off22_eq : ∀ t : Fin k0_t2_loop.trips, k0_off22 t = ![4 * t.val + 3] := by decide +kernel
/-- The number of trips of the loop that starts the copies. -/
theorem trips1 : k0_t1_loop.trips = 128 := by decide +kernel
/-- The number of trips of the loop that waits. -/
theorem trips2 : k0_t2_loop.trips = 128 := by decide +kernel

variable (c : Dev nD)

/-- Before trip `k` of the starting loop: `4k` copies started; the rows and the parts of the scratch array of the other
    copies in hand. -/
def issueAt (arg1 : Memref sig .tc .smem S512 .i32) (harg1 : arg1.IsWhole) (x0 : Vec F S512 .i32) (fh : S101184x2048.Idx → Elt F .f32) (f : S4x128x2048.Idx → Elt F .f32) (k : ℕ) (_ : Unit) : sProp 𝕄 :=
  iprop((arg1.view.loc (c : Thread nD τ) ↦[arg1.view.set]{fullShare} harg1.unread x0)
    ∗ bigSep (Ring.rangeSet 512 (4 * k) 512) (rowP c x0 fh) ∗ bigSep (Ring.rangeSet 512 (4 * k) 512) (blkP c f) ∗ bat c x0 fh (4 * k) 0)

/-- Before trip `k` of the waiting loop: every copy started, `4k` of them waited for. -/
def drainAt (arg1 : Memref sig .tc .smem S512 .i32) (harg1 : arg1.IsWhole) (x0 : Vec F S512 .i32) (fh : S101184x2048.Idx → Elt F .f32) (k : ℕ) (_ : Unit) : sProp 𝕄 :=
  iprop((arg1.view.loc (c : Thread nD τ) ↦[arg1.view.set]{fullShare} harg1.unread x0)
    ∗ bat c x0 fh 512 (4 * k * NN) ∗ (∃ W, owes (c : Thread nD τ) 0 W))

section Trip

variable (i : grid0.Coords) (arg1 : Memref sig .tc .smem S512 .i32) (harg1 : arg1.IsWhole) (arg2 : Memref sig .tc .vmem S128x2048 .f32) (harg2 : arg2.IsWhole)
  (arg3 : Memref sig .tc .vmem S128x128 .f32) (harg3 : arg3.IsWhole) (arg4 : Memref sig .tc .vmem S1x2048 .f32) (harg4 : arg4.IsWhole) (harg5 : (Memref.whole main_arg4 : Memref sig .tc .hbm S101184x2048 .f32).IsWhole)
  (arg6 : Memref sig .tc .vmem S128x2048 .f32) (harg6 : arg6.IsWhole) (harg7 : scM0_0.IsWhole)

/-- A trip of the starting loop is four starts. -/
theorem t1_eq (k : Fin k0_t1_loop.trips) :
    k0_t1_body (F := F) i arg1 harg1 arg2 harg2 arg3 harg3 arg4 harg4 (Memref.whole main_arg4) harg5 arg6 harg6 scM0_0 harg7 cc0_scratch1 k ()
      = copyProg arg1 (k0_off1 k) (k0_off1_inb k) k0_chk1 k0_chk1.dec k0_off3 k0_off3_inb (k0_off2 k) (k0_off2_inb k)
        (copyProg arg1 (k0_off4 k) (k0_off4_inb k) k0_chk2 k0_chk2.dec k0_off6 k0_off6_inb (k0_off5 k) (k0_off5_inb k)
        (copyProg arg1 (k0_off7 k) (k0_off7_inb k) k0_chk3 k0_chk3.dec k0_off9 k0_off9_inb (k0_off8 k) (k0_off8_inb k)
        (copyProg arg1 (k0_off10 k) (k0_off10_inb k) k0_chk4 k0_chk4.dec k0_off12 k0_off12_inb (k0_off11 k) (k0_off11_inb k) (pure ⟨⟩)))) := rfl

/-- A trip of the waiting loop is four waits. -/
theorem t2_eq (k : Fin k0_t2_loop.trips) :
    k0_t2_body (F := F) i arg1 harg1 arg2 harg2 arg3 harg3 arg4 harg4 (Memref.whole main_arg4) harg5 arg6 harg6 scM0_0 harg7 cc0_scratch1 k ()
      = waitProg arg1 (k0_off13 k) (k0_off13_inb k) k0_chk5 k0_chk5.dec k0_off15 k0_off15_inb (k0_off14 k) (k0_off14_inb k)
        (waitProg arg1 (k0_off16 k) (k0_off16_inb k) k0_chk6 k0_chk6.dec k0_off18 k0_off18_inb (k0_off17 k) (k0_off17_inb k)
        (waitProg arg1 (k0_off19 k) (k0_off19_inb k) k0_chk7 k0_chk7.dec k0_off21 k0_off21_inb (k0_off20 k) (k0_off20_inb k)
        (waitProg arg1 (k0_off22 k) (k0_off22_inb k) k0_chk8 k0_chk8.dec k0_off24 k0_off24_inb (k0_off23 k) (k0_off23_inb k) (pure ⟨⟩)))) := rfl

variable (x0 : Vec F S512 .i32) (hin : Inside x0) (fh : S101184x2048.Idx → Elt F .f32) (f : S4x128x2048.Idx → Elt F .f32)

include hin

/-- One trip of the starting loop. -/
theorem issue_step (k : Fin k0_t1_loop.trips) (acc : Unit) :
    issueAt c arg1 harg1 x0 fh f k acc ⊢ wp frame (wpE (defs₀ (F := F)) Variants.none (c : Thread nD τ) none) Set.univ
      (k0_t1_body (F := F) i arg1 harg1 arg2 harg2 arg3 harg3 arg4 harg4 (Memref.whole main_arg4) harg5 arg6 harg6 scM0_0 harg7 cc0_scratch1 k acc)
      (issueAt c arg1 harg1 x0 fh f (k.val + 1)) := by
  have hk : k.val < 128 := lt_of_lt_of_eq k.isLt trips1
  rw [t1_eq]
  unfold issueAt
  have hd : ∀ (Φ : Fin 512 → sProp 𝕄), bigSep (Ring.rangeSet 512 (4 * k.val) 512) Φ
      = iprop(Φ ⟨4 * k.val, by omega⟩ ∗ Φ ⟨4 * k.val + 1, by omega⟩ ∗ Φ ⟨4 * k.val + 2, by omega⟩ ∗ Φ ⟨4 * k.val + 3, by omega⟩ ∗ bigSep (Ring.rangeSet 512 (4 * (k.val + 1)) 512) Φ) := fun Φ => by
    rw [Ring.bigSep_rangeSet_head (by omega) (by omega), Ring.bigSep_rangeSet_head (lo := 4 * k.val + 1) (by omega) (by omega),
      Ring.bigSep_rangeSet_head (lo := 4 * k.val + 1 + 1) (by omega) (by omega), Ring.bigSep_rangeSet_head (lo := 4 * k.val + 1 + 1 + 1) (by omega) (by omega)]
    rfl
  rw [hd, hd]
  iintro ⟨H0, ⟨R0, R1, R2, R3, RR⟩, ⟨B0, B1, B2, B3, BB⟩, HT⟩
  iapply (copy_step c arg1 harg1 x0 hin fh f ⟨4 * k.val, by omega⟩ (off1_eq k) (fun v h => chk_of v h) (fun v => rfl) (off2_eq k))
  isplitl [H0]; · iexact H0
  isplitl [R0]; · iexact R0
  isplitl [B0]; · iexact B0
  isplitl [HT]; · iexact HT
  iintro ⟨H0, HT⟩
  iapply (copy_step c arg1 harg1 x0 hin fh f ⟨4 * k.val + 1, by omega⟩ (off4_eq k) (fun v h => chk_of v h) (fun v => rfl) (off5_eq k))
  isplitl [H0]; · iexact H0
  isplitl [R1]; · iexact R1
  isplitl [B1]; · iexact B1
  isplitl [HT]; · iexact HT
  iintro ⟨H0, HT⟩
  iapply (copy_step c arg1 harg1 x0 hin fh f ⟨4 * k.val + 2, by omega⟩ (off7_eq k) (fun v h => chk_of v h) (fun v => rfl) (off8_eq k))
  isplitl [H0]; · iexact H0
  isplitl [R2]; · iexact R2
  isplitl [B2]; · iexact B2
  isplitl [HT]; · iexact HT
  iintro ⟨H0, HT⟩
  iapply (copy_step c arg1 harg1 x0 hin fh f ⟨4 * k.val + 3, by omega⟩ (off10_eq k) (fun v h => chk_of v h) (fun v => rfl) (off11_eq k))
  isplitl [H0]; · iexact H0
  isplitl [R3]; · iexact R3
  isplitl [B3]; · iexact B3
  isplitl [HT]; · iexact HT
  iintro ⟨H0, HT⟩
  sl_step
  isplitl [H0]; · iexact H0
  isplitl [RR]; · iexact RR
  isplitl [BB]; · iexact BB
  iexact HT

/-- One trip of the waiting loop. -/
theorem drain_step (k : Fin k0_t2_loop.trips) (acc : Unit) :
    drainAt c arg1 harg1 x0 fh k acc ⊢ wp frame (wpE (defs₀ (F := F)) Variants.none (c : Thread nD τ) none) Set.univ
      (k0_t2_body (F := F) i arg1 harg1 arg2 harg2 arg3 harg3 arg4 harg4 (Memref.whole main_arg4) harg5 arg6 harg6 scM0_0 harg7 cc0_scratch1 k acc)
      (drainAt c arg1 harg1 x0 fh (k.val + 1)) := by
  have hk : k.val < 128 := lt_of_lt_of_eq k.isLt trips2
  rw [t2_eq]
  unfold drainAt
  iintro ⟨H0, HT, HO⟩
  iapply (wait_step c arg1 harg1 x0 hin fh ⟨4 * k.val, by omega⟩ (off13_eq k) (fun v h => chk_of v h))
  isplitl [H0]; · iexact H0
  isplitl [HT]; · iexact HT
  isplitl [HO]; · iexact HO
  iintro ⟨H0, HT, HO⟩
  iapply (wait_step c arg1 harg1 x0 hin fh ⟨4 * k.val + 1, by omega⟩ (off16_eq k) (fun v h => chk_of v h))
  isplitl [H0]; · iexact H0
  isplitl [HT]; · iexact HT
  isplitl [HO]; · iexact HO
  iintro ⟨H0, HT, HO⟩
  iapply (wait_step c arg1 harg1 x0 hin fh ⟨4 * k.val + 2, by omega⟩ (off19_eq k) (fun v h => chk_of v h))
  isplitl [H0]; · iexact H0
  isplitl [HT]; · iexact HT
  isplitl [HO]; · iexact HO
  iintro ⟨H0, HT, HO⟩
  iapply (wait_step c arg1 harg1 x0 hin fh ⟨4 * k.val + 3, by omega⟩ (off22_eq k) (fun v h => chk_of v h))
  isplitl [H0]; · iexact H0
  isplitl [HT]; · iexact HT
  isplitl [HO]; · iexact HO
  iintro ⟨H0, HT, HO⟩
  sl_step
  isplitl [H0]; · iexact H0
  isplitl [HT]; · iexact HT
  iexact HO

end Trip

/-- The scratch array held whole is its 512 parts held. -/
theorem parts (f : S4x128x2048.Idx → Elt F .f32) :
    (scM0_0.view.loc (c : Thread nD τ) ↦[scM0_0.view.set]{fullShare} f : sProp 𝕄) = bigSep Finset.univ (blkP c f) := by
  refine Eq.trans ?_ (Ring.pointsTo_blocks (ℓ := scM0_0.view.loc (c : Thread nD τ)) (q := fullShare) blkSet ?_ ?_ f)
  · rw [show scM0_0.view.set = Finset.univ from View.set_whole _]
  · intro b b' hne
    rw [Finset.disjoint_left]; intro y hy hy'
    have h := mem_blk.mp hy; have h' := mem_blk.mp hy'
    exact hne (Fin.ext (by omega))
  · refine Finset.eq_univ_iff_forall.mpr fun (y : S4x128x2048.Idx) => ?_
    have h1 : (y 1).val < 128 := (y 1).isLt
    have h0 : (y 0).val < 4 := (y 0).isLt
    exact Finset.mem_biUnion.mpr ⟨⟨4 * (y 1).val + (y 0).val, by omega⟩, Finset.mem_univ _, mem_blk.mpr ⟨by show (y 0).val = (4 * (y 1).val + (y 0).val) % 4; omega, by show (y 1).val = (4 * (y 1).val + (y 0).val) / 4; omega⟩⟩

/-- The first two of three things held change places. -/
theorem swap_front (A B C : sProp 𝕄) : iprop(A ∗ B ∗ C) = iprop(B ∗ A ∗ C) := by
  have h : ∀ A B C : sProp 𝕄, iprop(A ∗ B ∗ C) ⊢ iprop(B ∗ A ∗ C) := fun A B C => by
    iintro ⟨HA, HB, HC⟩
    isplitl [HB]; · iexact HB
    isplitl [HA] <;> iassumption
  exact Entails.antisymm (h _ _ _) (h _ _ _)

/-- What is left of the sorted rows when every copy has its row under its share. -/
def rest (x0 : Vec F S512 .i32) (fh : S101184x2048.Idx → Elt F .f32) : sProp 𝕄 :=
  iprop((hbM0_0.view.loc (c : Thread nD τ) ↦[Finset.univ]{Transfers.shareDrop fullShare 512} fh)
    ∗ bigSep Finset.univ fun n : Fin 512 => hbM0_0.view.loc (c : Thread nD τ) ↦[Finset.univ \ rowSet x0 n]{Transfers.shareTokN fullShare n.val} fh)

/-- The sorted rows held whole are each copy's row under that copy's share, and the rest. -/
theorem rows (x0 : Vec F S512 .i32) (fh : S101184x2048.Idx → Elt F .f32) :
    (hbPt0 c hbM0_0 fh : sProp 𝕄) = iprop(bigSep Finset.univ (rowP c x0 fh) ∗ rest c x0 fh) := by
  have e1 : (hbPt0 c hbM0_0 fh : sProp 𝕄) = iprop((hbM0_0.view.loc (c : Thread nD τ) ↦[Finset.univ]{Transfers.shareDrop fullShare 512} fh)
      ∗ bigSep (Finset.range 512) fun n => hbM0_0.view.loc (c : Thread nD τ) ↦[Finset.univ]{Transfers.shareTokN fullShare n} fh) :=
    Entails.antisymm (Transfers.pointsTo_toks_range fullShare 512).1 (Transfers.pointsTo_toks_range fullShare 512).2
  have e2 : (bigSep (Finset.range 512) fun n => hbM0_0.view.loc (c : Thread nD τ) ↦[Finset.univ]{Transfers.shareTokN fullShare n} fh : sProp 𝕄)
      = bigSep Finset.univ fun n : Fin 512 => iprop(rowP c x0 fh n ∗ hbM0_0.view.loc (c : Thread nD τ) ↦[Finset.univ \ rowSet x0 n]{Transfers.shareTokN fullShare n.val} fh) := by
    refine Eq.trans ?_ (BI.bigSep_congr (s := Finset.univ) (Φ := fun n : Fin 512 => (hbM0_0.view.loc (c : Thread nD τ) ↦[Finset.univ]{Transfers.shareTokN fullShare n.val} fh : sProp 𝕄)) fun n _ => ?_)
    · rw [← Ring.rangeSet_univ]
      refine (Ring.bigSep_rangeSet_eq_range (NB := 512) (lo := 0) (hi := 512) le_rfl (fun n => (hbM0_0.view.loc (c : Thread nD τ) ↦[Finset.univ]{Transfers.shareTokN fullShare n} fh : sProp 𝕄)) fun k hk => ?_).symm
      show (_ : sProp 𝕄) = hbM0_0.view.loc (c : Thread nD τ) ↦[Finset.univ]{Transfers.shareTokN fullShare (0 + k)} fh
      rw [Nat.zero_add]
    · exact Entails.antisymm (pointsTo_split_subset (Finset.subset_univ _)).1 (pointsTo_split_subset (Finset.subset_univ _)).2
  rw [e1, e2, show (bigSep Finset.univ fun n : Fin 512 => iprop(rowP c x0 fh n ∗ hbM0_0.view.loc (c : Thread nD τ) ↦[Finset.univ \ rowSet x0 n]{Transfers.shareTokN fullShare n.val} fh) : sProp 𝕄) = iprop(bigSep Finset.univ (rowP c x0 fh) ∗ bigSep Finset.univ fun n : Fin 512 => hbM0_0.view.loc (c : Thread nD τ) ↦[Finset.univ \ rowSet x0 n]{Transfers.shareTokN fullShare n.val} fh) from BI.bigSep_sep _ _ _]
  unfold rest
  exact swap_front _ _ _

/-- What the copies deliver is the gathered scratch array and each copy's row. -/
theorem delivered (x0 : Vec F S512 .i32) (fh : S101184x2048.Idx → Elt F .f32) :
    (bigSep Finset.univ (dlv c x0 fh) : sProp 𝕄) = iprop((scM0_0.view.loc (c : Thread nD τ) ↦[scM0_0.view.set]{fullShare} gath x0 fh) ∗ bigSep Finset.univ (rowP c x0 fh)) := by
  rw [parts]
  exact BI.bigSep_sep _ _ _

/-- Before the first copy: the semaphore at zero is the copies on it, none started. -/
theorem alloc (x0 : Vec F S512 .i32) (fh : S101184x2048.Idx → Elt F .f32) :
    (semVal ((c : Thread nD τ), SemLoc.dma 9) 0 : sProp 𝕄) ⊢ |={Set.univ}=> bat c x0 fh 0 0 :=
  Transfers.batch_alloc' (Lvl := ℕ) (countersEmb (U := Pipeline.UD sig nD τ)) (c : Thread nD τ) () NN (dlv c x0 fh) (sm := .dma cc0_scratch1.sem) (E := Set.univ)

/-- After the last wait: every copy's delivery, and the semaphore at zero. -/
theorem collect (x0 : Vec F S512 .i32) (fh : S101184x2048.Idx → Elt F .f32) :
    (bat c x0 fh 512 (4 * 128 * NN) : sProp 𝕄) ⊢ |={Set.univ}=> iprop(bigSep Finset.univ (dlv c x0 fh) ∗ semVal ((c : Thread nD τ), SemLoc.dma 9) 0) := by
  rw [show 4 * 128 * NN = NN * 512 from Nat.mul_comm _ _]
  exact Transfers.batch_collect' (countersEmb (U := Pipeline.UD sig nD τ)) (c : Thread nD τ) (sm := .dma cc0_scratch1.sem) (show 0 < NN from RefSig.tileCredit_pos _ _ (by decide))

/-- The block the body stores, as a piece over the output's staging block, and the proof that the body runs from its
    inputs, the scratch array, the sorted rows and its semaphore at zero to that piece written, everything else as it was. -/
noncomputable def kernelRun0_A (i : grid0.Coords) (arg1 : Memref sig .tc .smem S512 .i32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x2048 .f32) (harg4 : arg4.IsWhole) (arg6 : Memref sig .tc .vmem S128x2048 .f32) (harg6 : arg6.IsWhole) (harg7 : scM0_0.IsWhole)
    (x0 : Vec F S512 .i32) (x1 : Vec F S128x2048 .f32) (x2 : Vec F S128x128 .f32) (x3 : Vec F S1x2048 .f32) (fh0 : HbBuf0 (F := F) c hbM0_0) (hin : Inside x0) :
    { L4 : List (View.Piece (Elt F) S128x2048 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) scM0_0 fullShare d) ∗ semVal ((c : Thread nD τ), SemLoc.dma 9) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg6.view.loc (c : Thread nD τ) ↦[arg6.view.set]{fullShare} arg6.view.writes (Elt F) f L4) ∗ (∃ d, owns (c : Thread nD τ) scM0_0 fullShare d) ∗ semVal ((c : Thread nD τ), SemLoc.dma 9) 0 ∗ hbPt0 c hbM0_0 fh0 ∗ (∃ W', owes (c : Thread nD τ) 0 W')) -∗ K ⟨⟩))
          ⊢ wp frame (wpE (defs₀ (F := F)) Variants.none c none) Set.univ (cc0_moe_combine i arg1 harg1 arg2 harg2 arg3 harg3 arg4 harg4 (Memref.whole main_arg4) (Memref.isWhole_whole _) arg6 harg6 scM0_0 harg7 cc0_scratch1) K } := by
  refine ⟨?_, fun W K => ?run⟩
  case run =>
    simp only [cc0_moe_combine_eq_skeleton]; sl_unfold [cc0_moe_combine_skel]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hq0, Hh0, HW, Hk⟩
    obtain rfl := harg1.eq_unread hf0; obtain rfl := harg2.eq_unread hf1; obtain rfl := harg3.eq_unread hf2; obtain rfl := harg4.eq_unread hf3
    ihave Hb := (Entails.of_eq (parts c fs0)) $$ HS0
    ihave Hr := (Entails.of_eq (rows c x0 fh0)) $$ Hh0
    icases Hr with ⟨Hr, Hrest⟩
    imod (alloc c x0 fh0) $$ Hq0 with HT
    sl_exec
    sl_for (issueAt c arg1 harg1 x0 fh0 fs0) $$ [H0 Hb Hr HT]
    · intro k acc; exact issue_step c i arg1 harg1 arg2 harg2 arg3 harg3 arg4 harg4 (Memref.isWhole_whole _) arg6 harg6 harg7 x0 hin fh0 fs0 k acc
    · unfold issueAt
      isplitl [H0]; · iexact H0
      isplitl [Hr]; · rw [Nat.mul_zero, Ring.rangeSet_univ]; iexact Hr
      isplitl [Hb]; · rw [Nat.mul_zero, Ring.rangeSet_univ]; iexact Hb
      iexact HT
    iintro %acc HL
    ihave HL' := (show issueAt c arg1 harg1 x0 fh0 fs0 k0_t1_loop.trips acc ⊢ iprop((arg1.view.loc (c : Thread nD τ) ↦[arg1.view.set]{fullShare} harg1.unread x0) ∗ bat c x0 fh0 512 0) from by
      unfold issueAt
      rw [trips1]
      iintro ⟨H0, -, -, HT⟩
      isplitl [H0] <;> iassumption) $$ HL
    icases HL' with ⟨H0, HT⟩
    sl_exec
    sl_for (drainAt c arg1 harg1 x0 fh0) $$ [H0 HT HW]
    · intro k acc; exact drain_step c i arg1 harg1 arg2 harg2 arg3 harg3 arg4 harg4 (Memref.isWhole_whole _) arg6 harg6 harg7 x0 hin fh0 k acc
    · unfold drainAt
      isplitl [H0]; · iexact H0
      isplitl [HT]; · rw [Nat.mul_zero, Nat.zero_mul]; iexact HT
      iexists _; iexact HW
    iintro %acc' HL
    ihave HL' := (show drainAt c arg1 harg1 x0 fh0 k0_t2_loop.trips acc' ⊢ iprop((arg1.view.loc (c : Thread nD τ) ↦[arg1.view.set]{fullShare} harg1.unread x0) ∗ bat c x0 fh0 512 (4 * 128 * NN) ∗ (∃ W, owes (c : Thread nD τ) 0 W)) from by
      unfold drainAt
      rw [trips2]) $$ HL
    icases HL' with ⟨H0, HT, ⟨%W', HW⟩⟩
    imod (collect c x0 fh0) $$ HT with ⟨HD, Hq0⟩
    ihave HD' := (Entails.of_eq (delivered c x0 fh0)) $$ HD
    icases HD' with ⟨HS0, Hr⟩
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [HS0]
    · iexists (scM0_0.view.read (Elt F) (gath x0 fh0)); iexists (gath x0 fh0); isplitr; · ipureintro; rfl
      iexact HS0
    isplitl [Hq0]; · iexact Hq0
    isplitl [Hr Hrest]
    · iapply (Entails.of_eq (rows c x0 fh0).symm)
      isplitl [Hr] <;> iassumption
    iexists _; iexact HW

end Cert.CombineIdeal.Hand
end
-- ==== Proof.CombineIdealFrame.lean ====
module

public import proofs.«01_k».proof.Proof.CombineIdealBody
public import Idealize.ShloMosaic.Lib.Claim

@[expose] public section

set_option maxRecDepth 16384

noncomputable section

/-! # The gathering sum's run -/

namespace Cert.CombineIdeal.Hand

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The one piece the body stores covers the output's block. -/
theorem cover0_A_4 (c : Dev nD) (i : grid0.Coords) (arg1 : Memref sig .tc .smem S512 .i32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x2048 .f32) (harg4 : arg4.IsWhole) (arg6 : Memref sig .tc .vmem S128x2048 .f32) (harg6 : arg6.IsWhole) (harg7 : scM0_0.IsWhole)
    (x0 : Vec F S512 .i32) (x1 : Vec F S128x2048 .f32) (x2 : Vec F S128x128 .f32) (x3 : Vec F S1x2048 .f32) (fh0 : HbBuf0 (F := F) c hbM0_0) (hin : Inside x0) (y : S128x2048.Idx) :
    ∃ pc ∈ (kernelRun0_A c i arg1 harg1 arg2 harg2 arg3 harg3 arg4 harg4 arg6 harg6 harg7 x0 x1 x2 x3 fh0 hin).1, y ∈ pc.1.set :=
  View.cover_of_tiledL (kernelRun0_A c i arg1 harg1 arg2 harg2 arg3 harg3 arg4 harg4 arg6 harg6 harg7 x0 x1 x2 x3 fh0 hin).1 S128x2048.size (by sl_kernel_rfl) y

/-- What the body leaves in the output's staging block. -/
def out0_A_4 (c : Dev nD) (i : grid0.Coords) (arg1 : Memref sig .tc .smem S512 .i32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x2048 .f32) (harg4 : arg4.IsWhole) (arg6 : Memref sig .tc .vmem S128x2048 .f32) (harg6 : arg6.IsWhole) (harg7 : scM0_0.IsWhole)
    (x0 : Vec F S512 .i32) (x1 : Vec F S128x2048 .f32) (x2 : Vec F S128x128 .f32) (x3 : Vec F S1x2048 .f32) (fh0 : HbBuf0 (F := F) c hbM0_0) (hin : Inside x0) : Vec F S128x2048 .f32 :=
  VO0_4.read (Elt F) (VO0_4.writes (Elt F) VO0_4.junk (kernelRun0_A c i arg1 harg1 arg2 harg2 arg3 harg3 arg4 harg4 arg6 harg6 harg7 x0 x1 x2 x3 fh0 hin).1)

variable (hm : ∀ (c : Dev nD) (t : Fin cfg0.N), Inside (iblk m c 0 t))

/-! ## What the outputs hold after each point -/

/-- What the output's staging block holds after the body at point `t`. -/
def outsAt0 (c : Dev nD) (t : Fin cfg0.N) : Vec F S128x2048 .f32 :=
  out0_A_4 c (grid0.coords t) (ms0_0 t) (hs0_0 t) (ms0_1 t) (hs0_1 t) (ms0_2 t) (hs0_2 t) (ms0_3 t) (hs0_3 t) (ms0_4 t) (hs0_4 t) (Memref.isWhole_whole _) (iblk m c 0 t) (iblk m c 1 t) (iblk m c 2 t) (iblk m c 3 t) (V m c main_arg4) (hm c t)

/-! ## The pipeline's proof data -/

/-- The proof data: the arrays as the region finds them, what each window holds after the body, the scratch, the
    semaphore and the sorted rows between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m hm c t)
  Φ _ := Pipeline.ΦD osem0 spec0 H0 (V m) c
  q _ := fullShare
  owed _ := 0

/-- The proof data's arrays are those the region finds. -/
theorem A_eq (c : Dev nD) (w : Fin cfg0.W) : (dats m hm 0 c).A w = V m c (Pipeline.arrRef spec0 w) := by
  dsimp only [dats]

/-- What window 0 holds after the body. -/
theorem after0_0 (c : Dev nD) (t : Fin cfg0.N) : (dats m hm 0 c).after 0 t = iblk m c 0 t := by dsimp only [dats]
/-- What window 1 holds after the body. -/
theorem after0_1 (c : Dev nD) (t : Fin cfg0.N) : (dats m hm 0 c).after 1 t = iblk m c 1 t := by dsimp only [dats]
/-- What window 2 holds after the body. -/
theorem after0_2 (c : Dev nD) (t : Fin cfg0.N) : (dats m hm 0 c).after 2 t = iblk m c 2 t := by dsimp only [dats]
/-- What window 3 holds after the body. -/
theorem after0_3 (c : Dev nD) (t : Fin cfg0.N) : (dats m hm 0 c).after 3 t = iblk m c 3 t := by dsimp only [dats]
/-- What window 4 holds after the body. -/
theorem after0_4 (c : Dev nD) (t : Fin cfg0.N) : (dats m hm 0 c).after 4 t = (outsAt0 m hm c t) := by dsimp only [dats]

/-- What window 0 holds before the body. -/
theorem before0_0 (c : Dev nD) (t : Fin cfg0.N) (d) : (dats m hm 0 c).before 0 t d = iblk m c 0 t :=
  before0_0_of m (dats m hm 0 c) (A_eq m hm c 0) (after0_0 m hm c) t d
/-- What window 1 holds before the body. -/
theorem before0_1 (c : Dev nD) (t : Fin cfg0.N) (d) : (dats m hm 0 c).before 1 t d = iblk m c 1 t :=
  before0_1_of m (dats m hm 0 c) (A_eq m hm c 1) (after0_1 m hm c) t d
/-- What window 2 holds before the body. -/
theorem before0_2 (c : Dev nD) (t : Fin cfg0.N) (d) : (dats m hm 0 c).before 2 t d = iblk m c 2 t :=
  before0_2_of m (dats m hm 0 c) (A_eq m hm c 2) (after0_2 m hm c) t d
/-- What window 3 holds before the body. -/
theorem before0_3 (c : Dev nD) (t : Fin cfg0.N) (d) : (dats m hm 0 c).before 3 t d = iblk m c 3 t :=
  before0_3_of m (dats m hm 0 c) (A_eq m hm c 3) (after0_3 m hm c) t d

/-! ## The body obligation, at a generic point -/

/-- What the body is called with at point `t`. -/
def bodyPre (c : Dev nD) (t : Fin cfg0.N) : sProp 𝕄 :=
  iprop((dats m hm 0 c).Φ t.castSucc ∗ (dats m hm 0 c).owesAt () t.castSucc
    ∗ (∃ d, owns (c : Thread nD τ) (ms0_0 t) fullShare ((dats m hm 0 c).before 0 t d))
    ∗ (∃ d, owns (c : Thread nD τ) (ms0_1 t) fullShare ((dats m hm 0 c).before 1 t d))
    ∗ (∃ d, owns (c : Thread nD τ) (ms0_2 t) fullShare ((dats m hm 0 c).before 2 t d))
    ∗ (∃ d, owns (c : Thread nD τ) (ms0_3 t) fullShare ((dats m hm 0 c).before 3 t d))
    ∗ (∃ d, owns (c : Thread nD τ) (ms0_4 t) fullShare ((dats m hm 0 c).before 4 t d)))

/-- What the body returns at point `t`. -/
def bodyPost (c : Dev nD) (t : Fin cfg0.N) : sProp 𝕄 :=
  iprop((dats m hm 0 c).Φ t.succ ∗ (dats m hm 0 c).owesAt () t.succ
    ∗ owns (c : Thread nD τ) (ms0_0 t) fullShare ((dats m hm 0 c).after 0 t)
    ∗ owns (c : Thread nD τ) (ms0_1 t) fullShare ((dats m hm 0 c).after 1 t)
    ∗ owns (c : Thread nD τ) (ms0_2 t) fullShare ((dats m hm 0 c).after 2 t)
    ∗ owns (c : Thread nD τ) (ms0_3 t) fullShare ((dats m hm 0 c).after 3 t)
    ∗ owns (c : Thread nD τ) (ms0_4 t) fullShare ((dats m hm 0 c).after 4 t))

/-- The body's step at point `t`. -/
theorem sound_body (c : Dev nD) (t : Fin cfg0.N) :
    bodyPre m hm c t ⊢ wp frame (wpE (defs₀ (F := F)) Variants.none c none) Set.univ (bodyAt0 t) (fun _ => bodyPost m hm c t) := by
  unfold bodyPre bodyPost bodyAt0
  simp only [before0_0, before0_1, before0_2, before0_3]
  rw [show (dats m hm 0 c).Φ t.succ = (dats m hm 0 c).Φ t.castSucc from rfl,
    after0_0, after0_1, after0_2, after0_3, after0_4]
  rw [show (dats m hm 0 c).Φ t.castSucc = Pipeline.ΦD osem0 spec0 H0 (V m) c from rfl, PhiD0_eq]
  unfold Dat.owesAt Pipeline.owesWithin
  rw [show (dats m hm 0 c).owed t.castSucc = 0 from rfl, show (dats m hm 0 c).owed t.succ = 0 from rfl]
  unfold outsAt0
  unfold out0_A_4
  iintro ⟨⟨HS0, Hg, Hq0, Hh0⟩, ⟨%W, -, HW⟩, ⟨%d0, H0⟩, ⟨%d1, H1⟩, ⟨%d2, H2⟩, ⟨%d3, H3⟩, ⟨%d4, H4⟩⟩
  iapply ((kernelRun0_A c (grid0.coords t) _ _ _ _ _ _ _ _ _ _ _ (iblk m c 0 t) (iblk m c 1 t) (iblk m c 2 t) (iblk m c 3 t) (V m c main_arg4) (hm c t)).2 W _)
  isplitl [H0]; · iexact H0
  isplitl [H1]; · iexact H1
  isplitl [H2]; · iexact H2
  isplitl [H3]; · iexact H3
  isplitl [H4]; · iexists _; iexact H4
  isplitl [HS0]; · iexact HS0
  isplitl [Hq0]; · iexact Hq0
  isplitl [Hh0]; · iexact Hh0
  isplitl [HW]; · iexact HW
  iintro ⟨H0, H1, H2, H3, ⟨%e4, H4⟩, HS0, Hq0, Hh0, ⟨%W', HW'⟩⟩
  isplitl [HS0 Hg Hq0 Hh0]
  · isplitl [HS0]
    · iexact HS0
    isplitl [Hg]
    · iexact Hg
    isplitl [Hq0]
    · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ (hm c t))

/-- The body at point `t`'s blocks. -/
theorem defs₀_row (t : Fin cfg0.N) :
    defs₀ (F := F) .tc cfg0.body (cfg0.bodyArgs t (cfg0.slots t)) = bodyAt0 t := by
  unfold defs₀; rw [Defs.onTc_tc]

/-- The body's step at every point. -/
theorem body_obligation (c : Dev nD) : BodyObligation (dats (F := F) m hm 0 c) (defs₀ (F := F)) Variants.none () Set.univ := fun t => by
  rw [bigSep_W0, bigSep_W0, defs₀_row]
  exact triple_restated (sound_body m hm c t) rfl .rfl fun _ => .rfl

/-! ## The run and the frame -/

set_option backward.isDefEq.respectTransparency.types false in
/-- The whole run, every semaphore at zero at its end. -/
theorem run_main_quiescent : θ_run defs (onTc (τ := τ) (main (F := F))) (s₀ m ρ) (fun r => (Pipeline.FramePost cfgs (dats m hm) 0 (V m)) r ∧ r.2.sem = fun _ => 0) :=
  Pipeline.θ_run_frame_dma (Q' := _) cfgs (dats m hm) (0 : Fin 1) launch0 osem0 defs₀ Variants.none ownSemFacts0 H0 H0_sub m ρ main
    (hbody := fun c => (body_obligation m hm c).loose) (hshare := fun c => (dats m hm 0 c).share_full fun _ => rfl)
    (howed := fun _ _ => rfl) (V := V m) (hmain := hmain m Variants.none) (hA := A_eq m hm)
    (hin := fun _ => .rfl) (hout := fun _ => .rfl)

/-- The whole run. -/
theorem run_main : θ_run defs (onTc (τ := τ) (main (F := F))) (s₀ m ρ) (Pipeline.FramePost cfgs (dats m hm) 0 (V m)) :=
  (θ_run defs _ _).mono (fun _ h => h.1) (run_main_quiescent m ρ hm)

include hm in
/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m hm) (A_eq m hm) (run_main m ρ hm)

include hm in
/-- The arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hm) ((θ_run defs _ _).mono (fun _ h => h.2) (run_main_quiescent m ρ hm))

end Cert.CombineIdeal.Hand

end
-- ==== Proof.CombineIdealPre.lean ====
module

public import proofs.«01_k».proof.Defs
public import proofs.«01_k».proof.Proof.CombineIdealFrame
public import Idealize.ShloMosaic.Lib.ReduceAll

@[expose] public section

set_option maxRecDepth 16384

noncomputable section

/-! # Every slot number of every block names a row -/

namespace Cert.CombineIdeal.Hand

open Cert.CombineIdeal.Gen
open Idealize.ShloMosaic Idealize.ShloMosaic.TcCoe Idealize.SL.Sem

variable {F : FTy → Type} [FloatOps F]

/-- A word that is at least 0 and below 101184, both signed, is below 101184 unsigned. -/
theorem word_lt (x : BitVec 32) (h0 : IntOp.cmpi .sge x 0#32 = 1#1) (h1 : IntOp.cmpi .slt x 101184#32 = 1#1) : x.toNat < 101184 := by
  have e0 : (0#32).sle x = true := by
    by_contra hc
    have h := h0
    simp only [IntOp.cmpi] at h
    rw [Bool.eq_false_iff.mpr hc] at h
    exact absurd h (by decide)
  have e1 : x.slt 101184#32 = true := by
    by_contra hc
    have h := h1
    simp only [IntOp.cmpi] at h
    rw [Bool.eq_false_iff.mpr hc] at h
    exact absurd h (by decide)
  simp only [BitVec.sle, BitVec.slt, decide_eq_true_eq, BitVec.toInt, BitVec.toNat_ofNat] at e0 e1
  have := x.isLt
  split_ifs at e0 e1 <;> omega

/-- Two conditions that hold together hold each. -/
theorem both (a b : BitVec 1) (h : IntOp.andi a b = 1#1) : a = 1#1 ∧ b = 1#1 := by
  revert a b; unfold IntOp.andi; decide

/-- The precondition's function, one at its only index, bounds every slot number. -/
theorem slots_lt [Cert.Pre_slots_inside.Facts] (x0 : IVec Cert.Pre_slots_inside.S65536 32) (x1 : FVec F Cert.Pre_slots_inside.S16384x2048 .f32)
    (x2 : FVec F Cert.Pre_slots_inside.S16384x128 .f32) (x3 : FVec F Cert.Pre_slots_inside.S2048 .f32) (x4 : FVec F Cert.Pre_slots_inside.S101184x2048 .f32)
    (h : Cert.Pre_slots_inside.fn (F := F) x0 x1 x2 x3 x4 = fun _ => 1#1) (idx : Cert.Pre_slots_inside.S65536.Idx) : (x0 idx).toNat < 101184 := by
  haveI : Subsingleton Cert.Pre_slots_inside.S_.Idx := ⟨fun a b => funext fun i => i.elim0⟩
  have h' := congrFun h (fun i => i.elim0)
  simp only [Cert.Pre_slots_inside.fn] at h'
  have e := Host.reduce_andi_all _ _ _ _ _ h' idx
  simp only [andi, cmpi, constantI, broadcastInDim] at e
  exact word_lt _ (both _ _ e).1 (both _ _ e).2

/-- Under the precondition every slot number names a row. -/
theorem slots_of_pre [Cert.Pre_slots_inside.Facts] (m : (ℓ : Loc nD τ sig) → Buf (Elt Ideal) ℓ) (h : Cert.Pre_CombineIdeal m) (c : Dev nD) (idx : S65536.Idx) :
    (BitVec.toNat (w := 32) (m ((c : Thread nD τ).loc main_arg0) idx)) < 101184 :=
  slots_lt _ _ _ _ _ (h c) idx

/-- If every slot number names a row, so does every slot number of every block. -/
theorem inside_of (m : (ℓ : Loc nD τ sig) → Buf (Elt F) ℓ) (h : ∀ (c : Dev nD) (idx : S65536.Idx), (BitVec.toNat (w := 32) (m ((c : Thread nD τ).loc main_arg0) idx)) < 101184)
    (c : Dev nD) (t : Fin cfg0.N) : Inside (iblk m c 0 t) := by
  intro n
  have e : V m c main_arg0 = m ((c : Thread nD τ).loc main_arg0) := V_main_arg0 m c
  show (BitVec.toNat (w := 32) (V m c main_arg0 _)) < 101184
  rw [e]
  exact h c _

end Cert.CombineIdeal.Hand

end
-- ==== Proof.CombineRef.lean ====
/- The gathering sum's reference, entry by entry. -/
module

public import proofs.«01_k».proof.Proof.Gen.CombineRefIdeal.Read
public import Idealize.ShloMosaic.Lib.ValueIdx
public import Idealize.ShloMosaic.Lib.Pointwise

@[expose] public section

set_option maxRecDepth 16384

noncomputable section

namespace Cert.CombineIdeal.Norm

open Cert.CombineRefIdeal Cert.CombineRefIdeal.Gen Cert.CombineRefIdeal.Read Idealize.ShloMosaic Idealize.ShloMosaic.TcCoe Idealize.SL.Sem

/-- The dimension numbers of picking rows of a matrix by a table of numbers. -/
abbrev takeDims (wf : GatherDims.WF ⟨2, ![101184, 2048]⟩ ⟨3, ![16384, 4, 1]⟩ ⟨3, ![16384, 4, 2048]⟩ [2] [0] [] [0] [] 2 ![1, 2048]) :
    GatherDims ⟨2, ![101184, 2048]⟩ ⟨3, ![16384, 4, 1]⟩ ⟨3, ![16384, 4, 2048]⟩ where
  offsetDims := [2]
  collapsedSliceDims := [0]
  operandBatchingDims := []
  startIndicesBatchingDims := []
  startIndexMap := [0]
  indexVectorDim := 2
  sliceSizes := ![1, 2048]
  wf := wf

/-- A number below the number of rows is not negative read signed. -/
theorem signed (w : BitVec 32) (h : w.toNat < 101184) : w.toInt = (w.toNat : ℤ) := by
  rw [BitVec.toInt]; split_ifs <;> omega

/-- A number below the number of rows is not below zero. -/
theorem not_neg (w : BitVec 32) (h : w.toNat < 101184) : IntOp.cmpi .slt w 0#32 = 0#1 := by
  have : w.slt 0#32 = false := by
    rw [BitVec.slt]
    refine decide_eq_false ?_
    rw [signed w h]
    simp
  simp only [IntOp.cmpi, this]; rfl

/-- A row picked from a matrix. -/
theorem take_at {α : Type} (wf : GatherDims.WF ⟨2, ![101184, 2048]⟩ ⟨3, ![16384, 4, 1]⟩ ⟨3, ![16384, 4, 2048]⟩ [2] [0] [] [0] [] 2 ![1, 2048])
    (x : (⟨2, ![101184, 2048]⟩ : Shape).Idx → α) (idx : IVec ⟨3, ![16384, 4, 1]⟩ 32) (i : Fin 16384) (j : Fin 4) (p : Fin 2048) (e : Fin 101184)
    (h : (idx (ix3 i j 0)).toNat = e.val) :
    Host.gather (takeDims wf) x idx (ix3 i j p) = x (ix2 e p) := by
  unfold Host.gather
  congr 1
  funext a
  refine Fin.ext ?_
  show (takeDims wf).start (ix3 i j p) idx a + (takeDims wf).batchCoord (ix3 i j p) a + (takeDims wf).offCoord (ix3 i j p) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    refine (dif_pos (show (0 : Fin 2) ∈ (takeDims wf).startIndexMap from List.mem_singleton.mpr rfl)).trans ?_
    have hsi : (takeDims wf).siIdx (ix3 i j p) ⟨List.idxOf (0 : Fin 2) (takeDims wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    have hb : min (idx (ix3 i j 0)).toInt.toNat 101183 = e.val := by
      have := e.isLt
      rw [signed _ (h ▸ e.isLt)]
      omega
    exact (congrArg (fun z => min (idx z).toInt.toNat 101183) hsi).trans hb
  | ⟨1, _⟩ =>
    have h0 : (takeDims wf).start (ix3 i j p) idx (1 : Fin 2) = 0 := dif_neg (fun h => (by decide : ¬((1 : Fin 2) = 0)) (List.mem_singleton.mp h))
    show (takeDims wf).start (ix3 i j p) idx (1 : Fin 2) + 0 + p.val = p.val
    rw [h0]
    omega

variable (s : Vec Ideal S65536 .i32) (x : Vec Ideal S16384x2048 .f32) (g : Vec Ideal S16384x128 .f32) (n : Vec Ideal S2048 .f32) (y : Vec Ideal S101184x2048 .f32)

/-- The row a token's choice is at, among the sorted rows. -/
def slot (s : Vec Ideal S65536 .i32) (i : Fin 16384) (j : Fin 4) : BitVec 32 := s (ix1 ⟨i.val * 4 + j.val, by omega⟩)

/-- The number of that row. -/
def pick (s : Vec Ideal S65536 .i32) (i : Fin 16384) (j : Fin 4) : Fin 101184 := ⟨(slot s i j).toNat % 101184, Nat.mod_lt _ (by decide)⟩

/-- One entry of the sum: the residual, and the rows of a token's four choices, each times its weight. -/
def total (i : Fin 16384) (k : Fin 2048) : EReal :=
  x (ix2 i k) + ∑ j : Fin 4, g (ix2 i ⟨8 + j.val, by omega⟩) * y (ix2 (pick s i j) k)

/-- The reciprocal root mean square of a row whose entries are `x`. -/
def scale (x : Fin 2048 → EReal) : EReal :=
  Ideal.rsqrt (Ideal.div (∑ k : Fin 2048, x k * x k) (Ideal.ofBits .f32 0x45000000#32) + Ideal.ofBits .f32 0x3727C5AC#32)

/-- The numbers the reference picks rows by are the slots given. -/
theorem picks (i : Fin 16384) (j : Fin 4) (h : (slot s i j).toNat < 101184) : val_main_v7 (F := Ideal) s (ix3 i j 0) = slot s i j := by
  have e7 : idx_main_v7 (ix3 i j 0) = ix2 i j := funext fun a => match a with
    | ⟨0, _⟩ => rfl
    | ⟨1, _⟩ => rfl
  have e1 : val_main_v1 (F := Ideal) s (ix2 i j) = slot s i j := by
    rw [val_main_v1_apply]
    exact congrArg s (funext fun a => by obtain rfl : a = 0 := Subsingleton.elim (α := Fin 1) _ _; rfl)
  rw [val_main_v7_apply, e7, val_main_v6_apply, val_main_v3_apply, val_main_v2_apply, val_main_c_apply, e1, not_neg _ h]; rfl

/-- The rows the reference picks. -/
theorem ref8_at (i : Fin 16384) (j : Fin 4) (k : Fin 2048) (h : (slot s i j).toNat < 101184) :
    val_main_v8 (F := Ideal) s y (ix3 i j k) = y (ix2 (pick s i j) k) :=
  take_at gather_S101184x2048_S16384x4x1_S16384x4x2048_2_0_n_n_0_2_12048.wf y (val_main_v7 (F := Ideal) s) i j k (pick s i j)
    (by rw [picks s i j h]; exact (Nat.mod_eq_of_lt h).symm)

/-- The weights of a token's choices. -/
theorem ref10_at (i : Fin 16384) (j : Fin 4) (k : Fin 2048) : val_main_v10 (F := Ideal) g (ix3 i j k) = g (ix2 i ⟨8 + j.val, by omega⟩) := by
  rw [val_main_v10_apply, val_main_v9_apply, val_main_v0_apply]
  exact congrArg g (funext fun a => match a with
    | ⟨0, _⟩ => rfl
    | ⟨1, _⟩ => rfl)

/-- The reference's sum at one entry. -/
theorem ref13_at (i : Fin 16384) (k : Fin 2048) (h : ∀ j, (slot s i j).toNat < 101184) : val_main_v13 (F := Ideal) s x g y (ix2 i k) = total s x g y i k := by
  have e : ∀ j : Fin 4, val_main_v11 (F := Ideal) s g y (idx_main_v12 (ix2 i k) j) = g (ix2 i ⟨8 + j.val, by omega⟩) * y (ix2 (pick s i j) k) := fun j => by
    rw [show idx_main_v12 (ix2 i k) j = ix3 i j k from funext fun a => match a with
      | ⟨0, _⟩ => rfl
      | ⟨1, _⟩ => rfl
      | ⟨2, _⟩ => rfl, val_main_v11_apply, ref8_at s y i j k (h j), ref10_at]
    exact mul_comm _ _
  have e12 : val_main_v12 (F := Ideal) s g y (ix2 i k) = ∑ j : Fin 4, g (ix2 i ⟨8 + j.val, by omega⟩) * y (ix2 (pick s i j) k) := by
    rw [val_main_v12_apply, val_main_cst_apply]
    refine (congrArg₂ (· + ·) (Ideal.ofBits_zero_f32) (Finset.sum_congr rfl fun j _ => e j)).trans ?_
    exact zero_add _
  rw [val_main_v13_apply, e12]; rfl

/-- The reference's result at one entry. -/
theorem ref26_at (i : Fin 16384) (k : Fin 2048) (h : ∀ j, (slot s i j).toNat < 101184) :
    val_main_v26 (F := Ideal) s x g n y (ix2 i k) = total s x g y i k * scale (fun l => total s x g y i l) * n (ix1 k) := by
  simp only [← ref13_at s x g y i _ h]
  simp only [val_main_v26, val_main_v25, val_main_v24, val_main_v23, val_main_v22, val_main_v21, val_main_v20, val_main_v19, val_main_v18, val_main_v17,
    val_main_v16, val_main_v15, val_main_v14, val_main_cst_1, val_main_cst_2, val_main_cst_3]
  generalize val_main_v13 (F := Ideal) s x g y = z
  pointwise [scale]

end Cert.CombineIdeal.Norm
end
-- ==== Proof.CombineValue.lean ====
/- The value of the gathering sum: what the pipelined kernel leaves in its array is the reference's term, index by index. -/
module

public import proofs.«01_k».proof.Proof.CombineIdealFrame
public import proofs.«01_k».proof.Proof.CombineRef
public import Idealize.ShloMosaic.Lib.Pipeline.Value
public import Idealize.ShloMosaic.Lib.Pipeline.ValueKit
public import Idealize.ShloMosaic.Lib.Pointwise

@[expose] public section

set_option maxRecDepth 16384

noncomputable section

namespace Cert.CombineIdeal.Norm

open Cert.CombineIdeal Cert.CombineIdeal.Gen Cert.CombineIdeal.Hand Idealize.ShloMosaic Idealize.ShloMosaic.TcCoe Idealize.SL.Sem
open Idealize.ShloMosaic.Pipeline (Dat)

variable (m : (ℓ : Loc nD τ sig) → Buf (Elt Ideal) ℓ) (ρ : Dev nD → PrngReg)
variable (hm : ∀ (c : Dev nD) (t : Fin cfg0.N), Inside (iblk m c 0 t))

/-- The blocks' places over the grid. -/
theorem idx : ∀ t : Fin cfg0.N, win0_0.index t = ![t.val] ∧ win0_1.index t = ![t.val, 0] ∧ win0_2.index t = ![t.val, 0]
    ∧ win0_3.index t = ![0, 0] ∧ win0_4.index t = ![t.val, 0] :=
  (by decide +kernel : ∀ t : Fin grid0.N, _)

/-- The stored sum at one entry. -/
theorem pay2_at (g : Vec Ideal S128x128 .f32) (x : Vec Ideal S128x2048 .f32) (b0 b1 b2 b3 : Vec Ideal S1x128x2048 .f32) (r : Fin 128) (k : Fin 2048) :
    k0_pay2 (F := Ideal) g x b0 b1 b2 b3 (ix2 r k) = x (ix2 r k) + g (ix2 r 8) * b0 (ix3 0 r k) + g (ix2 r 9) * b1 (ix3 0 r k)
      + g (ix2 r 10) * b2 (ix3 0 r k) + g (ix2 r 11) * b3 (ix3 0 r k) := by
  pointwise [k0_pay2]

/-- The stored norm at one entry. -/
theorem pay1_at (g : Vec Ideal S128x128 .f32) (x : Vec Ideal S128x2048 .f32) (b0 b1 b2 b3 : Vec Ideal S1x128x2048 .f32) (n : Vec Ideal S1x2048 .f32) (r : Fin 128) (k : Fin 2048) :
    k0_pay1 (F := Ideal) (k0_pay2 g x b0 b1 b2 b3) (k0_pay3 g x b0 b1 b2 b3) (Scalar.ofBits .f32 0x45000000#32) n (ix2 r k)
      = k0_pay2 (F := Ideal) g x b0 b1 b2 b3 (ix2 r k) * scale (fun l => k0_pay2 (F := Ideal) g x b0 b1 b2 b3 (ix2 r l)) * n (ix2 0 k) := by
  simp only [k0_pay1, k0_pay3]
  generalize k0_pay2 (F := Ideal) g x b0 b1 b2 b3 = y
  pointwise [scale]

/-- The region finds the gain as one row. -/
theorem V_n (c : Dev nD) : V m c main_v0 = shapeCast S1x2048 (m ((c : Thread nD τ).loc main_arg3)) shapeCasts_S2048_S1x2048 := by
  unfold V
  simp only [hostOps0, List.flatten_cons, List.flatten_nil, List.append_nil, List.cons_append, List.nil_append]
  after_results <;> rfl

/-- Entries of the gain as one row. -/
theorem row_at (n : Vec Ideal S2048 .f32) (k : Fin 2048) : shapeCast S1x2048 n shapeCasts_S2048_S1x2048 (ix2 0 k) = n (ix1 k) := by
  pointwise []

/-- A slot number of the block. -/
theorem s_at (c : Dev nD) (t : Fin cfg0.N) (l : Fin 512) (q : Fin 65536) (hq : q.val = t.val * 512 + l.val)
    (s : Vec Ideal S65536 .i32) (hs : m ((c : Thread nD τ).loc main_arg0) = s) : iblk m c 0 t (ix1 l) = s (ix1 q) := by
  rw [← hs, ← V_main_arg0 m c]
  show V m c main_arg0 (((cfg0.win 0).blk t).view.emb (ix1 l)) = V m c main_arg0 _
  congr 1
  blk_ext [idx t]

/-- A row of the residual's block. -/
theorem x_at (c : Dev nD) (t : Fin cfg0.N) (r : Fin 128) (k : Fin 2048) (q : Fin 16384) (hq : q.val = t.val * 128 + r.val)
    (x : Vec Ideal S16384x2048 .f32) (hx : m ((c : Thread nD τ).loc main_arg1) = x) : iblk m c 1 t (ix2 r k) = x (ix2 q k) := by
  rw [← hx, ← V_main_arg1 m c]
  show V m c main_arg1 (((cfg0.win 1).blk t).view.emb (ix2 r k)) = V m c main_arg1 _
  congr 1
  blk_ext [idx t]

/-- A row of the routing's block. -/
theorem w_at (c : Dev nD) (t : Fin cfg0.N) (r k : Fin 128) (q : Fin 16384) (hq : q.val = t.val * 128 + r.val)
    (g : Vec Ideal S16384x128 .f32) (hg : m ((c : Thread nD τ).loc main_arg2) = g) : iblk m c 2 t (ix2 r k) = g (ix2 q k) := by
  rw [← hg, ← V_main_arg2 m c]
  show V m c main_arg2 (((cfg0.win 2).blk t).view.emb (ix2 r k)) = V m c main_arg2 _
  congr 1
  blk_ext [idx t]

/-- The gain's block is the gain. -/
theorem n_at (c : Dev nD) (t : Fin cfg0.N) (k : Fin 2048) (n : Vec Ideal S2048 .f32) (hn : m ((c : Thread nD τ).loc main_arg3) = n) :
    iblk m c 3 t (ix2 0 k) = n (ix1 k) := by
  rw [← row_at n k, ← hn, ← V_n]
  show V m c main_v0 (((cfg0.win 3).blk t).view.emb (ix2 0 k)) = V m c main_v0 _
  congr 1
  blk_ext [idx t]

/-- An entry of the gathered rows is an entry of the row that the token's choice is at. -/
theorem gath_at (c : Dev nD) (t : Fin cfg0.N) (j : Fin 4) (r : Fin 128) (k : Fin 2048) (q : Fin 16384) (hq : q.val = t.val * 128 + r.val)
    (s : Vec Ideal S65536 .i32) (hs : m ((c : Thread nD τ).loc main_arg0) = s) (y : Vec Ideal S101184x2048 .f32) (hy : m ((c : Thread nD τ).loc main_arg4) = y) :
    gath (iblk m c 0 t) (V m c main_arg4) (ix3 j r k) = y (ix2 (pick s q j) k) := by
  have e : wd (iblk m c 0 t) ⟨4 * r.val + j.val, by omega⟩ = slot s q j :=
    s_at m c t ⟨4 * r.val + j.val, by omega⟩ ⟨q.val * 4 + j.val, by omega⟩ (by show q.val * 4 + j.val = t.val * 512 + (4 * r.val + j.val); omega) s hs
  rw [← hy, ← V_main_arg4 m c]
  have ep : pick s q j = ⟨(wd (iblk m c 0 t) ⟨4 * r.val + j.val, by omega⟩).toNat % 101184, Nat.mod_lt _ (by decide)⟩ := by
    unfold pick
    exact Fin.ext (congrArg (fun z : BitVec 32 => z.toNat % 101184) e.symm)
  rw [ep]
  rfl

/-- The rows the body loads of one choice of the scratch array. -/
theorem slab (f : Vec Ideal S4x128x2048 .f32) (o : ℕ) (j : Fin 4) (ho : o = j.val) (hb) (r : Fin 128) (k : Fin 2048) :
    View.ld (View.read (Elt Ideal) (View.whole cc0_scratch0) f) (Rect.unit (s := S4x128x2048) ![o, 0, 0] ![1, 128, 2048] hb) (ix3 0 r k) = f (ix3 j r k) := by
  subst ho
  show f ((Rect.unit (s := S4x128x2048) ![j.val, 0, 0] ![1, 128, 2048] hb).idx (ix3 0 r k)) = _
  exact congrArg f (funext fun a => Fin.ext (match a with
    | ⟨0, _⟩ => by show j.val + 1 * 0 = j.val; omega
    | ⟨1, _⟩ => by show 0 + 1 * r.val = r.val; omega
    | ⟨2, _⟩ => by show 0 + 1 * k.val = k.val; omega))

/-- One entry of the sum a point forms. -/
theorem block_at (c : Dev nD) (t : Fin cfg0.N) (r : Fin 128) (k : Fin 2048) (q : Fin 16384) (hq : q.val = t.val * 128 + r.val) (b0 b1 b2 b3 : Vec Ideal S1x128x2048 .f32)
    (h0 : ∀ k, b0 (ix3 0 r k) = gath (iblk m c 0 t) (V m c main_arg4) (ix3 0 r k)) (h1 : ∀ k, b1 (ix3 0 r k) = gath (iblk m c 0 t) (V m c main_arg4) (ix3 1 r k))
    (h2 : ∀ k, b2 (ix3 0 r k) = gath (iblk m c 0 t) (V m c main_arg4) (ix3 2 r k)) (h3 : ∀ k, b3 (ix3 0 r k) = gath (iblk m c 0 t) (V m c main_arg4) (ix3 3 r k)) :
    k0_pay2 (F := Ideal) (iblk m c 2 t) (iblk m c 1 t) b0 b1 b2 b3 (ix2 r k)
      = total (m ((c : Thread nD τ).loc main_arg0)) (m ((c : Thread nD τ).loc main_arg1)) (m ((c : Thread nD τ).loc main_arg2)) (m ((c : Thread nD τ).loc main_arg4)) q k := by
  refine (pay2_at _ _ _ _ _ _ r k).trans ?_
  rw [h0, h1, h2, h3, x_at m c t r k q hq _ rfl, w_at m c t r 8 q hq _ rfl, w_at m c t r 9 q hq _ rfl, w_at m c t r 10 q hq _ rfl, w_at m c t r 11 q hq _ rfl,
    gath_at m c t 0 r k q hq _ rfl _ rfl, gath_at m c t 1 r k q hq _ rfl _ rfl, gath_at m c t 2 r k q hq _ rfl _ rfl, gath_at m c t 3 r k q hq _ rfl _ rfl]
  unfold total
  rw [Fin.sum_univ_four]
  simp only [add_assoc]
  rfl

/-- What the pipelined kernel leaves in its array is the reference's term. -/
theorem final4 (c : Dev nD) (h : ∀ i j, (slot (m ((c : Thread nD τ).loc main_arg0)) i j).toNat < 101184) :
    (dats m hm 0 c).arrAt 4 cfg0.N = Cert.CombineRefIdeal.Read.val_main_v26 (F := Ideal)
      (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m hm 0 c).arrAt_eq_of_covers 4 _ (by decide +kernel) fun t hf y => ?_
  have ht : t.val < 128 := lt_of_lt_of_eq t.isLt N_0
  blk_simp
  rw [after0_4]
  unfold outsAt0 out0_A_4
  frame_out
  idx_vars y
  rw [show (win0_4.blk t).view.emb (ix2 y0 y1) = (ix2 ⟨t.val * 128 + y0.val, by omega⟩ y1 : S16384x2048.Idx) by
    blk_ext [idx t]]
  rw [ref26_at _ _ _ _ _ _ _ (h _)]
  refine (pay1_at _ _ _ _ _ _ _ y0 y1).trans ?_
  rw [n_at m c t y1 _ rfl]
  have e := fun k => block_at m c t y0 k ⟨t.val * 128 + y0.val, by omega⟩ rfl _ _ _ _
    (fun k => slab (gath (iblk m c 0 t) (V m c main_arg4)) 0 0 rfl inb_S4x128x2048_S1x128x2048_0_0_0 y0 k)
    (fun k => slab (gath (iblk m c 0 t) (V m c main_arg4)) 1 1 rfl inb_S4x128x2048_S1x128x2048_1_0_0 y0 k)
    (fun k => slab (gath (iblk m c 0 t) (V m c main_arg4)) 2 2 rfl inb_S4x128x2048_S1x128x2048_2_0_0 y0 k)
    (fun k => slab (gath (iblk m c 0 t) (V m c main_arg4)) 3 3 rfl inb_S4x128x2048_S1x128x2048_3_0_0 y0 k)
  exact congrArg₂ (· * ·) (congrArg₂ (· * ·) (e y1) (congrArg scale (funext e))) rfl

/-- After the run the output's array is the pipeline's. -/
theorem post4 (r : PUnit × MemSt nD τ sig (Elt Ideal)) (h : Pipeline.FramePost cfgs (dats m hm) 0 (V m) r) (c : Dev nD) :
    r.2.mem ((c : Thread nD τ).loc main_v1) = (dats m hm 0 c).arrAt 4 cfg0.N :=
  (h c).1 4

/-- After the run the slots are as launched. -/
theorem kept0 (r : PUnit × MemSt nD τ sig (Elt Ideal)) (h : Pipeline.FramePost cfgs (dats m hm) 0 (V m) r) (c : Dev nD) :
    r.2.mem ((c : Thread nD τ).loc main_arg0) = m ((c : Thread nD τ).loc main_arg0) :=
  ((h c).1 0).trans (((dats m hm 0 c).arrAt_in 0 rfl _).trans ((A_eq m hm c 0).trans (V_main_arg0 m c)))

/-- After the run the residual is as launched. -/
theorem kept1 (r : PUnit × MemSt nD τ sig (Elt Ideal)) (h : Pipeline.FramePost cfgs (dats m hm) 0 (V m) r) (c : Dev nD) :
    r.2.mem ((c : Thread nD τ).loc main_arg1) = m ((c : Thread nD τ).loc main_arg1) :=
  ((h c).1 1).trans (((dats m hm 0 c).arrAt_in 1 rfl _).trans ((A_eq m hm c 1).trans (V_main_arg1 m c)))

/-- After the run the routing is as launched. -/
theorem kept2 (r : PUnit × MemSt nD τ sig (Elt Ideal)) (h : Pipeline.FramePost cfgs (dats m hm) 0 (V m) r) (c : Dev nD) :
    r.2.mem ((c : Thread nD τ).loc main_arg2) = m ((c : Thread nD τ).loc main_arg2) :=
  ((h c).1 2).trans (((dats m hm 0 c).arrAt_in 2 rfl _).trans ((A_eq m hm c 2).trans (V_main_arg2 m c)))

/-- After the run the gain is as launched. -/
theorem kept3 (r : PUnit × MemSt nD τ sig (Elt Ideal)) (h : Pipeline.FramePost cfgs (dats m hm) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the run the sorted rows are as launched. -/
theorem kept4 (r : PUnit × MemSt nD τ sig (Elt Ideal)) (h : Pipeline.FramePost cfgs (dats m hm) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its output's array named and its arguments unchanged. -/
theorem run_blocks : θ_run defs (onTc (τ := τ) (main (F := Ideal))) ⟨m, fun _ => 0, ρ⟩ fun r => ∀ c : Dev nD,
      r.2.mem ((c : Thread nD τ).loc main_v1) = (dats m hm 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post4 m hm r h c, kept0 m hm r h c, kept1 m hm r h c, kept2 m hm r h c, kept3 m hm r h c, kept4 m hm r h c⟩)
    (run_main m ρ hm)

end Cert.CombineIdeal.Norm
end
-- ==== Proof.CombineClaims.lean ====
module

public import proofs.«01_k».proof.Defs
public import proofs.«01_k».proof.Proof.CombinePre
public import proofs.«01_k».proof.Proof.CombineIdealPre
public import proofs.«01_k».proof.Proof.CombineValue
public import proofs.«01_k».proof.Proof.Gen.CombineRefIdeal.Run
public import proofs.«01_k».proof.Proof.Gen.CombineRefIdeal.Read
public import proofs.«01_k».proof.Proof.Gen.Pre_slots_inside
public import Idealize.ShloMosaic.Adequacy
public import Idealize.ShloMosaic.Init
public import Idealize.ShloMosaic.Lib.Claim

@[expose] public section

set_option maxRecDepth 16384

noncomputable section

/-! # The gathering sum's claims -/

namespace Cert.CombineClaims

open Idealize.ShloMosaic Idealize.SL.Sem

/-- If every slot number names a row, the kernel as written runs, and leaves its arguments and every counter as they were. -/
theorem frame_p : Cert.quiescent_Combine := fun m ρ h =>
  Cert.Combine.Hand.frame m ρ (Cert.Combine.Hand.inside_of m (Cert.Combine.Hand.slots_of_pre m h))

/-- If every slot number names a row, the kernel over the extended reals runs, and leaves its arguments and every counter as they were. -/
theorem frame_pi : Cert.quiescent_CombineIdeal := fun m ρ h =>
  Cert.CombineIdeal.Hand.frame m ρ (Cert.CombineIdeal.Hand.inside_of m (Cert.CombineIdeal.Hand.slots_of_pre m h))

/-- The reference runs, and leaves its arguments and every counter as they were. -/
theorem frame_ri : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- The reference does so under the precondition too. -/
theorem frame_ri_pre : Cert.quiescent_CombineRefIdeal_pre_slots_inside := fun m ρ _ => frame_ri m ρ trivial

/-- Over the extended reals the kernel and the reference end with the same result, if every slot number names a row. -/
theorem algebraic : Cert.algebraic_CombineIdeal_CombineRefIdeal := by
  intro m g m' g' hpre hagree
  have hs := Cert.CombineIdeal.Hand.slots_of_pre m hpre
  have hm := Cert.CombineIdeal.Hand.inside_of m hs
  refine ⟨fun c => (Cert.CombineIdeal.Hand.dats m hm 0 c).arrAt 4 Cert.CombineIdeal.cfg0.N, ?_, ?_⟩
  · exact Cert.CombineIdeal.Norm.run_blocks m g hm
  · refine (θ_run Cert.CombineRefIdeal.defs _ _).mono (fun r h c => ?_) (Cert.CombineRefIdeal.Value.run (F := Ideal) m' g')
    obtain ⟨h0, h1, h2, h3, h4⟩ := hagree c
    refine ⟨(h c).1.trans ?_, (h c).2⟩
    rw [Cert.CombineRefIdeal.Read.val_main_v26_eq, h0, h1, h2, h3, h4]
    exact (Cert.CombineIdeal.Norm.final4 m hm c (fun i j => hs c _)).symm

end Cert.CombineClaims
end
-- ==== Proof.lean ====
module

public import proofs.«01_k».proof.Proof.Gen.Experts
public import proofs.«01_k».proof.Proof.Gen.ExpertsIdeal
public import proofs.«01_k».proof.Proof.Gen.ExpertsRefIdeal
public import proofs.«01_k».proof.Proof.Gen.Pre_expert_numbers
public import proofs.«01_k».proof.Proof.Gen.On_rows_used
public import proofs.«01_k».proof.Proof.Gen.Experts.Skeleton
public import proofs.«01_k».proof.Proof.Gen.ExpertsIdeal.Skeleton
public import proofs.«01_k».proof.Proof.Gen.Experts.Launch
public import proofs.«01_k».proof.Proof.Gen.ExpertsIdeal.Launch
public import proofs.«01_k».proof.Proof.Gen.ExpertsRefIdeal.Read
public import proofs.«01_k».proof.Proof.Gen.OutProj
public import proofs.«01_k».proof.Proof.Gen.OutProjIdeal
public import proofs.«01_k».proof.Proof.Gen.OutProjRefIdeal
public import proofs.«01_k».proof.Proof.Gen.OutProj.Frame
public import proofs.«01_k».proof.Proof.Gen.OutProjIdeal.Value
public import proofs.«01_k».proof.Proof.Gen.OutProjRefIdeal.Read
public import proofs.«01_k».proof.Proof.Gen.Combine
public import proofs.«01_k».proof.Proof.Gen.CombineIdeal
public import proofs.«01_k».proof.Proof.Gen.CombineRefIdeal
public import proofs.«01_k».proof.Proof.Gen.Pre_slots_inside
public import proofs.«01_k».proof.Proof.Gen.Combine.Skeleton
public import proofs.«01_k».proof.Proof.Gen.Combine.Launch
public import proofs.«01_k».proof.Proof.Gen.Combine.Points
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineRefIdeal.Read
public import proofs.«01_k».proof.Defs
public import proofs.«01_k».proof.Proof.HgrnClaims
public import proofs.«01_k».proof.Proof.InProjClaims
public import proofs.«01_k».proof.Proof.InProjSClaims
public import proofs.«01_k».proof.Proof.ExpertsClaims
public import proofs.«01_k».proof.Proof.OutProjClaims
public import proofs.«01_k».proof.Proof.CombineClaims
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Hgrn.Gen.facts, Cert.HgrnIdeal.Gen.facts, Cert.HgrnRefIdeal.Gen.facts, Cert.InProj.Gen.facts,
  Cert.InProjIdeal.Gen.facts, Cert.InProjRefIdeal.Gen.facts, Cert.InProjS.Gen.facts, Cert.InProjSIdeal.Gen.facts,
  Cert.InProjSRefIdeal.Gen.facts, Cert.Experts.Gen.facts, Cert.ExpertsIdeal.Gen.facts, Cert.ExpertsRefIdeal.Gen.facts,
  Cert.OutProj.Gen.facts, Cert.OutProjIdeal.Gen.facts, Cert.OutProjRefIdeal.Gen.facts,
  Cert.Combine.Gen.facts, Cert.CombineIdeal.Gen.facts, Cert.CombineRefIdeal.Gen.facts,
  Cert.Pre_bounds_finite.Gen.facts, Cert.Pre_expert_numbers.Gen.facts, Cert.Pre_slots_inside.Gen.facts, Cert.On_rows_used.Gen.facts,
  HgrnClaims.frame_p, HgrnClaims.frame_pi, HgrnClaims.frame_pi_pre, HgrnClaims.frame_ri, HgrnClaims.frame_ri_pre,
  InProjClaims.frame_p, InProjClaims.frame_pi, InProjClaims.frame_ri,
  InProjSClaims.frame_p, InProjSClaims.frame_pi, InProjSClaims.frame_ri,
  ExpertsClaims.frame_p, ExpertsClaims.frame_pi, ExpertsClaims.frame_ri, ExpertsClaims.frame_ri_pre,
  OutProjClaims.frame_p, OutProjClaims.frame_pi, OutProjClaims.frame_ri,
  CombineClaims.frame_p, CombineClaims.frame_pi, CombineClaims.frame_ri, CombineClaims.frame_ri_pre,
  trivial, HgrnClaims.algebraic, trivial, InProjClaims.algebraic, trivial, InProjSClaims.algebraic,
  trivial, ExpertsClaims.algebraic, trivial, OutProjClaims.algebraic,
  trivial, CombineClaims.algebraic⟩

end Cert.Proof

end
